-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6)
      ∧ r.2.mem ((c.tc : Thread Cert.Mlstm.nD Cert.Mlstm.τ).loc Cert.Mlstm.main_arg7) = m ((c.tc : Thread Cert.Mlstm.nD Cert.Mlstm.τ).loc Cert.Mlstm.main_arg7)
      ∧ r.2.mem ((c.tc : Thread Cert.Mlstm.nD Cert.Mlstm.τ).loc Cert.Mlstm.main_arg8) = m ((c.tc : Thread Cert.Mlstm.nD Cert.Mlstm.τ).loc Cert.Mlstm.main_arg8))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
      ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6)
      ∧ r.2.mem ((c.tc : Thread Cert.MlstmRefIdeal.nD Cert.MlstmRefIdeal.τ).loc Cert.MlstmRefIdeal.main_arg7) = m ((c.tc : Thread Cert.MlstmRefIdeal.nD Cert.MlstmRefIdeal.τ).loc Cert.MlstmRefIdeal.main_arg7)
      ∧ r.2.mem ((c.tc : Thread Cert.MlstmRefIdeal.nD Cert.MlstmRefIdeal.τ).loc Cert.MlstmRefIdeal.main_arg8) = m ((c.tc : Thread Cert.MlstmRefIdeal.nD Cert.MlstmRefIdeal.τ).loc Cert.MlstmRefIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v34) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v12_0)) (v1 : (c : Dev Cert.InprojIdeal.nD) → Buf (Elt Ideal) ((c.tc : Thread Cert.InprojIdeal.nD Cert.InprojIdeal.τ).loc Cert.InprojIdeal.main_v12_1)) (v2 : (c : Dev Cert.InprojIdeal.nD) → Buf (Elt Ideal) ((c.tc : Thread Cert.InprojIdeal.nD Cert.InprojIdeal.τ).loc Cert.InprojIdeal.main_v12_2)) (v3 : (c : Dev Cert.InprojIdeal.nD) → Buf (Elt Ideal) ((c.tc : Thread Cert.InprojIdeal.nD Cert.InprojIdeal.τ).loc Cert.InprojIdeal.main_v12_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v12_0) = v0 c
          ∧ r.2.mem ((c.tc : Thread Cert.InprojIdeal.nD Cert.InprojIdeal.τ).loc Cert.InprojIdeal.main_v12_1) = v1 c
          ∧ r.2.mem ((c.tc : Thread Cert.InprojIdeal.nD Cert.InprojIdeal.τ).loc Cert.InprojIdeal.main_v12_2) = v2 c
          ∧ r.2.mem ((c.tc : Thread Cert.InprojIdeal.nD Cert.InprojIdeal.τ).loc Cert.InprojIdeal.main_v12_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v17) = v0 c
          ∧ r.2.mem ((c.tc : Thread Cert.InprojRefIdeal.nD Cert.InprojRefIdeal.τ).loc Cert.InprojRefIdeal.main_v19) = v1 c
          ∧ r.2.mem ((c.tc : Thread Cert.InprojRefIdeal.nD Cert.InprojRefIdeal.τ).loc Cert.InprojRefIdeal.main_v16) = v2 c
          ∧ r.2.mem ((c.tc : Thread Cert.InprojRefIdeal.nD Cert.InprojRefIdeal.τ).loc Cert.InprojRefIdeal.main_v22) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v6)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v6) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v2) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_Mlstm_MlstmIdeal : Prop :=
  True

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)
      ∧ m' ((c.tc : Thread Cert.MlstmRefIdeal.nD Cert.MlstmRefIdeal.τ).loc Cert.MlstmRefIdeal.main_arg6) = m ((c.tc : Thread Cert.MlstmIdeal.nD Cert.MlstmIdeal.τ).loc Cert.MlstmIdeal.main_arg6)
      ∧ m' ((c.tc : Thread Cert.MlstmRefIdeal.nD Cert.MlstmRefIdeal.τ).loc Cert.MlstmRefIdeal.main_arg7) = m ((c.tc : Thread Cert.MlstmIdeal.nD Cert.MlstmIdeal.τ).loc Cert.MlstmIdeal.main_arg7)
      ∧ m' ((c.tc : Thread Cert.MlstmRefIdeal.nD Cert.MlstmRefIdeal.τ).loc Cert.MlstmRefIdeal.main_arg8) = m ((c.tc : Thread Cert.MlstmIdeal.nD Cert.MlstmIdeal.τ).loc Cert.MlstmIdeal.main_arg8)) →
    ∃ (v0 : (c : Dev Cert.MlstmIdeal.nD) → Buf (Elt Ideal) ((c.tc : Thread Cert.MlstmIdeal.nD Cert.MlstmIdeal.τ).loc Cert.MlstmIdeal.main_v12)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v12) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
          ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
          ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v157) = v0 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5)
          ∧ r.2.mem ((c.tc : Thread Cert.MlstmRefIdeal.nD Cert.MlstmRefIdeal.τ).loc Cert.MlstmRefIdeal.main_arg6) = m' ((c.tc : Thread Cert.MlstmRefIdeal.nD Cert.MlstmRefIdeal.τ).loc Cert.MlstmRefIdeal.main_arg6)
          ∧ r.2.mem ((c.tc : Thread Cert.MlstmRefIdeal.nD Cert.MlstmRefIdeal.τ).loc Cert.MlstmRefIdeal.main_arg7) = m' ((c.tc : Thread Cert.MlstmRefIdeal.nD Cert.MlstmRefIdeal.τ).loc Cert.MlstmRefIdeal.main_arg7)
          ∧ r.2.mem ((c.tc : Thread Cert.MlstmRefIdeal.nD Cert.MlstmRefIdeal.τ).loc Cert.MlstmRefIdeal.main_arg8) = m' ((c.tc : Thread Cert.MlstmRefIdeal.nD Cert.MlstmRefIdeal.τ).loc Cert.MlstmRefIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hMlstm : Cert.Mlstm.Facts) (hMlstmIdeal : Cert.MlstmIdeal.Facts) (hMlstmRefIdeal : Cert.MlstmRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Mlstm (hMlstm := hMlstm)
    ∧ quiescent_MlstmIdeal (hMlstmIdeal := hMlstmIdeal)
    ∧ quiescent_MlstmRefIdeal (hMlstmRefIdeal := hMlstmRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Mlstm_MlstmIdeal
    ∧ algebraic_MlstmIdeal_MlstmRefIdeal (hMlstmIdeal := hMlstmIdeal) (hMlstmRefIdeal := hMlstmRefIdeal)
-- ==== Kernel.lean ====
abbrev S2x16384x2304 : Shape := ⟨3, ![2, 16384, 2304]⟩
abbrev S2x16384x128 : Shape := ⟨3, ![2, 16384, 128]⟩
abbrev S4x1280 : Shape := ⟨2, ![4, 1280]⟩
abbrev S1280 : Shape := ⟨1, ![1280]⟩
abbrev S16 : Shape := ⟨1, ![16]⟩
abbrev S1024 : Shape := ⟨1, ![1024]⟩
abbrev S_ : Shape := ⟨0, ![]⟩
abbrev S128x128 : Shape := ⟨2, ![128, 128]⟩
abbrev S1x1280 : Shape := ⟨2, ![1, 1280]⟩
abbrev S1x128 : Shape := ⟨2, ![1, 128]⟩
abbrev S1 : Shape := ⟨1, ![1]⟩
abbrev S2 : Shape := ⟨1, ![2]⟩
abbrev S16x64 : Shape := ⟨2, ![16, 64]⟩
abbrev S1x1024 : Shape := ⟨2, ![1, 1024]⟩
abbrev S2x16384x1024 : Shape := ⟨3, ![2, 16384, 1024]⟩
abbrev S1x128x2304 : Shape := ⟨3, ![1, 128, 2304]⟩
abbrev S1x128x128 : Shape := ⟨3, ![1, 128, 128]⟩
abbrev S1x128x1024 : Shape := ⟨3, ![1, 128, 1024]⟩
abbrev S136x1280 : Shape := ⟨2, ![136, 1280]⟩
abbrev S2x64x512 : Shape := ⟨3, ![2, 64, 512]⟩
abbrev S128x1024 : Shape := ⟨2, ![128, 1024]⟩
abbrev S1x128x1280 : Shape := ⟨3, ![1, 128, 1280]⟩
abbrev S128x1280 : Shape := ⟨2, ![128, 1280]⟩
abbrev S8x1280 : Shape := ⟨2, ![8, 1280]⟩
abbrev S128x64 : Shape := ⟨2, ![128, 64]⟩
abbrev S1x64x512 : Shape := ⟨3, ![1, 64, 512]⟩
abbrev S64x512 : Shape := ⟨2, ![64, 512]⟩
abbrev S128x512 : Shape := ⟨2, ![128, 512]⟩
abbrev S128x1 : Shape := ⟨2, ![128, 1]⟩
abbrev S1x64 : Shape := ⟨2, ![1, 64]⟩
abbrev S1x128x64 : Shape := ⟨3, ![1, 128, 64]⟩
abbrev S1x1 : Shape := ⟨2, ![1, 1]⟩
abbrev S1x512 : Shape := ⟨2, ![1, 512]⟩
abbrev S128 : Shape := ⟨1, ![128]⟩
abbrev S1x128x512 : Shape := ⟨3, ![1, 128, 512]⟩

abbrev nBuf : Space → Nat
  | .hbm => 43
  | .vmem => 15
  | .smem => 0
  | _ => 0

abbrev bufTy : (tb : Table) → Fin (tcTables nBuf tb) → BufTy
  | .hbm, ⟨0, _⟩ => ⟨S2x16384x2304, .f32⟩
  | .hbm, ⟨1, _⟩ => ⟨S2x16384x128, .f32⟩
  | .hbm, ⟨2, _⟩ => ⟨S4x1280, .f32⟩
  | .hbm, ⟨3, _⟩ => ⟨S1280, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S_, .f32⟩
  | .hbm, ⟨9, _⟩ => ⟨S128x128, .f32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S1x1280, .f32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S16x64, .f32⟩
  | .hbm, ⟨39, _⟩ => ⟨S1024, .f32⟩
  | .hbm, ⟨40, _⟩ => ⟨S1x1024, .f32⟩
  | .hbm, ⟨41, _⟩ => ⟨S1x1024, .f32⟩
  | .hbm, ⟨42, _⟩ => ⟨S2x16384x1024, .f32⟩
  | .local _ .vmem, ⟨0, _⟩ => ⟨S1x128x2304, .f32⟩
  | .local _ .vmem, ⟨1, _⟩ => ⟨S1x128x2304, .f32⟩
  | .local _ .vmem, ⟨2, _⟩ => ⟨S1x128x128, .f32⟩
  | .local _ .vmem, ⟨3, _⟩ => ⟨S1x128x128, .f32⟩
  | .local _ .vmem, ⟨4, _⟩ => ⟨S4x1280, .f32⟩
  | .local _ .vmem, ⟨5, _⟩ => ⟨S1x1280, .f32⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S128x128, .f32⟩
  | .local _ .vmem, ⟨11, _⟩ => ⟨S1x128x1024, .f32⟩
  | .local _ .vmem, ⟨12, _⟩ => ⟨S1x128x1024, .f32⟩
  | .local _ .vmem, ⟨13, _⟩ => ⟨S136x1280, .f32⟩
  | .local _ .vmem, ⟨14, _⟩ => ⟨S2x64x512, .f32⟩
  | _, _ => ⟨S2x16384x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_c_4 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x16384x2304 : Shape := ⟨3, ![2, 16384, 2304]⟩
abbrev S2x16384x128 : Shape := ⟨3, ![2, 16384, 128]⟩
abbrev S4x1280 : Shape := ⟨2, ![4, 1280]⟩
abbrev S1280 : Shape := ⟨1, ![1280]⟩
abbrev S16 : Shape := ⟨1, ![16]⟩
abbrev S1024 : Shape := ⟨1, ![1024]⟩
abbrev S2x16384x1024 : Shape := ⟨3, ![2, 16384, 1024]⟩
abbrev S2x16384x1280 : Shape := ⟨3, ![2, 16384, 1280]⟩
abbrev S2x16384x16 : Shape := ⟨3, ![2, 16384, 16]⟩
abbrev S_ : Shape := ⟨0, ![]⟩
abbrev S2x16387x1280 : Shape := ⟨3, ![2, 16387, 1280]⟩
abbrev S1x1280 : Shape := ⟨2, ![1, 1280]⟩
abbrev S1x1x1280 : Shape := ⟨3, ![1, 1, 1280]⟩
abbrev S1x1x16 : Shape := ⟨3, ![1, 1, 16]⟩
abbrev S2x128x128x2x8 : Shape := ⟨5, ![2, 128, 128, 2, 8]⟩
abbrev S2x8 : Shape := ⟨2, ![2, 8]⟩
abbrev S1x1x1x2x8 : Shape := ⟨5, ![1, 1, 1, 2, 8]⟩
abbrev S2x128x128x2x8x64 : Shape := ⟨6, ![2, 128, 128, 2, 8, 64]⟩
abbrev S2x128x128x2x64 : Shape := ⟨5, ![2, 128, 128, 2, 64]⟩
abbrev S2x128x128x2x8x1 : Shape := ⟨6, ![2, 128, 128, 2, 8, 1]⟩
abbrev S2x128x128x1x2x8 : Shape := ⟨6, ![2, 128, 128, 1, 2, 8]⟩
abbrev S2x128x1x128x2x8 : Shape := ⟨6, ![2, 128, 1, 128, 2, 8]⟩
abbrev S2x128x128x128x2x8 : Shape := ⟨6, ![2, 128, 128, 128, 2, 8]⟩
abbrev S128x128 : Shape := ⟨2, ![128, 128]⟩
abbrev S128x128x1x1 : Shape := ⟨4, ![128, 128, 1, 1]⟩
abbrev S2x128x2x128x128 : Shape := ⟨5, ![2, 128, 2, 128, 128]⟩
abbrev S2x128x128x128x2 : Shape := ⟨5, ![2, 128, 128, 128, 2]⟩
abbrev S2x128x128x128x2x1 : Shape := ⟨6, ![2, 128, 128, 128, 2, 1]⟩
abbrev S2x128x2x8x64x128 : Shape := ⟨6, ![2, 128, 2, 8, 64, 128]⟩
abbrev S2x128x1x2x8 : Shape := ⟨5, ![2, 128, 1, 2, 8]⟩
abbrev S2x128x2x8x64x64 : Shape := ⟨6, ![2, 128, 2, 8, 64, 64]⟩
abbrev S2x128x2x8 : Shape := ⟨4, ![2, 128, 2, 8]⟩
abbrev S2x1x2x8x64x64 : Shape := ⟨6, ![2, 1, 2, 8, 64, 64]⟩
abbrev S2x2x8x64x64 : Shape := ⟨5, ![2, 2, 8, 64, 64]⟩
abbrev S128x2x2x8x64x64 : Shape := ⟨6, ![128, 2, 2, 8, 64, 64]⟩
abbrev S128x2x2x8 : Shape := ⟨4, ![128, 2, 2, 8]⟩
abbrev S1x2x2x8x64x64 : Shape := ⟨6, ![1, 2, 2, 8, 64, 64]⟩
abbrev S1x2x2x8 : Shape := ⟨4, ![1, 2, 2, 8]⟩
abbrev S2x2x8 : Shape := ⟨3, ![2, 2, 8]⟩
abbrev S2x2x8x1x1 : Shape := ⟨5, ![2, 2, 8, 1, 1]⟩
abbrev S2x8x1 : Shape := ⟨3, ![2, 8, 1]⟩
abbrev S1x1x1x2x8x1 : Shape := ⟨6, ![1, 1, 1, 2, 8, 1]⟩
abbrev S2x16384x2x512 : Shape := ⟨4, ![2, 16384, 2, 512]⟩
abbrev S2x16384x2 : Shape := ⟨3, ![2, 16384, 2]⟩
abbrev S2x16384x2x1 : Shape := ⟨4, ![2, 16384, 2, 1]⟩
abbrev S1x1x1024 : Shape := ⟨3, ![1, 1, 1024]⟩

abbrev nBuf : Space → Nat
  | .hbm => 213
  | .vmem => 0
  | .smem => 0
  | _ => 0

abbrev hbmTy0_0 (i : Nat) : BufTy := match i % 128 with
  | 0 => ⟨S2x16384x2304, .f32⟩
  | 1 => ⟨S2x16384x128, .f32⟩
  | 2 => ⟨S4x1280, .f32⟩
  | 3 => ⟨S1280, .f32⟩
  | 4 => ⟨S16, .f32⟩
  | 5 => ⟨S16, .f32⟩
  | 6 => ⟨S16, .f32⟩
  | 7 => ⟨S1024, .f32⟩
  | 8 => ⟨S2x16384x1024, .f32⟩
  | 9 => ⟨S2x16384x1280, .f32⟩
  | 10 => ⟨S2x16384x16, .f32⟩
  | 11 => ⟨S_, .i32⟩
  | 12 => ⟨S_, .f32⟩
  | 13 => ⟨S2x16387x1280, .f32⟩
  | 14 => ⟨S2x16384x1280, .f32⟩
  | 15 => ⟨S1x1280, .f32⟩
  | 16 => ⟨S1280, .f32⟩
  | 17 => ⟨S1x1x1280, .f32⟩
  | 18 => ⟨S2x16384x1280, .f32⟩
  | 19 => ⟨S2x16384x1280, .f32⟩
  | 20 => ⟨S2x16384x1280, .f32⟩
  | 21 => ⟨S1x1280, .f32⟩
  | 22 => ⟨S1280, .f32⟩
  | 23 => ⟨S1x1x1280, .f32⟩
  | 24 => ⟨S2x16384x1280, .f32⟩
  | 25 => ⟨S2x16384x1280, .f32⟩
  | 26 => ⟨S2x16384x1280, .f32⟩
  | 27 => ⟨S2x16384x1280, .f32⟩
  | 28 => ⟨S1x1280, .f32⟩
  | 29 => ⟨S1280, .f32⟩
  | 30 => ⟨S1x1x1280, .f32⟩
  | 31 => ⟨S2x16384x1280, .f32⟩
  | 32 => ⟨S2x16384x1280, .f32⟩
  | 33 => ⟨S2x16384x1280, .f32⟩
  | 34 => ⟨S2x16384x1280, .f32⟩
  | 35 => ⟨S1x1280, .f32⟩
  | 36 => ⟨S1280, .f32⟩
  | 37 => ⟨S1x1x1280, .f32⟩
  | 38 => ⟨S2x16384x1280, .f32⟩
  | 39 => ⟨S2x16384x1280, .f32⟩
  | 40 => ⟨S2x16384x1280, .f32⟩
  | 41 => ⟨S1x1x1280, .f32⟩
  | 42 => ⟨S2x16384x1280, .f32⟩
  | 43 => ⟨S2x16384x1280, .f32⟩
  | 44 => ⟨S2x16384x1280, .f32⟩
  | 45 => ⟨S2x16384x1280, .f32⟩
  | 46 => ⟨S_, .f32⟩
  | 47 => ⟨S2x16384x1280, .f32⟩
  | 48 => ⟨S2x16384x1280, .f32⟩
  | 49 => ⟨S_, .f32⟩
  | 50 => ⟨S2x16384x1280, .f32⟩
  | 51 => ⟨S2x16384x1280, .f32⟩
  | 52 => ⟨S2x16384x1280, .f32⟩
  | 53 => ⟨S2x16384x1024, .f32⟩
  | 54 => ⟨S2x16384x128, .f32⟩
  | 55 => ⟨S2x16384x128, .f32⟩
  | 56 => ⟨S1x1x16, .f32⟩
  | 57 => ⟨S2x16384x16, .f32⟩
  | 58 => ⟨S2x16384x16, .f32⟩
  | 59 => ⟨S_, .f32⟩
  | 60 => ⟨S2x16384x16, .f32⟩
  | 61 => ⟨S2x16384x16, .f32⟩
  | 62 => ⟨S2x16384x16, .f32⟩
  | 63 => ⟨S2x16384x16, .f32⟩
  | 64 => ⟨S2x16384x16, .i1⟩
  | 65 => ⟨S2x16384x16, .f32⟩
  | 66 => ⟨S2x16384x16, .f32⟩
  | 67 => ⟨S2x16384x16, .f32⟩
  | 68 => ⟨S2x16384x16, .f32⟩
  | 69 => ⟨S2x16384x16, .f32⟩
  | 70 => ⟨S2x16384x16, .f32⟩
  | 71 => ⟨S2x16384x16, .f32⟩
  | 72 => ⟨S2x16384x16, .f32⟩
  | 73 => ⟨S2x128x128x2x8, .f32⟩
  | 74 => ⟨S16, .f32⟩
  | 75 => ⟨S16, .f32⟩
  | 76 => ⟨S2x8, .f32⟩
  | 77 => ⟨S1x1x1x2x8, .f32⟩
  | 78 => ⟨S2x128x128x2x8, .f32⟩
  | 79 => ⟨S2x128x128x2x8, .f32⟩
  | 80 => ⟨S_, .f32⟩
  | 81 => ⟨S_, .f32⟩
  | 82 => ⟨S2x128x128x2x8, .f32⟩
  | 83 => ⟨S2x128x128x2x8x64, .f32⟩
  | 84 => ⟨S2x128x128x2x64, .f32⟩
  | 85 => ⟨S2x128x128x2x64, .f32⟩
  | 86 => ⟨S2x128x128x2x8x1, .f32⟩
  | 87 => ⟨S2x128x128x2x8x64, .f32⟩
  | 88 => ⟨S2x128x128x2x8x64, .f32⟩
  | 89 => ⟨S2x128x128x1x2x8, .f32⟩
  | 90 => ⟨S2x128x1x128x2x8, .f32⟩
  | 91 => ⟨S2x128x128x128x2x8, .f32⟩
  | 92 => ⟨S2x128x128x128x2x8, .f32⟩
  | 93 => ⟨S2x128x128x128x2x8, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S128x128x1x1, .i1⟩
  | 106 => ⟨S_, .f32⟩
  | 107 => ⟨S_, .f32⟩
  | 108 => ⟨S2x128x128x128x2x8, .i1⟩
  | 109 => ⟨S2x128x128x128x2x8, .f32⟩
  | 110 => ⟨S2x128x128x128x2x8, .f32⟩
  | 111 => ⟨S2x128x128x128x2x8, .f32⟩
  | 112 => ⟨S2x128x2x128x128, .f32⟩
  | 113 => ⟨S2x128x128x128x2, .f32⟩
  | 114 => ⟨S2x128x128x128x2x1, .f32⟩
  | 115 => ⟨S2x128x128x128x2x8, .f32⟩
  | 116 => ⟨S2x128x128x128x2x8, .f32⟩
  | 117 => ⟨S2x128x2x8x64x128, .f32⟩
  | 118 => ⟨S2x128x128x2x8x64, .f32⟩
  | 119 => ⟨S2x128x1x2x8, .f32⟩
  | 120 => ⟨S2x128x128x2x8, .f32⟩
  | 121 => ⟨S2x128x128x2x8, .f32⟩
  | 122 => ⟨S2x128x128x2x8, .f32⟩
  | 123 => ⟨S2x128x128x2x8x1, .f32⟩
  | 124 => ⟨S2x128x128x2x8x64, .f32⟩
  | 125 => ⟨S2x128x128x2x8x64, .f32⟩
  | 126 => ⟨S2x128x2x8x64x64, .f32⟩
  | 127 => ⟨S2x128x1x2x8, .f32⟩
  | _ => ⟨S2x16384x2304, .f32⟩

abbrev hbmTy0_1 (i : Nat) : BufTy := match i % 128 with
  | 0 => ⟨S2x128x2x8, .f32⟩
  | 1 => ⟨S2x128x2x8, .f32⟩
  | 2 => ⟨S2x1x2x8x64x64, .f32⟩
  | 3 => ⟨S2x2x8x64x64, .f32⟩
  | 4 => ⟨S_, .f32⟩
  | 5 => ⟨S2x2x8x64x64, .f32⟩
  | 6 => ⟨S128x2x2x8x64x64, .f32⟩
  | 7 => ⟨S128x2x2x8, .f32⟩
  | 8 => ⟨S_, .f32⟩
  | 9 => ⟨S128x2x2x8x64x64, .f32⟩
  | 10 => ⟨S_, .i32⟩
  | 11 => ⟨S128x2x2x8x64x64, .f32⟩
  | 12 => ⟨S128x2x2x8, .f32⟩
  | 13 => ⟨S_, .i32⟩
  | 14 => ⟨S2x2x8x64x64, .f32⟩
  | 15 => ⟨S128x2x2x8x64x64, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S1x2x2x8x64x64, .f32⟩
  | 24 => ⟨S2x2x8x64x64, .f32⟩
  | 25 => ⟨S_, .i32⟩
  | 26 => ⟨S_, .i32⟩
  | 27 => ⟨S_, .i32⟩
  | 28 => ⟨S1x2x2x8, .f32⟩
  | 29 => ⟨S2x2x8, .f32⟩
  | 30 => ⟨S2x2x8x1x1, .f32⟩
  | 31 => ⟨S2x2x8x64x64, .f32⟩
  | 32 => ⟨S2x2x8x64x64, .f32⟩
  | 33 => ⟨S2x2x8x64x64, .f32⟩
  | 34 => ⟨S1x2x2x8x64x64, .f32⟩
  | 35 => ⟨S_, .i32⟩
  | 36 => ⟨S_, .i32⟩
  | 37 => ⟨S_, .i32⟩
  | 38 => ⟨S_, .i32⟩
  | 39 => ⟨S_, .i32⟩
  | 40 => ⟨S128x2x2x8x64x64, .f32⟩
  | 41 => ⟨S_, .i32⟩
  | 42 => ⟨S_, .i32⟩
  | 43 => ⟨S2x128x2x8x64x64, .f32⟩
  | 44 => ⟨S2x128x2x8x64x128, .f32⟩
  | 45 => ⟨S2x128x128x2x8x64, .f32⟩
  | 46 => ⟨S2x128x128x2x8, .f32⟩
  | 47 => ⟨S2x128x128x2x8x1, .f32⟩
  | 48 => ⟨S2x128x128x2x8x64, .f32⟩
  | 49 => ⟨S2x128x128x2x8x64, .f32⟩
  | 50 => ⟨S2x128x128x2x8x64, .f32⟩
  | 51 => ⟨S2x8x1, .f32⟩
  | 52 => ⟨S1x1x1x2x8x1, .f32⟩
  | 53 => ⟨S2x128x128x2x8x64, .f32⟩
  | 54 => ⟨S2x128x128x2x8x64, .f32⟩
  | 55 => ⟨S2x128x128x2x8x64, .f32⟩
  | 56 => ⟨S2x16384x1024, .f32⟩
  | 57 => ⟨S2x16384x1024, .f32⟩
  | 58 => ⟨S2x16384x1024, .f32⟩
  | 59 => ⟨S_, .f32⟩
  | 60 => ⟨S2x16384x1024, .f32⟩
  | 61 => ⟨S2x16384x1024, .f32⟩
  | 62 => ⟨S_, .f32⟩
  | 63 => ⟨S2x16384x1024, .f32⟩
  | 64 => ⟨S2x16384x1024, .f32⟩
  | 65 => ⟨S2x16384x1024, .f32⟩
  | 66 => ⟨S2x16384x1024, .f32⟩
  | 67 => ⟨S2x16384x2x512, .f32⟩
  | 68 => ⟨S2x16384x2x512, .f32⟩
  | 69 => ⟨S_, .f32⟩
  | 70 => ⟨S2x16384x2, .f32⟩
  | 71 => ⟨S2x16384x2x1, .f32⟩
  | 72 => ⟨S_, .f32⟩
  | 73 => ⟨S2x16384x2x1, .f32⟩
  | 74 => ⟨S2x16384x2x1, .f32⟩
  | 75 => ⟨S_, .f32⟩
  | 76 => ⟨S2x16384x2x1, .f32⟩
  | 77 => ⟨S2x16384x2x1, .f32⟩
  | 78 => ⟨S2x16384x2x1, .f32⟩
  | 79 => ⟨S2x16384x2x512, .f32⟩
  | 80 => ⟨S2x16384x2x512, .f32⟩
  | 81 => ⟨S2x16384x1024, .f32⟩
  | 82 => ⟨S1x1x1024, .f32⟩
  | 83 => ⟨S2x16384x1024, .f32⟩
  | 84 => ⟨S2x16384x1024, .f32⟩
  | _ => ⟨S2x16384x2304, .f32⟩

abbrev hbmTy (i : Nat) : BufTy := match i / 128 with
  | 0 => hbmTy0_0 i
  | 1 => hbmTy0_1 i
  | _ => ⟨S2x16384x2304, .f32⟩

abbrev bufTy : (tb : Table) → Fin (tcTables nBuf tb) → BufTy
  | .hbm, ⟨i, _⟩ => hbmTy i
  | _, _ => ⟨S2x16384x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call3_call0_cst : Ref sig .tc := ⟨.hbm, 80, rfl⟩
abbrev main_call3_call0_v0 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_0 : Ref sig .tc := ⟨.hbm, 94, rfl⟩
abbrev main_v61 : Ref sig .tc := ⟨.hbm, 95, rfl⟩
abbrev main_call4_v0 : Ref sig .tc := ⟨.hbm, 96, rfl⟩
abbrev main_call4_c : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_c_0 : Ref sig .tc := ⟨.hbm, 102, rfl⟩
abbrev main_call4_v5 : Ref sig .tc := ⟨.hbm, 103, rfl⟩
abbrev main_v62 : Ref sig .tc := ⟨.hbm, 104, rfl⟩
abbrev main_v63 : Ref sig .tc := ⟨.hbm, 105, rfl⟩
abbrev main_cst : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_1 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_2 : Ref sig .tc := ⟨.hbm, 136, rfl⟩
abbrev main_v89 : Ref sig .tc := ⟨.hbm, 137, rfl⟩
abbrev main_c_3 : Ref sig .tc := ⟨.hbm, 138, rfl⟩
abbrev main_v90_0 : Ref sig .tc := ⟨.hbm, 139, rfl⟩
abbrev main_v90_1 : Ref sig .tc := ⟨.hbm, 140, rfl⟩
abbrev main_v90_2 : Ref sig .tc := ⟨.hbm, 141, rfl⟩
abbrev main_v90_3 : Ref sig .tc := ⟨.hbm, 142, rfl⟩
abbrev main_v90_4 : Ref sig .tc := ⟨.hbm, 143, rfl⟩
abbrev main_while0c_c_11 : Ref sig .tc := ⟨.hbm, 144, rfl⟩
abbrev main_while0c_v122 : Ref sig .tc := ⟨.hbm, 145, rfl⟩
abbrev main_while0b_call6_c : Ref sig .tc := ⟨.hbm, 146, rfl⟩
abbrev main_while0b_call6_c_0 : Ref sig .tc := ⟨.hbm, 147, rfl⟩
abbrev main_while0b_call6_c_1 : Ref sig .tc := ⟨.hbm, 148, rfl⟩
abbrev main_while0b_call6_c_2 : Ref sig .tc := ⟨.hbm, 149, rfl⟩
abbrev main_while0b_call6_c_3 : Ref sig .tc := ⟨.hbm, 150, rfl⟩
abbrev main_while0b_call6_v0 : Ref sig .tc := ⟨.hbm, 151, rfl⟩
abbrev main_while0b_v122 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_call7_c_1 : Ref sig .tc := ⟨.hbm, 155, rfl⟩
abbrev main_while0b_call7_v0 : Ref sig .tc := ⟨.hbm, 156, rfl⟩
abbrev main_while0b_v123 : Ref sig .tc := ⟨.hbm, 157, rfl⟩
abbrev main_while0b_v124 : Ref sig .tc := ⟨.hbm, 158, rfl⟩
abbrev main_while0b_v125 : Ref sig .tc := ⟨.hbm, 159, rfl⟩
abbrev main_while0b_v126 : Ref sig .tc := ⟨.hbm, 160, rfl⟩
abbrev main_while0b_v127 : Ref sig .tc := ⟨.hbm, 161, rfl⟩
abbrev main_while0b_call8_v0 : Ref sig .tc := ⟨.hbm, 162, rfl⟩
abbrev main_while0b_call8_c : Ref sig .tc := ⟨.hbm, 163, rfl⟩
abbrev main_while0b_call8_c_0 : Ref sig .tc := ⟨.hbm, 164, rfl⟩
abbrev main_while0b_call8_c_1 : Ref sig .tc := ⟨.hbm, 165, rfl⟩
abbrev main_while0b_call8_c_2 : Ref sig .tc := ⟨.hbm, 166, rfl⟩
abbrev main_while0b_call8_c_3 : Ref sig .tc := ⟨.hbm, 167, rfl⟩
abbrev main_while0b_v128 : Ref sig .tc := ⟨.hbm, 168, rfl⟩
abbrev main_while0b_c_11 : Ref sig .tc := ⟨.hbm, 169, rfl⟩
abbrev main_while0b_v129 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_call9_v0 : Ref sig .tc := ⟨.hbm, 185, rfl⟩
abbrev main_call9_v1 : Ref sig .tc := ⟨.hbm, 186, rfl⟩
abbrev main_call9_cst : Ref sig .tc := ⟨.hbm, 187, rfl⟩
abbrev main_call9_v2 : Ref sig .tc := ⟨.hbm, 188, rfl⟩
abbrev main_call9_v3 : Ref sig .tc := ⟨.hbm, 189, rfl⟩
abbrev main_call9_cst_0 : Ref sig .tc := ⟨.hbm, 190, rfl⟩
abbrev main_call9_v4 : Ref sig .tc := ⟨.hbm, 191, rfl⟩
abbrev main_call9_v5 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_cst_4 : Ref sig .tc := ⟨.hbm, 197, rfl⟩
abbrev main_v109 : Ref sig .tc := ⟨.hbm, 198, rfl⟩
abbrev main_v110 : Ref sig .tc := ⟨.hbm, 199, rfl⟩
abbrev main_cst_5 : Ref sig .tc := ⟨.hbm, 200, rfl⟩
abbrev main_v111 : Ref sig .tc := ⟨.hbm, 201, rfl⟩
abbrev main_v112 : Ref sig .tc := ⟨.hbm, 202, rfl⟩
abbrev main_cst_6 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Last.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x5144 : Shape := ⟨2, ![1024, 5144]⟩
abbrev S1024x2304 : Shape := ⟨2, ![1024, 2304]⟩
abbrev S1024x1024 : Shape := ⟨2, ![1024, 1024]⟩
abbrev S1024x1792 : Shape := ⟨2, ![1024, 1792]⟩
abbrev S1024x16 : Shape := ⟨2, ![1024, 16]⟩
abbrev S1024x8 : Shape := ⟨2, ![1024, 8]⟩
abbrev S_ : Shape := ⟨0, ![]⟩
abbrev S1024x104 : Shape := ⟨2, ![1024, 104]⟩
abbrev S1024x128 : Shape := ⟨2, ![1024, 128]⟩
abbrev S1x1024 : Shape := ⟨2, ![1, 1024]⟩
abbrev S32768x2304 : Shape := ⟨2, ![32768, 2304]⟩
abbrev S32768x1792 : Shape := ⟨2, ![32768, 1792]⟩
abbrev S32768x128 : Shape := ⟨2, ![32768, 128]⟩
abbrev S256x1024 : Shape := ⟨2, ![256, 1024]⟩
abbrev S256x2304 : Shape := ⟨2, ![256, 2304]⟩
abbrev S256x1792 : Shape := ⟨2, ![256, 1792]⟩
abbrev S256x128 : Shape := ⟨2, ![256, 128]⟩
abbrev S256 : Shape := ⟨1, ![256]⟩
abbrev S256x1 : Shape := ⟨2, ![256, 1]⟩

abbrev nBuf : Space → Nat
  | .hbm => 20
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5144, .f32⟩
  | .hbm, ⟨3, _⟩ => ⟨S1024x2304, .f32⟩
  | .hbm, ⟨4, _⟩ => ⟨S1024x2304, .bf16⟩
  | .hbm, ⟨5, _⟩ => ⟨S1024x1024, .f32⟩
  | .hbm, ⟨6, _⟩ => ⟨S1024x1024, .bf16⟩
  | .hbm, ⟨7, _⟩ => ⟨S1024x1792, .f32⟩
  | .hbm, ⟨8, _⟩ => ⟨S1024x1792, .bf16⟩
  | .hbm, ⟨9, _⟩ => ⟨S1024x16, .f32⟩
  | .hbm, ⟨10, _⟩ => ⟨S1024x8, .f32⟩
  | .hbm, ⟨11, _⟩ => ⟨S_, .f32⟩
  | .hbm, ⟨12, _⟩ => ⟨S1024x104, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S32768x2304, .f32⟩
  | .hbm, ⟨17, _⟩ => ⟨S32768x1024, .f32⟩
  | .hbm, ⟨18, _⟩ => ⟨S32768x1792, .f32⟩
  | .hbm, ⟨19, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2304, .bf16⟩
  | .local _ .vmem, ⟨4, _⟩ => ⟨S1024x1024, .bf16⟩
  | .local _ .vmem, ⟨5, _⟩ => ⟨S1024x1792, .bf16⟩
  | .local _ .vmem, ⟨6, _⟩ => ⟨S1024x128, .bf16⟩
  | .local _ .vmem, ⟨7, _⟩ => ⟨S256x2304, .f32⟩
  | .local _ .vmem, ⟨8, _⟩ => ⟨S256x2304, .f32⟩
  | .local _ .vmem, ⟨9, _⟩ => ⟨S256x1024, .f32⟩
  | .local _ .vmem, ⟨10, _⟩ => ⟨S256x1024, .f32⟩
  | .local _ .vmem, ⟨11, _⟩ => ⟨S256x1792, .f32⟩
  | .local _ .vmem, ⟨12, _⟩ => ⟨S256x1792, .f32⟩
  | .local _ .vmem, ⟨13, _⟩ => ⟨S256x128, .f32⟩
  | .local _ .vmem, ⟨14, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InprojRefIdeal.lean ====
abbrev S32768x1024 : Shape := ⟨2, ![32768, 1024]⟩
abbrev S1024 : Shape := ⟨1, ![1024]⟩
abbrev S1024x5144 : Shape := ⟨2, ![1024, 5144]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5144 : Shape := ⟨2, ![32768, 5144]⟩
abbrev S32768x2320 : Shape := ⟨2, ![32768, 2320]⟩
abbrev S32768x1032 : Shape := ⟨2, ![32768, 1032]⟩
abbrev S32768x1792 : Shape := ⟨2, ![32768, 1792]⟩
abbrev S32768x2304 : Shape := ⟨2, ![32768, 2304]⟩
abbrev S32768x16 : Shape := ⟨2, ![32768, 16]⟩
abbrev S32768x8 : Shape := ⟨2, ![32768, 8]⟩
abbrev S32768x24 : Shape := ⟨2, ![32768, 24]⟩
abbrev S32768x128 : Shape := ⟨2, ![32768, 128]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5144, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x5144, .f32⟩
  | .hbm, ⟨20, _⟩ => ⟨S32768x2320, .f32⟩
  | .hbm, ⟨21, _⟩ => ⟨S32768x1032, .f32⟩
  | .hbm, ⟨22, _⟩ => ⟨S32768x1792, .f32⟩
  | .hbm, ⟨23, _⟩ => ⟨S32768x2304, .f32⟩
  | .hbm, ⟨24, _⟩ => ⟨S32768x16, .f32⟩
  | .hbm, ⟨25, _⟩ => ⟨S32768x1024, .f32⟩
  | .hbm, ⟨26, _⟩ => ⟨S32768x8, .f32⟩
  | .hbm, ⟨27, _⟩ => ⟨S32768x24, .f32⟩
  | .hbm, ⟨28, _⟩ => ⟨S_, .i32⟩
  | .hbm, ⟨29, _⟩ => ⟨S_, .f32⟩
  | .hbm, ⟨30, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Outproj.lean ====
abbrev S32768x1024 : Shape := ⟨2, ![32768, 1024]⟩
abbrev S32768x512 : Shape := ⟨2, ![32768, 512]⟩
abbrev S2048x1024 : Shape := ⟨2, ![2048, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S2048x1024, .f32⟩
  | .hbm, ⟨5, _⟩ => ⟨S1024x1024, .f32⟩
  | .hbm, ⟨6, _⟩ => ⟨S1024x1024, .bf16⟩
  | .hbm, ⟨7, _⟩ => ⟨S512x1024, .f32⟩
  | .hbm, ⟨8, _⟩ => ⟨S512x1024, .bf16⟩
  | .hbm, ⟨9, _⟩ => ⟨S512x1024, .f32⟩
  | .hbm, ⟨10, _⟩ => ⟨S512x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojRefIdeal.lean ====
abbrev S32768x1024 : Shape := ⟨2, ![32768, 1024]⟩
abbrev S32768x512 : Shape := ⟨2, ![32768, 512]⟩
abbrev S2048x1024 : Shape := ⟨2, ![2048, 1024]⟩
abbrev S32768x2048 : Shape := ⟨2, ![32768, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S2048x1024, .f32⟩
  | .hbm, ⟨5, _⟩ => ⟨S32768x2048, .f32⟩
  | .hbm, ⟨6, _⟩ => ⟨S32768x1024, .f32⟩
  | .hbm, ⟨7, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Mlstm.lean ====
abbrev S2x16384x1024 : Shape := ⟨3, ![2, 16384, 1024]⟩
abbrev S2x16384x128 : Shape := ⟨3, ![2, 16384, 128]⟩
abbrev S4x512 : Shape := ⟨2, ![4, 512]⟩
abbrev S512 : Shape := ⟨1, ![512]⟩
abbrev S4x128x128 : Shape := ⟨3, ![4, 128, 128]⟩
abbrev S8 : Shape := ⟨1, ![8]⟩
abbrev S_ : Shape := ⟨0, ![]⟩
abbrev S128x128 : Shape := ⟨2, ![128, 128]⟩
abbrev S1x512 : Shape := ⟨2, ![1, 512]⟩
abbrev S1x128 : Shape := ⟨2, ![1, 128]⟩
abbrev S1 : Shape := ⟨1, ![1]⟩
abbrev S2 : Shape := ⟨1, ![2]⟩
abbrev S2x16384x512 : Shape := ⟨3, ![2, 16384, 512]⟩
abbrev S1x128x1024 : Shape := ⟨3, ![1, 128, 1024]⟩
abbrev S1x128x128 : Shape := ⟨3, ![1, 128, 128]⟩
abbrev S1x128x512 : Shape := ⟨3, ![1, 128, 512]⟩
abbrev S136x512 : Shape := ⟨2, ![136, 512]⟩
abbrev S8x128 : Shape := ⟨2, ![8, 128]⟩
abbrev S128x512 : Shape := ⟨2, ![128, 512]⟩
abbrev S8x512 : Shape := ⟨2, ![8, 512]⟩
abbrev S128x1 : Shape := ⟨2, ![128, 1]⟩
abbrev S1x1 : Shape := ⟨2, ![1, 1]⟩
abbrev S128 : Shape := ⟨1, ![128]⟩

abbrev nBuf : Space → Nat
  | .hbm => 34
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x16384x128, .f32⟩
  | .hbm, ⟨2, _⟩ => ⟨S4x512, .f32⟩
  | .hbm, ⟨3, _⟩ => ⟨S512, .f32⟩
  | .hbm, ⟨4, _⟩ => ⟨S4x128x128, .f32⟩
  | .hbm, ⟨5, _⟩ => ⟨S4x128x128, .f32⟩
  | .hbm, ⟨6, _⟩ => ⟨S4x128x128, .f32⟩
  | .hbm, ⟨7, _⟩ => ⟨S8, .f32⟩
  | .hbm, ⟨8, _⟩ => ⟨S512, .f32⟩
  | .hbm, ⟨9, _⟩ => ⟨S_, .f32⟩
  | .hbm, ⟨10, _⟩ => ⟨S128x128, .f32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S1x512, .f32⟩
  | .hbm, ⟨21, _⟩ => ⟨S4x128x128, .bf16⟩
  | .hbm, ⟨22, _⟩ => ⟨S4x128x128, .bf16⟩
  | .hbm, ⟨23, _⟩ => ⟨S4x128x128, .bf16⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S1x512, .f32⟩
  | .hbm, ⟨33, _⟩ => ⟨S2x16384x512, .f32⟩
  | .local _ .vmem, ⟨0, _⟩ => ⟨S1x128x1024, .f32⟩
  | .local _ .vmem, ⟨1, _⟩ => ⟨S1x128x1024, .f32⟩
  | .local _ .vmem, ⟨2, _⟩ => ⟨S1x128x128, .f32⟩
  | .local _ .vmem, ⟨3, _⟩ => ⟨S1x128x128, .f32⟩
  | .local _ .vmem, ⟨4, _⟩ => ⟨S4x512, .f32⟩
  | .local _ .vmem, ⟨5, _⟩ => ⟨S1x512, .f32⟩
  | .local _ .vmem, ⟨6, _⟩ => ⟨S4x128x128, .bf16⟩
  | .local _ .vmem, ⟨7, _⟩ => ⟨S4x128x128, .bf16⟩
  | .local _ .vmem, ⟨8, _⟩ => ⟨S4x128x128, .bf16⟩
  | .local _ .vmem, ⟨9, _⟩ => ⟨S1x128, .f32⟩
  | .local _ .vmem, ⟨10, _⟩ => ⟨S1x512, .f32⟩
  | .local _ .vmem, ⟨11, _⟩ => ⟨S128x128, .f32⟩
  | .local _ .vmem, ⟨12, _⟩ => ⟨S1x128x512, .f32⟩
  | .local _ .vmem, ⟨13, _⟩ => ⟨S1x128x512, .f32⟩
  | .local _ .vmem, ⟨14, _⟩ => ⟨S136x512, .f32⟩
  | .local _ .vmem, ⟨15, _⟩ => ⟨S4x128x128, .f32⟩
  | .local _ .vmem, ⟨16, _⟩ => ⟨S8x128, .f32⟩
  | .local _ .vmem, ⟨17, _⟩ => ⟨S8x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MlstmRefIdeal.lean ====
abbrev S2x16384x1024 : Shape := ⟨3, ![2, 16384, 1024]⟩
abbrev S2x16384x128 : Shape := ⟨3, ![2, 16384, 128]⟩
abbrev S4x512 : Shape := ⟨2, ![4, 512]⟩
abbrev S512 : Shape := ⟨1, ![512]⟩
abbrev S4x128x128 : Shape := ⟨3, ![4, 128, 128]⟩
abbrev S8 : Shape := ⟨1, ![8]⟩
abbrev S2x16384x512 : Shape := ⟨3, ![2, 16384, 512]⟩
abbrev S2x16384x8 : Shape := ⟨3, ![2, 16384, 8]⟩
abbrev S_ : Shape := ⟨0, ![]⟩
abbrev S2x16387x512 : Shape := ⟨3, ![2, 16387, 512]⟩
abbrev S1x512 : Shape := ⟨2, ![1, 512]⟩
abbrev S1x1x512 : Shape := ⟨3, ![1, 1, 512]⟩
abbrev S2x16384x4x128 : Shape := ⟨4, ![2, 16384, 4, 128]⟩
abbrev S4x128x2x16384 : Shape := ⟨4, ![4, 128, 2, 16384]⟩
abbrev S1x1x8 : Shape := ⟨3, ![1, 1, 8]⟩
abbrev S2x16384x4 : Shape := ⟨3, ![2, 16384, 4]⟩
abbrev S2x128x128x4 : Shape := ⟨4, ![2, 128, 128, 4]⟩
abbrev S2x128x128x4x128 : Shape := ⟨5, ![2, 128, 128, 4, 128]⟩
abbrev S2x128x128x1x4 : Shape := ⟨5, ![2, 128, 128, 1, 4]⟩
abbrev S2x128x1x128x4 : Shape := ⟨5, ![2, 128, 1, 128, 4]⟩
abbrev S2x128x128x128x4 : Shape := ⟨5, ![2, 128, 128, 128, 4]⟩
abbrev S128x128 : Shape := ⟨2, ![128, 128]⟩
abbrev S128x128x1 : Shape := ⟨3, ![128, 128, 1]⟩
abbrev S2x128x1x4 : Shape := ⟨4, ![2, 128, 1, 4]⟩
abbrev S2x128x4 : Shape := ⟨3, ![2, 128, 4]⟩
abbrev S2x128x128x4x1 : Shape := ⟨5, ![2, 128, 128, 4, 1]⟩
abbrev S2x128x4x128x128 : Shape := ⟨5, ![2, 128, 4, 128, 128]⟩
abbrev S2x128x4x128 : Shape := ⟨4, ![2, 128, 4, 128]⟩
abbrev S2x4x128x128 : Shape := ⟨4, ![2, 4, 128, 128]⟩
abbrev S2x4x128 : Shape := ⟨3, ![2, 4, 128]⟩
abbrev S2x4 : Shape := ⟨2, ![2, 4]⟩
abbrev S128x2x4x128x128 : Shape := ⟨5, ![128, 2, 4, 128, 128]⟩
abbrev S128x2x4x128 : Shape := ⟨4, ![128, 2, 4, 128]⟩
abbrev S128x2x4 : Shape := ⟨3, ![128, 2, 4]⟩
abbrev S1x2x4x128x128 : Shape := ⟨5, ![1, 2, 4, 128, 128]⟩
abbrev S1x2x4x128 : Shape := ⟨4, ![1, 2, 4, 128]⟩
abbrev S1x2x4 : Shape := ⟨3, ![1, 2, 4]⟩
abbrev S2x4x1x1 : Shape := ⟨4, ![2, 4, 1, 1]⟩
abbrev S2x4x1 : Shape := ⟨3, ![2, 4, 1]⟩
abbrev S2x16384x4x1 : Shape := ⟨4, ![2, 16384, 4, 1]⟩

abbrev nBuf : Space → Nat
  | .hbm => 292
  | .vmem => 0
  | .smem => 0
  | _ => 0

abbrev hbmTy0_0 (i : Nat) : BufTy := match i % 128 with
  | 0 => ⟨S2x16384x1024, .f32⟩
  | 1 => ⟨S2x16384x128, .f32⟩
  | 2 => ⟨S4x512, .f32⟩
  | 3 => ⟨S512, .f32⟩
  | 4 => ⟨S4x128x128, .f32⟩
  | 5 => ⟨S4x128x128, .f32⟩
  | 6 => ⟨S4x128x128, .f32⟩
  | 7 => ⟨S8, .f32⟩
  | 8 => ⟨S512, .f32⟩
  | 9 => ⟨S2x16384x512, .f32⟩
  | 10 => ⟨S2x16384x512, .f32⟩
  | 11 => ⟨S2x16384x8, .f32⟩
  | 12 => ⟨S_, .i32⟩
  | 13 => ⟨S_, .f32⟩
  | 14 => ⟨S2x16387x512, .f32⟩
  | 15 => ⟨S2x16384x512, .f32⟩
  | 16 => ⟨S1x512, .f32⟩
  | 17 => ⟨S512, .f32⟩
  | 18 => ⟨S1x1x512, .f32⟩
  | 19 => ⟨S2x16384x512, .f32⟩
  | 20 => ⟨S2x16384x512, .f32⟩
  | 21 => ⟨S2x16384x512, .f32⟩
  | 22 => ⟨S1x512, .f32⟩
  | 23 => ⟨S512, .f32⟩
  | 24 => ⟨S1x1x512, .f32⟩
  | 25 => ⟨S2x16384x512, .f32⟩
  | 26 => ⟨S2x16384x512, .f32⟩
  | 27 => ⟨S2x16384x512, .f32⟩
  | 28 => ⟨S2x16384x512, .f32⟩
  | 29 => ⟨S1x512, .f32⟩
  | 30 => ⟨S512, .f32⟩
  | 31 => ⟨S1x1x512, .f32⟩
  | 32 => ⟨S2x16384x512, .f32⟩
  | 33 => ⟨S2x16384x512, .f32⟩
  | 34 => ⟨S2x16384x512, .f32⟩
  | 35 => ⟨S2x16384x512, .f32⟩
  | 36 => ⟨S1x512, .f32⟩
  | 37 => ⟨S512, .f32⟩
  | 38 => ⟨S1x1x512, .f32⟩
  | 39 => ⟨S2x16384x512, .f32⟩
  | 40 => ⟨S2x16384x512, .f32⟩
  | 41 => ⟨S2x16384x512, .f32⟩
  | 42 => ⟨S1x1x512, .f32⟩
  | 43 => ⟨S2x16384x512, .f32⟩
  | 44 => ⟨S2x16384x512, .f32⟩
  | 45 => ⟨S2x16384x512, .f32⟩
  | 46 => ⟨S2x16384x512, .f32⟩
  | 47 => ⟨S_, .f32⟩
  | 48 => ⟨S2x16384x512, .f32⟩
  | 49 => ⟨S2x16384x512, .f32⟩
  | 50 => ⟨S_, .f32⟩
  | 51 => ⟨S2x16384x512, .f32⟩
  | 52 => ⟨S2x16384x512, .f32⟩
  | 53 => ⟨S2x16384x512, .f32⟩
  | 54 => ⟨S2x16384x4x128, .f32⟩
  | 55 => ⟨S2x16384x4x128, .f32⟩
  | 56 => ⟨S4x128x2x16384, .f32⟩
  | 57 => ⟨S2x16384x4x128, .f32⟩
  | 58 => ⟨S4x128x2x16384, .f32⟩
  | 59 => ⟨S2x16384x4x128, .f32⟩
  | 60 => ⟨S_, .f32⟩
  | 61 => ⟨S2x16384x4x128, .f32⟩
  | 62 => ⟨S2x16384x4x128, .f32⟩
  | 63 => ⟨S4x128x2x16384, .f32⟩
  | 64 => ⟨S2x16384x4x128, .f32⟩
  | 65 => ⟨S1x1x8, .f32⟩
  | 66 => ⟨S2x16384x8, .f32⟩
  | 67 => ⟨S2x16384x8, .f32⟩
  | 68 => ⟨S2x16384x4, .f32⟩
  | 69 => ⟨S2x128x128x4, .f32⟩
  | 70 => ⟨S2x16384x4, .f32⟩
  | 71 => ⟨S2x16384x4, .f32⟩
  | 72 => ⟨S_, .f32⟩
  | 73 => ⟨S2x16384x4, .f32⟩
  | 74 => ⟨S2x16384x4, .f32⟩
  | 75 => ⟨S2x16384x4, .f32⟩
  | 76 => ⟨S2x16384x4, .f32⟩
  | 77 => ⟨S2x16384x4, .i1⟩
  | 78 => ⟨S2x16384x4, .f32⟩
  | 79 => ⟨S2x16384x4, .f32⟩
  | 80 => ⟨S2x16384x4, .f32⟩
  | 81 => ⟨S2x16384x4, .f32⟩
  | 82 => ⟨S2x16384x4, .f32⟩
  | 83 => ⟨S2x16384x4, .f32⟩
  | 84 => ⟨S2x16384x4, .f32⟩
  | 85 => ⟨S2x16384x4, .f32⟩
  | 86 => ⟨S2x16384x4, .f32⟩
  | 87 => ⟨S2x128x128x4, .f32⟩
  | 88 => ⟨S2x16384x512, .f32⟩
  | 89 => ⟨S2x16384x512, .f32⟩
  | 90 => ⟨S_, .f32⟩
  | 91 => ⟨S2x16384x512, .f32⟩
  | 92 => ⟨S2x16384x512, .f32⟩
  | 93 => ⟨S_, .f32⟩
  | 94 => ⟨S2x16384x512, .f32⟩
  | 95 => ⟨S2x16384x512, .f32⟩
  | 96 => ⟨S2x16384x4x128, .f32⟩
  | 97 => ⟨S2x128x128x4x128, .f32⟩
  | 98 => ⟨S2x128x128x4x128, .f32⟩
  | 99 => ⟨S2x128x128x4x128, .f32⟩
  | 100 => ⟨S_, .f32⟩
  | 101 => ⟨S_, .f32⟩
  | 102 => ⟨S2x128x128x4, .f32⟩
  | 103 => ⟨S2x128x128x1x4, .f32⟩
  | 104 => ⟨S2x128x1x128x4, .f32⟩
  | 105 => ⟨S2x128x128x128x4, .f32⟩
  | 106 => ⟨S2x128x128x128x4, .f32⟩
  | 107 => ⟨S2x128x128x128x4, .f32⟩
  | 108 => ⟨S2x128x1x128x4, .f32⟩
  | 109 => ⟨S2x128x128x128x4, .f32⟩
  | 110 => ⟨S2x128x128x128x4, .f32⟩
  | 111 => ⟨S_, .i1⟩
  | 112 => ⟨S128x128, .i1⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .i1⟩
  | 120 => ⟨S128x128, .i1⟩
  | 121 => ⟨S128x128, .i1⟩
  | 122 => ⟨S128x128x1, .i1⟩
  | 123 => ⟨S_, .f32⟩
  | 124 => ⟨S_, .f32⟩
  | 125 => ⟨S2x128x128x128x4, .i1⟩
  | 126 => ⟨S2x128x128x128x4, .f32⟩
  | 127 => ⟨S2x128x128x128x4, .f32⟩
  | _ => ⟨S2x16384x1024, .f32⟩

abbrev hbmTy0_1 (i : Nat) : BufTy := match i % 128 with
  | 0 => ⟨S_, .f32⟩
  | 1 => ⟨S2x128x128x4, .f32⟩
  | 2 => ⟨S2x128x1x4, .f32⟩
  | 3 => ⟨S2x128x128x4, .f32⟩
  | 4 => ⟨S2x128x128x4, .f32⟩
  | 5 => ⟨S2x128x128x4, .f32⟩
  | 6 => ⟨S_, .f32⟩
  | 7 => ⟨S2x128x4, .f32⟩
  | 8 => ⟨S2x128x1x4, .f32⟩
  | 9 => ⟨S2x128x128x4, .f32⟩
  | 10 => ⟨S2x128x128x4, .f32⟩
  | 11 => ⟨S2x128x128x4, .f32⟩
  | 12 => ⟨S2x128x128x4x1, .f32⟩
  | 13 => ⟨S2x128x128x4x128, .f32⟩
  | 14 => ⟨S2x128x128x4x128, .f32⟩
  | 15 => ⟨S2x128x4x128x128, .f32⟩
  | 16 => ⟨S2x128x4x128, .f32⟩
  | 17 => ⟨S2x128x1x4, .f32⟩
  | 18 => ⟨S2x128x4, .f32⟩
  | 19 => ⟨S_, .f32⟩
  | 20 => ⟨S2x4x128x128, .f32⟩
  | 21 => ⟨S_, .f32⟩
  | 22 => ⟨S2x4x128, .f32⟩
  | 23 => ⟨S_, .f32⟩
  | 24 => ⟨S2x4, .f32⟩
  | 25 => ⟨S128x2x4x128x128, .f32⟩
  | 26 => ⟨S128x2x4x128, .f32⟩
  | 27 => ⟨S128x2x4, .f32⟩
  | 28 => ⟨S128x2x4, .f32⟩
  | 29 => ⟨S_, .f32⟩
  | 30 => ⟨S128x2x4x128x128, .f32⟩
  | 31 => ⟨S_, .f32⟩
  | 32 => ⟨S128x2x4x128, .f32⟩
  | 33 => ⟨S_, .f32⟩
  | 34 => ⟨S128x2x4, .f32⟩
  | 35 => ⟨S_, .i32⟩
  | 36 => ⟨S128x2x4x128x128, .f32⟩
  | 37 => ⟨S128x2x4x128, .f32⟩
  | 38 => ⟨S128x2x4, .f32⟩
  | 39 => ⟨S128x2x4, .f32⟩
  | 40 => ⟨S_, .i32⟩
  | 41 => ⟨S2x4x128x128, .f32⟩
  | 42 => ⟨S2x4x128, .f32⟩
  | 43 => ⟨S2x4, .f32⟩
  | 44 => ⟨S128x2x4x128x128, .f32⟩
  | 45 => ⟨S128x2x4x128, .f32⟩
  | 46 => ⟨S128x2x4, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S1x2x4x128x128, .f32⟩
  | 54 => ⟨S2x4x128x128, .f32⟩
  | 55 => ⟨S_, .i32⟩
  | 56 => ⟨S_, .i32⟩
  | 57 => ⟨S_, .i32⟩
  | 58 => ⟨S1x2x4x128, .f32⟩
  | 59 => ⟨S2x4x128, .f32⟩
  | 60 => ⟨S_, .i32⟩
  | 61 => ⟨S_, .i32⟩
  | 62 => ⟨S1x2x4, .f32⟩
  | 63 => ⟨S2x4, .f32⟩
  | 64 => ⟨S_, .i32⟩
  | 65 => ⟨S_, .i32⟩
  | 66 => ⟨S1x2x4, .f32⟩
  | 67 => ⟨S2x4, .f32⟩
  | 68 => ⟨S2x4, .f32⟩
  | 69 => ⟨S2x4, .f32⟩
  | 70 => ⟨S2x4, .f32⟩
  | 71 => ⟨S2x4, .f32⟩
  | 72 => ⟨S2x4, .f32⟩
  | 73 => ⟨S2x4, .f32⟩
  | 74 => ⟨S2x4, .f32⟩
  | 75 => ⟨S2x4x1x1, .f32⟩
  | 76 => ⟨S2x4x128x128, .f32⟩
  | 77 => ⟨S2x4x128x128, .f32⟩
  | 78 => ⟨S2x4x1x1, .f32⟩
  | 79 => ⟨S2x4x128x128, .f32⟩
  | 80 => ⟨S2x4x128x128, .f32⟩
  | 81 => ⟨S2x4x128x128, .f32⟩
  | 82 => ⟨S2x4x1, .f32⟩
  | 83 => ⟨S2x4x128, .f32⟩
  | 84 => ⟨S2x4x128, .f32⟩
  | 85 => ⟨S2x4x1, .f32⟩
  | 86 => ⟨S2x4x128, .f32⟩
  | 87 => ⟨S2x4x128, .f32⟩
  | 88 => ⟨S2x4x128, .f32⟩
  | 89 => ⟨S1x2x4x128x128, .f32⟩
  | 90 => ⟨S_, .i32⟩
  | 91 => ⟨S_, .i32⟩
  | 92 => ⟨S_, .i32⟩
  | 93 => ⟨S_, .i32⟩
  | 94 => ⟨S128x2x4x128x128, .f32⟩
  | 95 => ⟨S1x2x4x128, .f32⟩
  | 96 => ⟨S_, .i32⟩
  | 97 => ⟨S_, .i32⟩
  | 98 => ⟨S_, .i32⟩
  | 99 => ⟨S128x2x4x128, .f32⟩
  | 100 => ⟨S1x2x4, .f32⟩
  | 101 => ⟨S_, .i32⟩
  | 102 => ⟨S_, .i32⟩
  | 103 => ⟨S128x2x4, .f32⟩
  | 104 => ⟨S_, .i32⟩
  | 105 => ⟨S_, .i32⟩
  | 106 => ⟨S2x128x4x128x128, .f32⟩
  | 107 => ⟨S2x128x4x128, .f32⟩
  | 108 => ⟨S2x128x4, .f32⟩
  | 109 => ⟨S2x128x1x4, .f32⟩
  | 110 => ⟨S2x128x128x4, .f32⟩
  | 111 => ⟨S2x128x128x4, .f32⟩
  | 112 => ⟨S2x128x128x4, .f32⟩
  | 113 => ⟨S2x128x128x1x4, .f32⟩
  | 114 => ⟨S2x128x128x128x4, .f32⟩
  | 115 => ⟨S2x128x128x128x4, .f32⟩
  | 116 => ⟨S2x128x128x128x4, .f32⟩
  | 117 => ⟨S2x128x128x4, .f32⟩
  | 118 => ⟨S2x128x128x4, .f32⟩
  | 119 => ⟨S2x128x4x128x128, .f32⟩
  | 120 => ⟨S2x128x128x128x4, .f32⟩
  | 121 => ⟨S2x128x128x128x4, .f32⟩
  | 122 => ⟨S2x128x4x128x128, .f32⟩
  | 123 => ⟨S2x128x128x4x128, .f32⟩
  | 124 => ⟨S2x128x4x128x128, .f32⟩
  | 125 => ⟨S2x128x128x4x128, .f32⟩
  | 126 => ⟨S2x128x128x4x1, .f32⟩
  | 127 => ⟨S2x128x128x4x128, .f32⟩
  | _ => ⟨S2x16384x1024, .f32⟩

abbrev hbmTy0_2 (i : Nat) : BufTy := match i % 128 with
  | 0 => ⟨S2x128x128x4x128, .f32⟩
  | 1 => ⟨S2x128x128x4x128, .f32⟩
  | 2 => ⟨S_, .f32⟩
  | 3 => ⟨S2x128x128x4, .f32⟩
  | 4 => ⟨S2x128x4x128, .f32⟩
  | 5 => ⟨S2x128x128x4, .f32⟩
  | 6 => ⟨S2x128x128x4, .f32⟩
  | 7 => ⟨S2x128x128x4, .f32⟩
  | 8 => ⟨S2x128x128x4, .f32⟩
  | 9 => ⟨S2x128x128x4, .f32⟩
  | 10 => ⟨S2x128x128x4, .f32⟩
  | 11 => ⟨S2x128x128x4, .f32⟩
  | 12 => ⟨S2x128x128x4x1, .f32⟩
  | 13 => ⟨S2x128x128x4x128, .f32⟩
  | 14 => ⟨S2x128x128x4x128, .f32⟩
  | 15 => ⟨S2x16384x4x128, .f32⟩
  | 16 => ⟨S2x16384x4x128, .f32⟩
  | 17 => ⟨S2x16384x512, .f32⟩
  | 18 => ⟨S2x16384x4x128, .f32⟩
  | 19 => ⟨S2x16384x4x128, .f32⟩
  | 20 => ⟨S_, .f32⟩
  | 21 => ⟨S2x16384x4, .f32⟩
  | 22 => ⟨S2x16384x4x1, .f32⟩
  | 23 => ⟨S_, .f32⟩
  | 24 => ⟨S2x16384x4x1, .f32⟩
  | 25 => ⟨S2x16384x4x1, .f32⟩
  | 26 => ⟨S_, .f32⟩
  | 27 => ⟨S2x16384x4x1, .f32⟩
  | 28 => ⟨S2x16384x4x1, .f32⟩
  | 29 => ⟨S2x16384x4x1, .f32⟩
  | 30 => ⟨S2x16384x4x128, .f32⟩
  | 31 => ⟨S2x16384x4x128, .f32⟩
  | 32 => ⟨S2x16384x512, .f32⟩
  | 33 => ⟨S1x1x512, .f32⟩
  | 34 => ⟨S2x16384x512, .f32⟩
  | 35 => ⟨S2x16384x512, .f32⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call2_v0 : Ref sig .tc := ⟨.hbm, 71, rfl⟩
abbrev main_call2_call0_cst : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_call0_v2 : Ref sig .tc := ⟨.hbm, 75, rfl⟩
abbrev main_call2_call0_v3 : Ref sig .tc := ⟨.hbm, 76, rfl⟩
abbrev main_call2_call0_v4 : Ref sig .tc := ⟨.hbm, 77, rfl⟩
abbrev main_call2_call0_v5 : Ref sig .tc := ⟨.hbm, 78, rfl⟩
abbrev main_call2_call0_v6 : Ref sig .tc := ⟨.hbm, 79, rfl⟩
abbrev main_call2_call0_v7 : Ref sig .tc := ⟨.hbm, 80, rfl⟩
abbrev main_call2_call0_v8 : Ref sig .tc := ⟨.hbm, 81, rfl⟩
abbrev main_call2_call0_v9 : Ref sig .tc := ⟨.hbm, 82, rfl⟩
abbrev main_call2_call0_v10 : Ref sig .tc := ⟨.hbm, 83, rfl⟩
abbrev main_call2_call0_v11 : Ref sig .tc := ⟨.hbm, 84, rfl⟩
abbrev main_call2_v1 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_0 : Ref sig .tc := ⟨.hbm, 90, rfl⟩
abbrev main_v55 : Ref sig .tc := ⟨.hbm, 91, rfl⟩
abbrev main_v56 : Ref sig .tc := ⟨.hbm, 92, rfl⟩
abbrev main_cst_1 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_call3_call0_cst : Ref sig .tc := ⟨.hbm, 100, rfl⟩
abbrev main_call3_call0_v0 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_2 : Ref sig .tc := ⟨.hbm, 111, rfl⟩
abbrev main_v72 : Ref sig .tc := ⟨.hbm, 112, rfl⟩
abbrev main_call4_v0 : Ref sig .tc := ⟨.hbm, 113, rfl⟩
abbrev main_call4_c : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_c_0 : Ref sig .tc := ⟨.hbm, 119, rfl⟩
abbrev main_call4_v5 : Ref sig .tc := ⟨.hbm, 120, rfl⟩
abbrev main_v73 : Ref sig .tc := ⟨.hbm, 121, rfl⟩
abbrev main_v74 : Ref sig .tc := ⟨.hbm, 122, rfl⟩
abbrev main_cst_3 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v75 : Ref sig .tc := ⟨.hbm, 127, rfl⟩
abbrev main_cst_4 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_5 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_6 : Ref sig .tc := ⟨.hbm, 147, rfl⟩
abbrev main_v93 : Ref sig .tc := ⟨.hbm, 148, rfl⟩
abbrev main_cst_7 : Ref sig .tc := ⟨.hbm, 149, rfl⟩
abbrev main_v94 : Ref sig .tc := ⟨.hbm, 150, rfl⟩
abbrev main_cst_8 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_9 : Ref sig .tc := ⟨.hbm, 157, rfl⟩
abbrev main_v100 : Ref sig .tc := ⟨.hbm, 158, rfl⟩
abbrev main_cst_10 : Ref sig .tc := ⟨.hbm, 159, rfl⟩
abbrev main_v101 : Ref sig .tc := ⟨.hbm, 160, rfl⟩
abbrev main_cst_11 : Ref sig .tc := ⟨.hbm, 161, rfl⟩
abbrev main_v102 : Ref sig .tc := ⟨.hbm, 162, rfl⟩
abbrev main_c_12 : Ref sig .tc := ⟨.hbm, 163, rfl⟩
abbrev main_v103_0 : Ref sig .tc := ⟨.hbm, 164, rfl⟩
abbrev main_v103_1 : Ref sig .tc := ⟨.hbm, 165, rfl⟩
abbrev main_v103_2 : Ref sig .tc := ⟨.hbm, 166, rfl⟩
abbrev main_v103_3 : Ref sig .tc := ⟨.hbm, 167, rfl⟩
abbrev main_v103_4 : Ref sig .tc := ⟨.hbm, 168, rfl⟩
abbrev main_v103_5 : Ref sig .tc := ⟨.hbm, 169, rfl⟩
abbrev main_v103_6 : Ref sig .tc := ⟨.hbm, 170, rfl⟩
abbrev main_v103_7 : Ref sig .tc := ⟨.hbm, 171, rfl⟩
abbrev main_v103_8 : Ref sig .tc := ⟨.hbm, 172, rfl⟩
abbrev main_v103_9 : Ref sig .tc := ⟨.hbm, 173, rfl⟩
abbrev main_v103_10 : Ref sig .tc := ⟨.hbm, 174, rfl⟩
abbrev main_while0c_c_27 : Ref sig .tc := ⟨.hbm, 175, rfl⟩
abbrev main_while0c_v158 : Ref sig .tc := ⟨.hbm, 176, rfl⟩
abbrev main_while0b_call6_c : Ref sig .tc := ⟨.hbm, 177, rfl⟩
abbrev main_while0b_call6_c_0 : Ref sig .tc := ⟨.hbm, 178, rfl⟩
abbrev main_while0b_call6_c_1 : Ref sig .tc := ⟨.hbm, 179, rfl⟩
abbrev main_while0b_call6_c_2 : Ref sig .tc := ⟨.hbm, 180, rfl⟩
abbrev main_while0b_call6_v0 : Ref sig .tc := ⟨.hbm, 181, rfl⟩
abbrev main_while0b_v158 : Ref sig .tc := ⟨.hbm, 182, rfl⟩
abbrev main_while0b_call7_c : Ref sig .tc := ⟨.hbm, 183, rfl⟩
abbrev main_while0b_call7_c_0 : Ref sig .tc := ⟨.hbm, 184, rfl⟩
abbrev main_while0b_call7_c_1 : Ref sig .tc := ⟨.hbm, 185, rfl⟩
abbrev main_while0b_call7_v0 : Ref sig .tc := ⟨.hbm, 186, rfl⟩
abbrev main_while0b_v159 : Ref sig .tc := ⟨.hbm, 187, rfl⟩
abbrev main_while0b_call8_c : Ref sig .tc := ⟨.hbm, 188, rfl⟩
abbrev main_while0b_call8_c_0 : Ref sig .tc := ⟨.hbm, 189, rfl⟩
abbrev main_while0b_call8_v0 : Ref sig .tc := ⟨.hbm, 190, rfl⟩
abbrev main_while0b_v160 : Ref sig .tc := ⟨.hbm, 191, rfl⟩
abbrev main_while0b_call9_c : Ref sig .tc := ⟨.hbm, 192, rfl⟩
abbrev main_while0b_call9_c_0 : Ref sig .tc := ⟨.hbm, 193, rfl⟩
abbrev main_while0b_call9_v0 : Ref sig .tc := ⟨.hbm, 194, rfl⟩
abbrev main_while0b_v161 : Ref sig .tc := ⟨.hbm, 195, rfl⟩
abbrev main_while0b_v162 : Ref sig .tc := ⟨.hbm, 196, rfl⟩
abbrev main_while0b_v163 : Ref sig .tc := ⟨.hbm, 197, rfl⟩
abbrev main_while0b_v164 : Ref sig .tc := ⟨.hbm, 198, rfl⟩
abbrev main_while0b_v165 : Ref sig .tc := ⟨.hbm, 199, rfl⟩
abbrev main_while0b_v166 : Ref sig .tc := ⟨.hbm, 200, rfl⟩
abbrev main_while0b_v167 : Ref sig .tc := ⟨.hbm, 201, rfl⟩
abbrev main_while0b_v168 : Ref sig .tc := ⟨.hbm, 202, rfl⟩
abbrev main_while0b_v169 : Ref sig .tc := ⟨.hbm, 203, rfl⟩
abbrev main_while0b_v170 : Ref sig .tc := ⟨.hbm, 204, rfl⟩
abbrev main_while0b_v171 : Ref sig .tc := ⟨.hbm, 205, rfl⟩
abbrev main_while0b_v172 : Ref sig .tc := ⟨.hbm, 206, rfl⟩
abbrev main_while0b_v173 : Ref sig .tc := ⟨.hbm, 207, rfl⟩
abbrev main_while0b_v174 : Ref sig .tc := ⟨.hbm, 208, rfl⟩
abbrev main_while0b_v175 : Ref sig .tc := ⟨.hbm, 209, rfl⟩
abbrev main_while0b_v176 : Ref sig .tc := ⟨.hbm, 210, rfl⟩
abbrev main_while0b_v177 : Ref sig .tc := ⟨.hbm, 211, rfl⟩
abbrev main_while0b_v178 : Ref sig .tc := ⟨.hbm, 212, rfl⟩
abbrev main_while0b_v179 : Ref sig .tc := ⟨.hbm, 213, rfl⟩
abbrev main_while0b_v180 : Ref sig .tc := ⟨.hbm, 214, rfl⟩
abbrev main_while0b_v181 : Ref sig .tc := ⟨.hbm, 215, rfl⟩
abbrev main_while0b_v182 : Ref sig .tc := ⟨.hbm, 216, rfl⟩
abbrev main_while0b_call10_v0 : Ref sig .tc := ⟨.hbm, 217, rfl⟩
abbrev main_while0b_call10_c : Ref sig .tc := ⟨.hbm, 218, rfl⟩
abbrev main_while0b_call10_c_0 : Ref sig .tc := ⟨.hbm, 219, rfl⟩
abbrev main_while0b_call10_c_1 : Ref sig .tc := ⟨.hbm, 220, rfl⟩
abbrev main_while0b_call10_c_2 : Ref sig .tc := ⟨.hbm, 221, rfl⟩
abbrev main_while0b_v183 : Ref sig .tc := ⟨.hbm, 222, rfl⟩
abbrev main_while0b_call11_v0 : Ref sig .tc := ⟨.hbm, 223, rfl⟩
abbrev main_while0b_call11_c : Ref sig .tc := ⟨.hbm, 224, rfl⟩
abbrev main_while0b_call11_c_0 : Ref sig .tc := ⟨.hbm, 225, rfl⟩
abbrev main_while0b_call11_c_1 : Ref sig .tc := ⟨.hbm, 226, rfl⟩
abbrev main_while0b_v184 : Ref sig .tc := ⟨.hbm, 227, rfl⟩
abbrev main_while0b_call12_v0 : Ref sig .tc := ⟨.hbm, 228, rfl⟩
abbrev main_while0b_call12_c : Ref sig .tc := ⟨.hbm, 229, rfl⟩
abbrev main_while0b_call12_c_0 : Ref sig .tc := ⟨.hbm, 230, rfl⟩
abbrev main_while0b_v185 : Ref sig .tc := ⟨.hbm, 231, rfl⟩
abbrev main_while0b_c_27 : Ref sig .tc := ⟨.hbm, 232, rfl⟩
abbrev main_while0b_v186 : Ref sig .tc := ⟨.hbm, 233, rfl⟩
abbrev main_v104 : Ref sig .tc := ⟨.hbm, 234, rfl⟩
abbrev main_v105 : Ref sig .tc := ⟨.hbm, 235, rfl⟩
abbrev main_v106 : Ref sig .tc := ⟨.hbm, 236, rfl⟩
abbrev main_v107 : Ref sig .tc := ⟨.hbm, 237, rfl⟩
abbrev main_v108 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_v116 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩
abbrev main_v120 : Ref sig .tc := ⟨.hbm, 250, rfl⟩
abbrev main_v121 : Ref sig .tc := ⟨.hbm, 251, rfl⟩
abbrev main_v122 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_v127 : Ref sig .tc := ⟨.hbm, 257, rfl⟩
abbrev main_cst_13 : Ref sig .tc := ⟨.hbm, 258, rfl⟩
abbrev main_v128 : Ref sig .tc := ⟨.hbm, 259, rfl⟩
abbrev main_v129 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_cst_14 : Ref sig .tc := ⟨.hbm, 276, rfl⟩
abbrev main_v145 : Ref sig .tc := ⟨.hbm, 277, rfl⟩
abbrev main_v146 : Ref sig .tc := ⟨.hbm, 278, rfl⟩
abbrev main_cst_15 : Ref sig .tc := ⟨.hbm, 279, rfl⟩
abbrev main_v147 : Ref sig .tc := ⟨.hbm, 280, rfl⟩
abbrev main_v148 : Ref sig .tc := ⟨.hbm, 281, rfl⟩
abbrev main_cst_16 : Ref sig .tc := ⟨.hbm, 282, rfl⟩
abbrev main_v149 : Ref sig .tc := ⟨.hbm, 283, rfl⟩
abbrev main_v150 : Ref sig .tc := ⟨.hbm, 284, rfl⟩
abbrev main_v151 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩

abbrev nD : Nat := 1
abbrev τ : Topo := Topo.v7x

variable {F : FTy → Type} [FloatOps F]

abbrev main_while0_count : Scf.Loop 32 := ⟨0#32, 128#32, 1#32⟩
-- ==== Proof.Spec.lean ====
/-
  The selective state-space scan, one chunk of 128 tokens of one sequence at a time, written over the extended reals.
  A chunk is given by its convolved and gated channels `xb` (1024 channels of values, then the two groups' input
  vectors, then their output vectors), its step sizes `dt`, the running sums `ac` of its log decays, and the state `s`
  it starts from.
-/
module

public import Idealize.ShloMosaic.Lib.Pointwise

@[expose] public section

noncomputable section

open Idealize.ShloMosaic

namespace Cert.Ssd

/-- The channel of `xb` holding value lane `p` of head `h`. -/
def xIx (h : Fin 16) (p : Fin 64) : Fin 1280 := ⟨h.val * 64 + p.val, by omega⟩

/-- The channel of `xb` holding entry `n` of the input vector of the group of head `h`. -/
def bIx (h : Fin 16) (n : Fin 64) : Fin 1280 := ⟨1024 + h.val / 8 * 64 + n.val, by omega⟩

/-- The channel of `xb` holding entry `n` of the output vector of the group of head `h`. -/
def cIx (h : Fin 16) (n : Fin 64) : Fin 1280 := ⟨1152 + h.val / 8 * 64 + n.val, by omega⟩

/-- The state a chunk leaves: the one it found, decayed over the whole chunk, plus each token's contribution decayed
    from that token to the chunk's end. -/
def newState (xb : Fin 128 → Fin 1280 → EReal) (dt ac : Fin 128 → Fin 16 → EReal) (s : Fin 16 → Fin 64 → Fin 64 → EReal)
    (h : Fin 16) (p n : Fin 64) : EReal :=
  s h p n * Ideal.exp (ac 127 h) + ∑ l : Fin 128, xb l (bIx h n) * (xb l (xIx h p) * dt l h * Ideal.exp (ac 127 h - ac l h))

/-- The decay from token `r` to token `l` of a chunk: nothing passes from a later token to an earlier one. -/
def decay (ac : Fin 128 → Fin 16 → EReal) (h : Fin 16) (l r : Fin 128) : EReal :=
  Ideal.exp (if r ≤ l then ac l h - ac r h else ⊥)

/-- What head `h` computes at token `l`, lane `p`: the contributions of the chunk's own tokens up to `l`, what the state
    found gives, and the token's own value times the head's skip weight `dk`. -/
def head (xb : Fin 128 → Fin 1280 → EReal) (dt ac : Fin 128 → Fin 16 → EReal) (s : Fin 16 → Fin 64 → Fin 64 → EReal)
    (dk : Fin 16 → Fin 64 → EReal) (h : Fin 16) (l : Fin 128) (p : Fin 64) : EReal :=
  (∑ r : Fin 128, (∑ n : Fin 64, xb l (cIx h n) * xb r (bIx h n)) * decay ac h l r * (xb r (xIx h p) * dt r h))
    + (∑ n : Fin 64, xb l (cIx h n) * s h p n) * Ideal.exp (ac l h) + xb l (xIx h p) * dk h p

/-- Head `h` as one of the 128 lanes in which the kernel keeps per-head values. -/
def lane (h : Fin 16) : Fin 128 := ⟨h.val, by omega⟩

/-- The head of lane `q` of a group's 512 value lanes, for group `g`. -/
def hOf (g : Fin 2) (q : Fin 512) : Fin 16 := ⟨g.val * 8 + q.val / 64, by omega⟩

/-- The place of that lane within its head. -/
def pOf (q : Fin 512) : Fin 64 := ⟨q.val % 64, by omega⟩

/-- The head of lane `q` of all 1024 value lanes. -/
def hOf' (q : Fin 1024) : Fin 16 := ⟨q.val / 64, by omega⟩

/-- The place of that lane within its head. -/
def pOf' (q : Fin 1024) : Fin 64 := ⟨q.val % 64, by omega⟩

/-- The group of head `h`. -/
def gOf (h : Fin 16) : Fin 2 := ⟨h.val / 8, by omega⟩

/-- The lane of its group's 512 that holds place `p` of head `h`. -/
def qOf (h : Fin 16) (p : Fin 64) : Fin 512 := ⟨h.val % 8 * 64 + p.val, by omega⟩

/-- Lane `k` of group `g`, among all 1024 value lanes. -/
def wIx (g : Fin 2) (k : Fin 512) : Fin 1024 := ⟨g.val * 512 + k.val, by omega⟩

/-- The gate `z · σ(z)`. -/
def gate (z : EReal) : EReal := z * Ideal.logistic z

/-- `log (1 + eᵛ)`, computed without overflow. -/
def softplus (v : EReal) : EReal := max v 0 + Ideal.log1p (Ideal.exp (0 - FloatOps.absf (F := Ideal) (φ := .f32) v))

/-- The gated heads normalised over each group of 512 lanes and scaled: `v / √(mean v² + ε) · ng`. -/
def normed (y z : Fin 128 → Fin 1024 → EReal) (ng : Fin 1024 → EReal) (l : Fin 128) (g : Fin 2) (k : Fin 512) : EReal :=
  y l (wIx g k) * gate (z l (wIx g k))
    * Ideal.rsqrt (Ideal.div (∑ r : Fin 512, y l (wIx g r) * gate (z l (wIx g r)) * (y l (wIx g r) * gate (z l (wIx g r))))
        (Ideal.ofBits FTy.f32 1140850688#32) + Ideal.ofBits FTy.f32 897988541#32)
    * ng (wIx g k)

/-- The group of lane `q` of all 1024, and its place there. -/
def gOf' (q : Fin 1024) : Fin 2 := ⟨q.val / 512, by omega⟩
def kOf' (q : Fin 1024) : Fin 512 := ⟨q.val % 512, by omega⟩

theorem hOf'_add (o : ℕ) (p : Fin 64) (h : o + p.val < 1024) (ho : o % 64 = 0) :
    hOf' ⟨o + p.val, h⟩ = ⟨o / 64, by omega⟩ := Fin.ext (by simp only [hOf']; omega)

theorem pOf'_add (o : ℕ) (p : Fin 64) (h : o + p.val < 1024) (ho : o % 64 = 0) : pOf' ⟨o + p.val, h⟩ = p :=
  Fin.ext (by simp only [pOf']; omega)

theorem gOf'_add (o : ℕ) (k : Fin 512) (h : o + k.val < 1024) (ho : o % 512 = 0) :
    gOf' ⟨o + k.val, h⟩ = ⟨o / 512, by omega⟩ := Fin.ext (by simp only [gOf']; omega)

theorem kOf'_add (o : ℕ) (k : Fin 512) (h : o + k.val < 1024) (ho : o % 512 = 0) : kOf' ⟨o + k.val, h⟩ = k :=
  Fin.ext (by simp only [kOf']; omega)

theorem hOf_mk (g : Fin 2) (j : Fin 8) (p : Fin 64) (h : j.val * 64 + p.val < 512) :
    hOf g ⟨j.val * 64 + p.val, h⟩ = ⟨g.val * 8 + j.val, by omega⟩ := Fin.ext (by simp only [hOf]; omega)

theorem pOf_mk (j : Fin 8) (p : Fin 64) (h : j.val * 64 + p.val < 512) : pOf ⟨j.val * 64 + p.val, h⟩ = p :=
  Fin.ext (by simp only [pOf]; omega)

/-- A lane of a group, by its head within the group and its place in the head. -/
theorem exists_lane (q : Fin 512) : ∃ (j : Fin 8) (p : Fin 64), q = ⟨j.val * 64 + p.val, by omega⟩ :=
  ⟨⟨q.val / 64, by omega⟩, ⟨q.val % 64, by omega⟩, Fin.ext (by dsimp only; omega)⟩

/-- The arrays a call is given: the projected inputs and their small columns, the convolution's weights and bias, the step
    bias, the log decay rates, the skip and the norm's weights. -/
structure Data where
  u : Fin 2 → Fin 16384 → Fin 2304 → EReal
  sm : Fin 2 → Fin 16384 → Fin 128 → EReal
  w : Fin 4 → Fin 1280 → EReal
  cb : Fin 1280 → EReal
  dtb : Fin 16 → EReal
  alog : Fin 16 → EReal
  dsk : Fin 16 → EReal
  ng : Fin 1024 → EReal

/-- Step `l` of chunk `c`, in the sequence. -/
def tIx (c : ℕ) (l : Fin 128) : Fin 16384 := ⟨(c * 128 + l.val) % 16384, Nat.mod_lt _ (by omega)⟩

namespace Data
variable (D : Data)

/-- The channels' input `3 - k` steps before step `t`, zero before the sequence's start. -/
def lag (b : Fin 2) (t : Fin 16384) (k : ℕ) (j : Fin 1280) : EReal :=
  if t.val + k < 3 then 0 else D.u b ⟨(t.val + k - 3) % 16384, Nat.mod_lt _ (by omega)⟩ ⟨1024 + j.val, by omega⟩

/-- The causal convolution over four steps, with its bias. -/
def conv (b : Fin 2) (t : Fin 16384) (j : Fin 1280) : EReal :=
  D.cb j + D.u b t ⟨1024 + j.val, by omega⟩ * D.w 3 j + D.lag b t 0 j * D.w 0 j + D.lag b t 1 j * D.w 1 j
    + D.lag b t 2 j * D.w 2 j

/-- The gated channels of chunk `c`. -/
def xb (b : Fin 2) (c : ℕ) (l : Fin 128) (j : Fin 1280) : EReal := gate (D.conv b (tIx c l) j)

/-- The step sizes of chunk `c`. -/
def dt (b : Fin 2) (c : ℕ) (l : Fin 128) (h : Fin 16) : EReal :=
  softplus (D.sm b (tIx c l) ⟨h.val, by omega⟩ + D.dtb h)

/-- The running sums, within chunk `c`, of the log decays. -/
def ac (b : Fin 2) (c : ℕ) (l : Fin 128) (h : Fin 16) : EReal :=
  ∑ r : Fin 128, if r ≤ l then D.dt b c r h * -Ideal.exp (D.alog h) else 0

/-- The state entering chunk `c`. -/
def st (b : Fin 2) : ℕ → Fin 16 → Fin 64 → Fin 64 → EReal
  | 0 => fun _ _ _ => 0
  | c + 1 => newState (D.xb b c) (D.dt b c) (D.ac b c) (st b c)

/-- The heads of chunk `c`. -/
def y (b : Fin 2) (c : ℕ) (l : Fin 128) (q : Fin 1024) : EReal :=
  head (D.xb b c) (D.dt b c) (D.ac b c) (D.st b c) (fun h _ => D.dsk h) (hOf' q) l (pOf' q)

/-- The result at step `l` of chunk `c`. -/
def out (b : Fin 2) (c : ℕ) (l : Fin 128) (q : Fin 1024) : EReal :=
  normed (D.y b c) (fun l q => D.u b (tIx c l) ⟨q.val, by omega⟩) D.ng l (gOf' q) (kOf' q)

end Data

end Cert.Ssd

end

end
-- ==== Proof.Mask.lean ====
module

public import proofs.«01_k».proof.Proof.Spec
public import Idealize.ShloMosaic.Lib.Pointwise
public import Idealize.ShloMosaic.Lib.Tactic.WordOmega

@[expose] public section
noncomputable section
open Idealize.ShloMosaic
namespace Cert.Ssd

theorem neg_inf_f32 : Ideal.ofBits FTy.f32 4286578688#32 = ⊥ := by
  simp [Ideal.ofBits, Ideal.ieee]

/-- The causal mask: a comparison of two row numbers as words decides `r ≤ l`. -/
theorem mask_eq (l r : Fin 128) (a : EReal) :
    Scalar.select (IntOp.cmpi CmpIPredicate.sge (BitVec.ofNat 32 l.val) (BitVec.ofNat 32 r.val)) a (Ideal.ofBits FTy.f32 4286578688#32)
      = if r ≤ l then a else ⊥ := by
  rw [neg_inf_f32]
  have hl := l.isLt
  have hr := r.isLt
  by_cases h : r ≤ l
  · have hv : r.val ≤ l.val := h
    rw [if_pos h, show IntOp.cmpi CmpIPredicate.sge (BitVec.ofNat 32 l.val) (BitVec.ofNat 32 r.val) = 1#1 by word_omega]
    rfl
  · have hv : ¬ r.val ≤ l.val := h
    rw [if_neg h, show IntOp.cmpi CmpIPredicate.sge (BitVec.ofNat 32 l.val) (BitVec.ofNat 32 r.val) = 0#1 by word_omega]
    rfl

end Cert.Ssd
-- ==== Proof.KHost.lean ====
module

public import proofs.«01_k».proof.Proof.Gen.KernelIdeal.Value
public import proofs.«01_k».proof.Proof.Mask
public import Idealize.ShloMosaic.Lib.Pointwise
public import Idealize.ShloMosaic.Lib.StableHlo.ReadAt
public import Idealize.ShloMosaic.Lib.Tactic.WordOmega
public import Idealize.ShloMosaic.Lib.Routing.OpsPair
public import Idealize.ShloMosaic.Lib.Routing.OpsSet

@[expose] public section
set_option maxRecDepth 16384
noncomputable section
open Idealize.ShloMosaic Idealize.ShloMosaic.TcCoe Idealize.SL.Sem
namespace Cert.KernelIdeal.Value
open Cert.KernelIdeal Cert.KernelIdeal.Gen Cert.Ssd

variable (m : (ℓ : Loc nD τ sig) → Buf (Elt Ideal) ℓ) (c : Dev nD)

/-- The triangle of ones the kernel's running sums are products with. -/
theorem V_tril (l r : Fin 128) : (V m c main_v1 : Vec Ideal S128x128 .f32) (ix2 l r) = (if r ≤ l then 1 else 0 : EReal) := by
  unfold V
  after_reads_at
  have hl := l.isLt
  have hr := r.isLt
  by_cases h : r ≤ l
  · have hv : r.val ≤ l.val := h
    rw [if_pos h, show IntOp.cmpi CmpIPredicate.sge (IntOp.addi (BitVec.ofNat 32 l.val) 0#32) (BitVec.ofNat 32 r.val) = 1#1 by word_omega]
    rfl
  · have hv : ¬ r.val ≤ l.val := h
    rw [if_neg h, show IntOp.cmpi CmpIPredicate.sge (IntOp.addi (BitVec.ofNat 32 l.val) 0#32) (BitVec.ofNat 32 r.val) = 0#1 by word_omega]
    rfl

theorem V_cb (j : Fin 1280) : (V m c main_v2 : Vec Ideal S1x1280 .f32) (ix2 0 j) = (m ((c : Thread nD τ).loc main_arg3) : Vec Ideal S1280 .f32) (ix1 j) := by
  unfold V
  after_reads_at

/-- Sixteen values written at the start of a row of 128 are found there. -/
theorem scatter_lane (x : S1x128.Idx → EReal) (idx : IVec S2 32) (hidx : ∀ k, idx k = 0#32) (u : S16.Idx → EReal) (h : Fin 16) :
    Host.scatter scatter_S1x128_S2_S16_0_0_01_0 (fun _ b => b) x idx u (ix2 0 (lane h)) = u (ix1 h) := by
  have hs : ∀ (k : S16.Idx) a, scatter_S1x128_S2_S16_0_0_01_0.start k idx a = 0 := by
    intro k a
    unfold ScatterDims.start
    simp only [hidx]
    split <;> rfl
  have hw : ∀ (k : S16.Idx), scatter_S1x128_S2_S16_0_0_01_0.window k 0 = 0 ∧ scatter_S1x128_S2_S16_0_0_01_0.window k 1 = (k 0).val :=
    fun k => ⟨rfl, rfl⟩
  refine Routing.scatter_set_hit _ x idx u _ _ (fun k hk => ?_) (ix1 h) ?_
  · have := (Routing.resultIdx?_eq_some _ _ _ _).1 hk 1
    rw [hs, (hw k).2] at this
    have e : k = ix1 h := by
      funext a
      match a with
      | ⟨0, _⟩ => exact Fin.ext (by have t : (0 : ℤ) + ((k 0).val : ℤ) = (h.val : ℤ) := this; show (k 0).val = h.val; omega)
    rw [e]
  · refine (Routing.resultIdx?_eq_some _ _ _ _).2 fun a => ?_
    rw [hs]
    match a with
    | ⟨0, _⟩ => exact congrArg (fun n : ℕ => (0 : ℤ) + (n : ℤ)) (hw (ix1 h)).1
    | ⟨1, _⟩ => exact (congrArg (fun n : ℕ => (0 : ℤ) + (n : ℤ)) (hw (ix1 h)).2).trans (zero_add _)

/-- A pair of zero words is zero. -/
theorem pair_zero (a b : IVec S1 32) (ha : ∀ k, a k = 0#32) (hb : ∀ k, b k = 0#32) (k : S2.Idx) :
    concatenate S2 0 [⟨S1, a⟩, ⟨S1, b⟩] concatenates_S1_S1_S2_d0 k = 0#32 := by
  obtain ⟨j, rfl⟩ : ∃ j, k = ix1 j := ⟨k 0, ValueIdx.eq_ix1 k⟩
  pointwise
  split_ifs
  all_goals first | exact ha _ | exact hb _

/-- The padded step bias. -/
theorem V_dtb (h : Fin 16) : (V m c main_v7 : Vec Ideal S1x128 .f32) (ix2 0 (lane h)) = (m ((c : Thread nD τ).loc main_arg4) : Vec Ideal S16 .f32) (ix1 h) := by
  unfold V
  after_reads_simp
  refine scatter_lane _ _ (pair_zero _ _ (fun k => ?_) (fun k => ?_)) _ h
  all_goals
    after_reads_simp
    rfl

/-- The padded decay rates. -/
theorem V_nega (h : Fin 16) : (V m c main_v14 : Vec Ideal S1x128 .f32) (ix2 0 (lane h)) = -Ideal.exp ((m ((c : Thread nD τ).loc main_arg5) : Vec Ideal S16 .f32) (ix1 h)) := by
  unfold V
  after_reads_simp
  refine (scatter_lane _ _ (pair_zero _ _ (fun k => ?_) (fun k => ?_)) _ h).trans ?_
  · after_reads_simp
    rfl
  · after_reads_simp
    rfl
  · pointwise

theorem V_dsk (q : Fin 1024) : (V m c main_v17 : Vec Ideal S1x1024 .f32) (ix2 0 q) = (m ((c : Thread nD τ).loc main_arg6) : Vec Ideal S16 .f32) (ix1 (hOf' q)) := by
  unfold V
  after_reads_at
  rfl

theorem V_ng (q : Fin 1024) : (V m c main_v18 : Vec Ideal S1x1024 .f32) (ix2 0 q) = (m ((c : Thread nD τ).loc main_arg7) : Vec Ideal S1024 .f32) (ix1 q) := by
  unfold V
  after_reads_at

end Cert.KernelIdeal.Value
-- ==== Proof.KBlk.lean ====
module

public import proofs.«01_k».proof.Proof.Gen.KernelIdeal.Value
public import proofs.«01_k».proof.Proof.KHost

@[expose] public section
set_option maxRecDepth 16384
noncomputable section
open Idealize.ShloMosaic Idealize.ShloMosaic.TcCoe Idealize.SL.Sem
namespace Cert.KernelIdeal.Value
open Cert.KernelIdeal Cert.KernelIdeal.Gen Cert.Ssd

variable (m : (ℓ : Loc nD τ sig) → Buf (Elt Ideal) ℓ) (c : Dev nD)

/-- The batch entry and the chunk of a grid point. -/
theorem index_u : ∀ t : Fin cfg0.N, win0_0.index t (0 : Fin 3) = t.val / 128 ∧ win0_0.index t (1 : Fin 3) = t.val % 128 ∧ win0_0.index t (2 : Fin 3) = 0 := by
  decide +kernel

theorem index_sm : ∀ t : Fin cfg0.N, win0_1.index t (0 : Fin 3) = t.val / 128 ∧ win0_1.index t (1 : Fin 3) = t.val % 128 ∧ win0_1.index t (2 : Fin 3) = 0 := by
  decide +kernel

/-- The point's rows of the projected inputs. -/
theorem iblk_u (t : Fin cfg0.N) (l : Fin 128) (j : Fin 2304) :
    (iblk m c 0 t : Vec Ideal S1x128x2304 .f32) (ix3 0 l j)
      = (m ((c : Thread nD τ).loc main_arg0) : Vec Ideal S2x16384x2304 .f32) (ix3 ⟨t.val / 128, by have : t.val < 256 := t.isLt; omega⟩ ⟨t.val % 128 * 128 + l.val, by omega⟩ j) := by
  rw [← V_main_arg0 m c]
  obtain ⟨h0, h1, h2⟩ := index_u t
  unfold iblk
  rw [View.read_apply]
  show V m c main_arg0 _ = V m c main_arg0 _
  refine congrArg (V m c main_arg0) ?_
  funext a
  apply Fin.ext
  match a with
  | ⟨0, _⟩ => show win0_0.index t 0 * 1 + 1 * 0 = t.val / 128; omega
  | ⟨1, _⟩ => show win0_0.index t 1 * 128 + 1 * l.val = t.val % 128 * 128 + l.val; omega
  | ⟨2, _⟩ => show win0_0.index t 2 * 2304 + 1 * j.val = j.val; omega

/-- The point's rows of the small columns. -/
theorem iblk_sm (t : Fin cfg0.N) (l : Fin 128) (j : Fin 128) :
    (iblk m c 1 t : Vec Ideal S1x128x128 .f32) (ix3 0 l j)
      = (m ((c : Thread nD τ).loc main_arg1) : Vec Ideal S2x16384x128 .f32) (ix3 ⟨t.val / 128, by have : t.val < 256 := t.isLt; omega⟩ ⟨t.val % 128 * 128 + l.val, by omega⟩ j) := by
  rw [← V_main_arg1 m c]
  obtain ⟨h0, h1, h2⟩ := index_sm t
  unfold iblk
  rw [View.read_apply]
  show V m c main_arg1 _ = V m c main_arg1 _
  refine congrArg (V m c main_arg1) ?_
  funext a
  apply Fin.ext
  match a with
  | ⟨0, _⟩ => show win0_1.index t 0 * 1 + 1 * 0 = t.val / 128; omega
  | ⟨1, _⟩ => show win0_1.index t 1 * 128 + 1 * l.val = t.val % 128 * 128 + l.val; omega
  | ⟨2, _⟩ => show win0_1.index t 2 * 128 + 1 * j.val = j.val; omega

/-- The convolution's weights are one window. -/
theorem iblk_w (t : Fin cfg0.N) : (iblk m c 2 t : Vec Ideal S4x1280 .f32) = V m c main_arg2 := by
  funext i
  unfold iblk
  rw [View.read_apply]
  exact congrArg (V m c main_arg2) (funext fun a => Fin.ext (Pipeline.Window.rect_emb_val_of_index_zero win0_2 t a (by match a with | ⟨0, _⟩ => rfl | ⟨1, _⟩ => rfl) i))

/-- So is its bias. -/
theorem iblk_cb (t : Fin cfg0.N) : (iblk m c 3 t : Vec Ideal S1x1280 .f32) = V m c main_v2 := by
  funext i
  unfold iblk
  rw [View.read_apply]
  exact congrArg (V m c main_v2) (funext fun a => Fin.ext (Pipeline.Window.rect_emb_val_of_index_zero win0_3 t a (by match a with | ⟨0, _⟩ => rfl | ⟨1, _⟩ => rfl) i))

/-- So is the padded step bias. -/
theorem iblk_dtb (t : Fin cfg0.N) : (iblk m c 4 t : Vec Ideal S1x128 .f32) = V m c main_v7 := by
  funext i
  unfold iblk
  rw [View.read_apply]
  exact congrArg (V m c main_v7) (funext fun a => Fin.ext (Pipeline.Window.rect_emb_val_of_index_zero win0_4 t a (by match a with | ⟨0, _⟩ => rfl | ⟨1, _⟩ => rfl) i))

/-- So are the padded decay rates. -/
theorem iblk_nega (t : Fin cfg0.N) : (iblk m c 5 t : Vec Ideal S1x128 .f32) = V m c main_v14 := by
  funext i
  unfold iblk
  rw [View.read_apply]
  exact congrArg (V m c main_v14) (funext fun a => Fin.ext (Pipeline.Window.rect_emb_val_of_index_zero win0_5 t a (by match a with | ⟨0, _⟩ => rfl | ⟨1, _⟩ => rfl) i))

/-- So is the repeated skip. -/
theorem iblk_dsk (t : Fin cfg0.N) : (iblk m c 6 t : Vec Ideal S1x1024 .f32) = V m c main_v17 := by
  funext i
  unfold iblk
  rw [View.read_apply]
  exact congrArg (V m c main_v17) (funext fun a => Fin.ext (Pipeline.Window.rect_emb_val_of_index_zero win0_6 t a (by match a with | ⟨0, _⟩ => rfl | ⟨1, _⟩ => rfl) i))

/-- So are the norm's weights. -/
theorem iblk_ng (t : Fin cfg0.N) : (iblk m c 7 t : Vec Ideal S1x1024 .f32) = V m c main_v18 := by
  funext i
  unfold iblk
  rw [View.read_apply]
  exact congrArg (V m c main_v18) (funext fun a => Fin.ext (Pipeline.Window.rect_emb_val_of_index_zero win0_7 t a (by match a with | ⟨0, _⟩ => rfl | ⟨1, _⟩ => rfl) i))

/-- So is the triangle of ones. -/
theorem iblk_tril (t : Fin cfg0.N) : (iblk m c 8 t : Vec Ideal S128x128 .f32) = V m c main_v1 := by
  funext i
  unfold iblk
  rw [View.read_apply]
  exact congrArg (V m c main_v1) (funext fun a => Fin.ext (Pipeline.Window.rect_emb_val_of_index_zero win0_8 t a (by match a with | ⟨0, _⟩ => rfl | ⟨1, _⟩ => rfl) i))

/-- The call's arrays as the layer's data. -/
def dataK : Data where
  u b t j := (m ((c : Thread nD τ).loc main_arg0) : Vec Ideal S2x16384x2304 .f32) (ix3 b t j)
  sm b t j := (m ((c : Thread nD τ).loc main_arg1) : Vec Ideal S2x16384x128 .f32) (ix3 b t j)
  w k j := (m ((c : Thread nD τ).loc main_arg2) : Vec Ideal S4x1280 .f32) (ix2 k j)
  cb j := (m ((c : Thread nD τ).loc main_arg3) : Vec Ideal S1280 .f32) (ix1 j)
  dtb h := (m ((c : Thread nD τ).loc main_arg4) : Vec Ideal S16 .f32) (ix1 h)
  alog h := (m ((c : Thread nD τ).loc main_arg5) : Vec Ideal S16 .f32) (ix1 h)
  dsk h := (m ((c : Thread nD τ).loc main_arg6) : Vec Ideal S16 .f32) (ix1 h)
  ng q := (m ((c : Thread nD τ).loc main_arg7) : Vec Ideal S1024 .f32) (ix1 q)

/-- The batch entry of a point. -/
def bOf (t : Fin cfg0.N) : Fin 2 := ⟨t.val / 128, by have : t.val < 256 := t.isLt; omega⟩

/-- The chunk of a point. -/
def cOf (t : Fin cfg0.N) : ℕ := t.val % 128

theorem u_at (t : Fin cfg0.N) (l : Fin 128) (j : Fin 2304) :
    (iblk m c 0 t : Vec Ideal S1x128x2304 .f32) (ix3 0 l j) = (dataK m c).u (bOf t) (tIx (cOf t) l) j := by
  rw [iblk_u]
  refine congrArg (fun r => (m ((c : Thread nD τ).loc main_arg0) : Vec Ideal S2x16384x2304 .f32) (ix3 _ r j)) (Fin.ext ?_)
  show t.val % 128 * 128 + l.val = (t.val % 128 * 128 + l.val) % 16384
  omega

theorem sm_at (t : Fin cfg0.N) (l : Fin 128) (j : Fin 128) :
    (iblk m c 1 t : Vec Ideal S1x128x128 .f32) (ix3 0 l j) = (dataK m c).sm (bOf t) (tIx (cOf t) l) j := by
  rw [iblk_sm]
  refine congrArg (fun r => (m ((c : Thread nD τ).loc main_arg1) : Vec Ideal S2x16384x128 .f32) (ix3 _ r j)) (Fin.ext ?_)
  show t.val % 128 * 128 + l.val = (t.val % 128 * 128 + l.val) % 16384
  omega

theorem w_at (t : Fin cfg0.N) (k : Fin 4) (j : Fin 1280) : (iblk m c 2 t : Vec Ideal S4x1280 .f32) (ix2 k j) = (dataK m c).w k j := by
  rw [iblk_w, V_main_arg2]; rfl

theorem cb_at (t : Fin cfg0.N) (j : Fin 1280) : (iblk m c 3 t : Vec Ideal S1x1280 .f32) (ix2 0 j) = (dataK m c).cb j := by
  rw [iblk_cb, V_cb]; rfl

theorem dtb_at (t : Fin cfg0.N) (h : Fin 16) : (iblk m c 4 t : Vec Ideal S1x128 .f32) (ix2 0 (lane h)) = (dataK m c).dtb h := by
  rw [iblk_dtb, V_dtb]; rfl

theorem nega_at (t : Fin cfg0.N) (h : Fin 16) : (iblk m c 5 t : Vec Ideal S1x128 .f32) (ix2 0 (lane h)) = -Ideal.exp ((dataK m c).alog h) := by
  rw [iblk_nega, V_nega]; rfl

theorem dsk_at (t : Fin cfg0.N) (q : Fin 1024) : (iblk m c 6 t : Vec Ideal S1x1024 .f32) (ix2 0 q) = (dataK m c).dsk (hOf' q) := by
  rw [iblk_dsk, V_dsk]; rfl

theorem ng_at (t : Fin cfg0.N) (q : Fin 1024) : (iblk m c 7 t : Vec Ideal S1x1024 .f32) (ix2 0 q) = (dataK m c).ng q := by
  rw [iblk_ng, V_ng]; rfl

theorem tril_at (t : Fin cfg0.N) (l r : Fin 128) : (iblk m c 8 t : Vec Ideal S128x128 .f32) (ix2 l r) = (if r ≤ l then 1 else 0 : EReal) := by
  rw [iblk_tril, V_tril]

end Cert.KernelIdeal.Value
-- ==== Proof.KDefs.lean ====
module

public import proofs.«01_k».proof.Proof.Gen.KernelIdeal.Value
public import proofs.«01_k».proof.Proof.Spec
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ssd

variable (x0 : Vec Ideal S1x128x2304 .f32) (x1 : Vec Ideal S1x128x128 .f32) (x2 : Vec Ideal S4x1280 .f32) (x3 : Vec Ideal S1x1280 .f32) (x4 : Vec Ideal S1x128 .f32) (x5 : Vec Ideal S1x128 .f32) (x6 : Vec Ideal S1x1024 .f32) (x7 : Vec Ideal S1x1024 .f32) (x8 : Vec Ideal S128x128 .f32)

/-- The channels of the chunk as they arrive, before the convolution: the last 1280 columns of its block. -/
def curK : FVec Ideal S128x1280 .f32 :=
  k0_pay7 (View.ld x0 (Rect.unit ![0, 0, 1024] S1x128x1280.size inb_S1x128x2304_S1x128x1280_0_0_1024))

/-- The chunk's channels after the convolution and the gate, from the three shifted windows `e5`, `e6`, `e7` of the
    extended block and the block itself. -/
def xbK (e5 e6 e7 : FVec Ideal S128x1280 .f32) : FVec Ideal S128x1280 .f32 :=
  k0_pay10 (k0_pay8 (View.ld x0 (Rect.unit ![0, 0, 1024] S1x128x1280.size inb_S1x128x2304_S1x128x1280_0_0_1024))
      (View.ld x3 (Rect.unit ![0, 0] S1x1280.size inb_S1x1280_S1x1280_0_0))
      (View.ld x2 (Rect.unit ![3, 0] S1x1280.size inb_S4x1280_S1x1280_3_0)) e5
      (View.ld x2 (Rect.unit ![0, 0] S1x1280.size inb_S4x1280_S1x1280_0_0)) e6
      (View.ld x2 (Rect.unit ![1, 0] S1x1280.size inb_S4x1280_S1x1280_1_0)))
    e7 (View.ld x2 (Rect.unit ![2, 0] S1x1280.size inb_S4x1280_S1x1280_2_0))

/-- The step sizes. -/
def dtK : FVec Ideal S128x128 .f32 :=
  k0_pay12 (View.ld x1 (Rect.unit ![0, 0, 0] S1x128x128.size inb_S1x128x128_S1x128x128_0_0_0))
    (View.ld x4 (Rect.unit ![0, 0] S1x128.size inb_S1x128_S1x128_0_0))

/-- The running sums of the log decays. -/
def acK : FVec Ideal S128x128 .f32 :=
  k0_pay13 (View.ld x1 (Rect.unit ![0, 0, 0] S1x128x128.size inb_S1x128x128_S1x128x128_0_0_0))
    (View.ld x4 (Rect.unit ![0, 0] S1x128.size inb_S1x128_S1x128_0_0))
    (View.ld x5 (Rect.unit ![0, 0] S1x128.size inb_S1x128_S1x128_0_0))
    (View.ld x8 (Rect.unit ![0, 0] S128x128.size inb_S128x128_S128x128_0_0))

/-- The state a chunk leaves, laid out as the kernel's state buffer: group, entry, lane of the group. -/
def stateArr (XB : FVec Ideal S128x1280 .f32) (DT AC : FVec Ideal S128x128 .f32) (s : Fin 16 → Fin 64 → Fin 64 → EReal) :
    Vec Ideal S2x64x512 .f32 := fun i =>
  newState (fun l j => XB (ix2 l j)) (fun l h => DT (ix2 l (lane h))) (fun l h => AC (ix2 l (lane h))) s
    (hOf (i 0) (i 2)) (pOf (i 2)) (i 1)

/-- The heads of a chunk side by side, as the kernel's output block holds them before the normalisation. -/
def headArr (XB : FVec Ideal S128x1280 .f32) (DT AC : FVec Ideal S128x128 .f32) (s : Fin 16 → Fin 64 → Fin 64 → EReal)
    (dk : Fin 1024 → EReal) : Vec Ideal S1x128x1024 .f32 := fun i =>
  head (fun l j => XB (ix2 l j)) (fun l h => DT (ix2 l (lane h))) (fun l h => AC (ix2 l (lane h))) s
    (fun h p => dk ⟨h.val * 64 + p.val, by omega⟩) (hOf' (i 2)) (i 1) (pOf' (i 2))

/-- The gate's columns of a block: its first 1024. -/
def zK (l : Fin 128) (q : Fin 1024) : EReal := x0 (ix3 0 l ⟨q.val, by omega⟩)

/-- The output block of a chunk, from its heads `Y`. -/
def outArr (Y : Vec Ideal S1x128x1024 .f32) : Vec Ideal S1x128x1024 .f32 := fun i =>
  normed (fun l q => Y (ix3 0 l q)) (zK x0) (fun q => x7 (ix2 0 q)) (i 1) (gOf' (i 2)) (kOf' (i 2))

theorem headArr_at (XB DT AC s dk) (a : Fin 1) (l : Fin 128) (q : Fin 1024) :
    headArr XB DT AC s dk (ix3 a l q)
      = head (fun l j => XB (ix2 l j)) (fun l h => DT (ix2 l (lane h))) (fun l h => AC (ix2 l (lane h))) s
          (fun h p => dk ⟨h.val * 64 + p.val, by omega⟩) (hOf' q) l (pOf' q) := rfl

theorem outArr_at (Y : Vec Ideal S1x128x1024 .f32) (a : Fin 1) (l : Fin 128) (q : Fin 1024) :
    outArr x0 x7 Y (ix3 a l q)
      = normed (fun l q => Y (ix3 0 l q)) (zK x0) (fun q => x7 (ix2 0 q)) l (gOf' q) (kOf' q) := rfl

/-- A block of 64 lanes of the output block, at its place there. -/
theorem emb_head (o : ℕ) (inb) (h : o + 64 ≤ 1024) (a : Fin 1) (l : Fin 128) (p : Fin 64) :
    (Rect.unit (s := S1x128x1024) ![0, 0, o] ![1, 128, 64] inb).emb (ix3 a l p) = ix3 0 l ⟨o + p.val, by omega⟩ := by
  idx_ext

/-- Half of the output block, at its place there. -/
theorem emb_half (o : ℕ) (inb) (h : o + 512 ≤ 1024) (a : Fin 1) (l : Fin 128) (k : Fin 512) :
    (Rect.unit (s := S1x128x1024) ![0, 0, o] ![1, 128, 512] inb).emb (ix3 a l k) = ix3 0 l ⟨o + k.val, by omega⟩ := by
  idx_ext

end Cert.KernelIdeal.Value

end

end
-- ==== Proof.KWin.lean ====
module

public import proofs.«01_k».proof.Proof.Gen.KernelIdeal.Value
public import proofs.«01_k».proof.Proof.KDefs
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ssd

variable (c : Dev nD) (i : grid0.Coords) (arg2 : Memref sig .tc .vmem S1x128x2304 .f32) (harg2 : arg2.IsWhole) (arg3 : Memref sig .tc .vmem S1x128x128 .f32) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x128 .f32) (harg10 : arg10.IsWhole) (arg11 : Memref sig .tc .vmem S1x128x1024 .f32) (harg11 : arg11.IsWhole) (arg12 : Memref sig .tc .vmem S136x1280 .f32) (harg12 : arg12.IsWhole) (arg13 : Memref sig .tc .vmem S2x64x512 .f32) (harg13 : arg13.IsWhole)
    (x0 : Vec Ideal S1x128x2304 .f32) (x1 : Vec Ideal S1x128x128 .f32) (x2 : Vec Ideal S4x1280 .f32) (x3 : Vec Ideal S1x1280 .f32) (x4 : Vec Ideal S1x128 .f32) (x5 : Vec Ideal S1x128 .f32) (x6 : Vec Ideal S1x1024 .f32) (x7 : Vec Ideal S1x1024 .f32) (x8 : Vec Ideal S128x128 .f32) (xs0 : Vec Ideal S136x1280 .f32) (xs1 : Vec Ideal S2x64x512 .f32)

/-- The window of the extended block starting at row `o`, at a point that is not a sequence's first: the block itself below
    the eight rows the point before left. -/
def winB (o : ℕ) (h : ∀ a, (![o, 0] : Fin 2 → ℕ) a + S128x1280.size a ≤ S136x1280.size a) : FVec Ideal S128x1280 .f32 :=
  (View.readAt (Elt Ideal) arg12.view (Rect.unit (s := S136x1280) ![o, 0] S128x1280.size h).toLoadRect
    (arg12.view.writes (Elt Ideal) (harg12.unread xs0)
      [⟨Rect.unit ![8, 0] S128x1280.size inb_S136x1280_S128x1280_8_0, curK x0⟩]) :)

/-- The same window at a sequence's first point: the block below eight rows of zeros. -/
def winA (o : ℕ) (h : ∀ a, (![o, 0] : Fin 2 → ℕ) a + S128x1280.size a ≤ S136x1280.size a) : FVec Ideal S128x1280 .f32 :=
  (arg12.view.readCov (Val := Elt Ideal) [⟨Rect.unit ![8, 0] S128x1280.size inb_S136x1280_S128x1280_8_0, curK x0⟩,
      ⟨Rect.unit ![0, 0] S8x1280.size inb_S136x1280_S8x1280_0_0, k0_pay6 (F := Ideal)⟩]
    (Rect.unit (s := S136x1280) ![o, 0] S128x1280.size h).toLoadRect :)

/-- The gated channels at a point that is not a sequence's first. -/
abbrev xbKB : FVec Ideal S128x1280 .f32 := xbK x0 x2 x3 (winB arg12 harg12 x0 xs0 5 inb_S136x1280_S128x1280_5_0)
  (winB arg12 harg12 x0 xs0 6 inb_S136x1280_S128x1280_6_0) (winB arg12 harg12 x0 xs0 7 inb_S136x1280_S128x1280_7_0)

/-- The gated channels at a sequence's first point. -/
abbrev xbKA : FVec Ideal S128x1280 .f32 := xbK x0 x2 x3 (winA arg12 x0 5 inb_S136x1280_S128x1280_5_0)
  (winA arg12 x0 6 inb_S136x1280_S128x1280_6_0) (winA arg12 x0 7 inb_S136x1280_S128x1280_7_0)

end Cert.KernelIdeal.Value

end

end
-- ==== Proof.KHalo.lean ====
module

public import proofs.«01_k».proof.Proof.Gen.KernelIdeal.Value
public import proofs.«01_k».proof.Proof.KWin
public import Idealize.ShloMosaic.Lib.Pointwise
public import Idealize.ShloMosaic.Lib.WritesUnit
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ssd

variable (c : Dev nD) (i : grid0.Coords) (arg2 : Memref sig .tc .vmem S1x128x2304 .f32) (harg2 : arg2.IsWhole) (arg3 : Memref sig .tc .vmem S1x128x128 .f32) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x128 .f32) (harg10 : arg10.IsWhole) (arg11 : Memref sig .tc .vmem S1x128x1024 .f32) (harg11 : arg11.IsWhole) (arg12 : Memref sig .tc .vmem S136x1280 .f32) (harg12 : arg12.IsWhole) (arg13 : Memref sig .tc .vmem S2x64x512 .f32) (harg13 : arg13.IsWhole)
    (x0 : Vec Ideal S1x128x2304 .f32) (x1 : Vec Ideal S1x128x128 .f32) (x2 : Vec Ideal S4x1280 .f32) (x3 : Vec Ideal S1x1280 .f32) (x4 : Vec Ideal S1x128 .f32) (x5 : Vec Ideal S1x128 .f32) (x6 : Vec Ideal S1x1024 .f32) (x7 : Vec Ideal S1x1024 .f32) (x8 : Vec Ideal S128x128 .f32) (xs0 : Vec Ideal S136x1280 .f32) (xs1 : Vec Ideal S2x64x512 .f32)

/-- The arriving channels, at an index. -/
theorem curK_at (l : Fin 128) (j : Fin 1280) : curK x0 (ix2 l j) = x0 (ix3 0 l ⟨1024 + j.val, by omega⟩) := by
  unfold curK
  unfold_payloads
  pointwise

section rows
variable {κ : Kind} {sp : Space} (v : View sig κ sp S136x1280 .f32) (f : v.ty.Contents (Elt Ideal))

/-- A row inside the last stored rows is read from them. -/
theorem rd_hit (o R : ℕ) (inb : ∀ a, (![o, 0] : Fin 2 → ℕ) a + (![R, 1280] : Fin 2 → ℕ) a ≤ S136x1280.size a) (w) (L) (y : Fin 136) (r : Fin R)
    (j : Fin 1280) (hy : y.val = o + r.val) :
    v.read (Elt Ideal) (v.writes (Elt Ideal) f (⟨Rect.unit (s := S136x1280) ![o, 0] ![R, 1280] inb, w⟩ :: L)) (ix2 y j) = w (ix2 r j) :=
  View.read_writes_cons_unit_of_mem v f inb w L (ix2 y j) (ix2 r j) rfl fun a => by
    match a with
    | ⟨0, _⟩ => exact hy
    | ⟨1, _⟩ => exact (Nat.zero_add _).symm

/-- A row outside them is read from what was stored before. -/
theorem rd_miss (o R : ℕ) (inb : ∀ a, (![o, 0] : Fin 2 → ℕ) a + (![R, 1280] : Fin 2 → ℕ) a ≤ S136x1280.size a) (w) (L) (y : Fin 136)
    (j : Fin 1280) (hy : y.val < o ∨ o + R ≤ y.val) :
    v.read (Elt Ideal) (v.writes (Elt Ideal) f (⟨Rect.unit (s := S136x1280) ![o, 0] ![R, 1280] inb, w⟩ :: L)) (ix2 y j)
      = v.read (Elt Ideal) (v.writes (Elt Ideal) f L) (ix2 y j) :=
  View.read_writes_cons_unit_of_not_mem v f inb w L (ix2 y j) rfl 0 hy
end rows

/-- A window of the extended block at an index: below row eight it is what the point before left, else the block. -/
theorem winB_at (o : ℕ) (h) (ho : o < 9) (l : Fin 128) (j : Fin 1280) :
    winB arg12 harg12 x0 xs0 o h (ix2 l j)
      = if hl : o + l.val < 8 then xs0 (ix2 ⟨o + l.val, by omega⟩ j)
        else x0 (ix3 0 ⟨o + l.val - 8, by omega⟩ ⟨1024 + j.val, by omega⟩) := by
  unfold winB
  rw [View.readAt_apply]
  rw [show (Rect.unit (s := S136x1280) ![o, 0] S128x1280.size h).toLoadRect.idx (ix2 l j) = ix2 ⟨o + l.val, by omega⟩ j from by idx_ext]
  split_ifs with hl
  · refine (rd_miss _ _ 8 128 _ _ _ _ _ (Or.inl hl)).trans ?_
    rw [View.writes_nil, harg12.read_unread]
  · refine (rd_hit _ _ 8 128 _ _ _ _ ⟨o + l.val - 8, by omega⟩ _ (by show o + l.val = 8 + (o + l.val - 8); omega)).trans ?_
    rw [curK_at]

/-- The same window at a sequence's first point: zero below row eight. -/
theorem winA_at (o : ℕ) (h) (ho : o < 9) (l : Fin 128) (j : Fin 1280) :
    winA arg12 x0 o h (ix2 l j)
      = if hl : o + l.val < 8 then 0
        else x0 (ix3 0 ⟨o + l.val - 8, by omega⟩ ⟨1024 + j.val, by omega⟩) := by
  unfold winA
  unfold View.readCov
  rw [View.readAt_apply]
  rw [show (Rect.unit (s := S136x1280) ![o, 0] S128x1280.size h).toLoadRect.idx (ix2 l j) = ix2 ⟨o + l.val, by omega⟩ j from by idx_ext]
  split_ifs with hl
  · refine (rd_miss _ _ 8 128 _ _ _ _ _ (Or.inl hl)).trans ((rd_hit _ _ 0 8 _ _ _ _ ⟨o + l.val, hl⟩ _ (Nat.zero_add _).symm).trans ?_)
    unfold_payloads
    pointwise
  · refine (rd_hit _ _ 8 128 _ _ _ _ ⟨o + l.val - 8, by omega⟩ _ (by show o + l.val = 8 + (o + l.val - 8); omega)).trans ?_
    rw [curK_at]

/-- The eight rows a point leaves for the next: the last eight of its block. -/
theorem sout0_A_0_at (hc0 : cond0_0 i) (hc1 : cond0_1 i) (r : Fin 136) (hr : r.val < 8) (j : Fin 1280) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix2 r j) = x0 (ix3 0 ⟨120 + r.val, by omega⟩ ⟨1024 + j.val, by omega⟩) := by
  unfold sout0_A_0 kernelRun0_A
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg13.read_unread]
  refine (rd_hit _ _ 0 8 _ _ _ _ ⟨r.val, hr⟩ _ (Nat.zero_add _).symm).trans ?_
  unfold_payloads
  pointwise

theorem sout0_B_0_at (hc0 : ¬cond0_0 i) (hc1 : ¬cond0_1 i) (r : Fin 136) (hr : r.val < 8) (j : Fin 1280) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 (ix2 r j) = x0 (ix3 0 ⟨120 + r.val, by omega⟩ ⟨1024 + j.val, by omega⟩) := by
  unfold sout0_B_0 kernelRun0_B
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg13.read_unread]
  refine (rd_hit _ _ 0 8 _ _ _ _ ⟨r.val, hr⟩ _ (Nat.zero_add _).symm).trans ?_
  unfold_payloads
  pointwise

/-- The gated channels at an index. -/
theorem xbK_at (e5 e6 e7 : FVec Ideal S128x1280 .f32) (l : Fin 128) (j : Fin 1280) :
    xbK x0 x2 x3 e5 e6 e7 (ix2 l j)
      = gate (x3 (ix2 0 j) + x0 (ix3 0 l ⟨1024 + j.val, by omega⟩) * x2 (ix2 3 j) + e5 (ix2 l j) * x2 (ix2 0 j)
          + e6 (ix2 l j) * x2 (ix2 1 j) + e7 (ix2 l j) * x2 (ix2 2 j)) := by
  unfold xbK
  unfold_payloads
  pointwise [gate]

/-- A step size at an index. -/
theorem dtK_at (l : Fin 128) (h : Fin 128) : dtK x1 x4 (ix2 l h) = softplus (x1 (ix3 0 l h) + x4 (ix2 0 h)) := by
  unfold dtK
  unfold_payloads
  pointwise [softplus]

/-- A running sum of log decays at an index, as the product with the triangle of ones computes it. -/
theorem acK_at (l : Fin 128) (h : Fin 128) :
    acK x1 x4 x5 x8 (ix2 l h) = ∑ r : Fin 128, x8 (ix2 l r) * (softplus (x1 (ix3 0 r h) + x4 (ix2 0 h)) * x5 (ix2 0 h)) := by
  unfold acK
  unfold_payloads
  pointwise [softplus]

end Cert.KernelIdeal.Value

end

end
-- ==== Proof.KChunk.lean ====
module

public import proofs.«01_k».proof.Proof.KBlk
public import proofs.«01_k».proof.Proof.KHalo

@[expose] public section
set_option maxRecDepth 16384
noncomputable section
open Idealize.ShloMosaic Idealize.ShloMosaic.TcCoe Idealize.SL.Sem
namespace Cert.KernelIdeal.Value
open Cert.KernelIdeal Cert.KernelIdeal.Gen Cert.Ssd

variable (m : (ℓ : Loc nD τ sig) → Buf (Elt Ideal) ℓ) (c : Dev nD) (t : Fin cfg0.N)
  (arg12 : Memref sig .tc .vmem S136x1280 .f32) (harg12 : arg12.IsWhole)

theorem lane_eq (h : Fin 16) : (⟨h.val, by omega⟩ : Fin 128) = lane h := rfl

/-- The step sizes of a point's chunk. -/
theorem dt_at (l : Fin 128) (h : Fin 16) :
    dtK (iblk m c 1 t) (iblk m c 4 t) (ix2 l (lane h)) = (dataK m c).dt (bOf t) (cOf t) l h := by
  rw [dtK_at, sm_at, dtb_at]; rfl

/-- The running sums of a point's chunk. -/
theorem ac_at (l : Fin 128) (h : Fin 16) :
    acK (iblk m c 1 t) (iblk m c 4 t) (iblk m c 5 t) (iblk m c 8 t) (ix2 l (lane h)) = (dataK m c).ac (bOf t) (cOf t) l h := by
  rw [acK_at]
  refine Finset.sum_congr rfl fun r _ => ?_
  rw [tril_at, sm_at, dtb_at, nega_at]
  split_ifs
  · exact one_mul _
  · exact zero_mul _

/-- The rows before a point's chunk, as a window of the extended block reads them, are the convolution's delayed inputs. -/
theorem lag_of (D : Data) (b : Fin 2) (ci : ℕ) (hci : ci < 128) (k : ℕ) (hk : k < 3) (l : Fin 128) (j : Fin 1280) (e : EReal)
    (h0 : 5 + k + l.val < 8 → ci = 0 → e = 0)
    (h1 : (h : 5 + k + l.val < 8) → ci ≠ 0 → e = D.u b (tIx (ci - 1) ⟨120 + (5 + k + l.val), by omega⟩) ⟨1024 + j.val, by omega⟩)
    (h2 : (h : ¬5 + k + l.val < 8) → e = D.u b (tIx ci ⟨5 + k + l.val - 8, by omega⟩) ⟨1024 + j.val, by omega⟩) :
    e = D.lag b (tIx ci l) k j := by
  have hv : (tIx ci l).val = ci * 128 + l.val := Nat.mod_eq_of_lt (by omega)
  unfold Data.lag
  by_cases hl : 5 + k + l.val < 8
  · by_cases hc : ci = 0
    · rw [if_pos (by omega), h0 hl hc]
    · rw [if_neg (by omega), h1 hl hc]
      refine congrArg (fun r => D.u b r _) (Fin.ext ?_)
      show ((ci - 1) * 128 + (120 + (5 + k + l.val))) % 16384 = ((tIx ci l).val + k - 3) % 16384
      omega
  · rw [if_neg (by omega), h2 hl]
    refine congrArg (fun r => D.u b r _) (Fin.ext ?_)
    show (ci * 128 + (5 + k + l.val - 8)) % 16384 = ((tIx ci l).val + k - 3) % 16384
    omega

theorem cOf_lt : cOf t < 128 := Nat.mod_lt _ (by omega)

/-- The gated channels of a sequence's first chunk. -/
theorem xb_at_A (hc : cOf t = 0) (l : Fin 128) (j : Fin 1280) :
    xbKA arg12 (iblk m c 0 t) (iblk m c 2 t) (iblk m c 3 t) (ix2 l j) = (dataK m c).xb (bOf t) (cOf t) l j := by
  have key : ∀ o k (ho : o = 5 + k) (hk : k < 3) hi, winA arg12 (iblk m c 0 t) o hi (ix2 l j) = (dataK m c).lag (bOf t) (tIx (cOf t) l) k j := by
    intro o k ho hk hi
    subst ho
    refine lag_of _ _ _ (cOf_lt t) k hk l j _ (fun h _ => ?_) (fun _ h => absurd hc h) (fun h => ?_)
    · rw [winA_at _ _ _ _ (by omega), dif_pos h]
    · rw [winA_at _ _ _ _ (by omega), dif_neg h, u_at]
  unfold xbKA
  rw [xbK_at, u_at, w_at, w_at, w_at, w_at, cb_at]
  rw [key 5 0 rfl (by omega), key 6 1 rfl (by omega), key 7 2 rfl (by omega)]
  rw [Data.xb, Data.conv]

/-- The gated channels of a later chunk, over the rows the point before left. -/
theorem xb_at_B (hc : cOf t ≠ 0) (xs0 : Vec Ideal S136x1280 .f32)
    (hx : ∀ (r : Fin 136) (hr : r.val < 8) (j : Fin 1280), xs0 (ix2 r j) = (dataK m c).u (bOf t) (tIx (cOf t - 1) ⟨120 + r.val, by omega⟩) ⟨1024 + j.val, by omega⟩)
    (l : Fin 128) (j : Fin 1280) :
    xbKB arg12 harg12 (iblk m c 0 t) (iblk m c 2 t) (iblk m c 3 t) xs0 (ix2 l j) = (dataK m c).xb (bOf t) (cOf t) l j := by
  have key : ∀ o k (ho : o = 5 + k) (hk : k < 3) hi, winB arg12 harg12 (iblk m c 0 t) xs0 o hi (ix2 l j) = (dataK m c).lag (bOf t) (tIx (cOf t) l) k j := by
    intro o k ho hk hi
    subst ho
    refine lag_of _ _ _ (cOf_lt t) k hk l j _ (fun _ h => absurd h hc) (fun h _ => ?_) (fun h => ?_)
    · rw [winB_at _ _ _ _ _ _ (by omega), dif_pos h]; exact hx _ h _
    · rw [winB_at _ _ _ _ _ _ (by omega), dif_neg h, u_at]
  unfold xbKB
  rw [xbK_at, u_at, w_at, w_at, w_at, w_at, cb_at]
  rw [key 5 0 rfl (by omega), key 6 1 rfl (by omega), key 7 2 rfl (by omega)]
  rw [Data.xb, Data.conv]

end Cert.KernelIdeal.Value
-- ==== Proof.KState.lean ====
module

public import proofs.«01_k».proof.Proof.Gen.KernelIdeal.Value
public import proofs.«01_k».proof.Proof.KWin
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ssd

variable (c : Dev nD) (i : grid0.Coords) (arg2 : Memref sig .tc .vmem S1x128x2304 .f32) (harg2 : arg2.IsWhole) (arg3 : Memref sig .tc .vmem S1x128x128 .f32) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x128 .f32) (harg10 : arg10.IsWhole) (arg11 : Memref sig .tc .vmem S1x128x1024 .f32) (harg11 : arg11.IsWhole) (arg12 : Memref sig .tc .vmem S136x1280 .f32) (harg12 : arg12.IsWhole) (arg13 : Memref sig .tc .vmem S2x64x512 .f32) (harg13 : arg13.IsWhole)
    (x0 : Vec Ideal S1x128x2304 .f32) (x1 : Vec Ideal S1x128x128 .f32) (x2 : Vec Ideal S4x1280 .f32) (x3 : Vec Ideal S1x1280 .f32) (x4 : Vec Ideal S1x128 .f32) (x5 : Vec Ideal S1x128 .f32) (x6 : Vec Ideal S1x1024 .f32) (x7 : Vec Ideal S1x1024 .f32) (x8 : Vec Ideal S128x128 .f32) (xs0 : Vec Ideal S136x1280 .f32) (xs1 : Vec Ideal S2x64x512 .f32)

theorem emb_state1 (a : Fin 1) (n : Fin 64) (q : Fin 512) :
    (Rect.unit ![1, 0, 0] ![1, 64, 512] inb_S2x64x512_S1x64x512_1_0_0).emb (ix3 a n q) = ix3 1 n q := by idx_ext

theorem emb_state0 (a : Fin 1) (n : Fin 64) (q : Fin 512) :
    (Rect.unit ![0, 0, 0] ![1, 64, 512] inb_S2x64x512_S1x64x512_0_0_0).emb (ix3 a n q) = ix3 0 n q := by idx_ext

/-- What a point that is not a sequence's first leaves in the state buffer, from the state `xs1` it found. -/
theorem sout0_B_1_eq (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1
      = stateArr (xbKB arg12 harg12 x0 x2 x3 xs0) (dtK x1 x4) (acK x1 x4 x5 x8) (fun h p n => xs1 (ix3 (gOf h) n (qOf h p))) := by
  unfold sout0_B_1
  rw [View.read_writes_junk_eq_canon]
  funext y
  refine View.canon_apply_of_pieces _ _ (View.PiecesOf.mem ?_) y (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 y)
  unfold kernelRun0_B
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg13.read_unread]
  simp only [k0_pay11, k0_pay14, k0_pay15, k0_pay16, k0_pay18, k0_pay19]
  generalize hAC : k0_pay13 (F := Ideal) _ _ _ _ = AC
  generalize hDT : k0_pay12 (F := Ideal) _ _ = DT
  generalize hXB : k0_pay10 (F := Ideal) _ _ _ = XB
  have e1 : xbKB arg12 harg12 x0 x2 x3 xs0 = XB := hXB
  have e2 : dtK x1 x4 = DT := hDT
  have e3 : acK x1 x4 x5 x8 = AC := hAC
  rw [e1, e2, e3]
  clear hXB hDT hAC e1 e2 e3
  refine ⟨fun x => ?_, fun x => ?_, trivial⟩
  all_goals
    dsimp only
    idx_vars x
    obtain ⟨j, p, rfl⟩ := exists_lane x2
    first | rw [emb_state1] | rw [emb_state0]
    unfold_payloads
    pointwise [stateArr, newState, hOf_mk, pOf_mk, bIx, xIx, lane, gOf, qOf]
    fin_vals j with hj
    all_goals
      simp (disch := omega) only [hj, dif_pos, dif_neg]
      simp only [Nat.reduceMul, Nat.sub_sub, Nat.reduceAdd, Nat.add_sub_cancel_left, Nat.reduceDiv, Nat.reduceMod, Nat.zero_add, Nat.zero_mul]
      rfl

end Cert.KernelIdeal.Value

end

end
-- ==== Proof.KStateA.lean ====
module

public import proofs.«01_k».proof.Proof.Gen.KernelIdeal.Value
public import proofs.«01_k».proof.Proof.KState
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ssd

variable (c : Dev nD) (i : grid0.Coords) (arg2 : Memref sig .tc .vmem S1x128x2304 .f32) (harg2 : arg2.IsWhole) (arg3 : Memref sig .tc .vmem S1x128x128 .f32) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x128 .f32) (harg10 : arg10.IsWhole) (arg11 : Memref sig .tc .vmem S1x128x1024 .f32) (harg11 : arg11.IsWhole) (arg12 : Memref sig .tc .vmem S136x1280 .f32) (harg12 : arg12.IsWhole) (arg13 : Memref sig .tc .vmem S2x64x512 .f32) (harg13 : arg13.IsWhole)
    (x0 : Vec Ideal S1x128x2304 .f32) (x1 : Vec Ideal S1x128x128 .f32) (x2 : Vec Ideal S4x1280 .f32) (x3 : Vec Ideal S1x1280 .f32) (x4 : Vec Ideal S1x128 .f32) (x5 : Vec Ideal S1x128 .f32) (x6 : Vec Ideal S1x1024 .f32) (x7 : Vec Ideal S1x1024 .f32) (x8 : Vec Ideal S128x128 .f32) (xs0 : Vec Ideal S136x1280 .f32) (xs1 : Vec Ideal S2x64x512 .f32)

/-- What a sequence's first point leaves in the state buffer: it starts from a state of zeros. -/
theorem sout0_A_1_eq (hc0 : cond0_0 i) (hc1 : cond0_1 i) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8
      = stateArr (xbKA arg12 x0 x2 x3) (dtK x1 x4) (acK x1 x4 x5 x8) (fun _ _ _ => 0) := by
  unfold sout0_A_1
  rw [View.read_writes_junk_eq_canon]
  unfold kernelRun0_A
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg13.read_unread]
  simp only [k0_pay11, k0_pay14, k0_pay15, k0_pay16, k0_pay18, k0_pay19]
  generalize hAC : k0_pay13 (F := Ideal) _ _ _ _ = AC
  generalize hDT : k0_pay12 (F := Ideal) _ _ = DT
  generalize hXB : k0_pay10 (F := Ideal) _ _ _ = XB
  have e1 : xbKA arg12 x0 x2 x3 = XB := hXB
  have e2 : dtK x1 x4 = DT := hDT
  have e3 : acK x1 x4 x5 x8 = AC := hAC
  rw [e1, e2, e3]
  clear hXB hDT hAC e1 e2 e3
  funext y
  refine View.canon_append_of_piecesOf (s := S2x64x512) _ [_] [_, _] ⟨fun x => ?_, fun x => ?_, trivial⟩ y ?_
  rotate_left 2
  · exact View.cover_of_tiledL _ ![1, 64, 512] (by sl_kernel_rfl) y
  all_goals
    dsimp only
    try rw [View.readCov_skip _ _ _ _ _ (by rfl)]
    rw [View.readCov_fill _ _ _ _ _ (by decide)]
    idx_vars x
    obtain ⟨j, p, rfl⟩ := exists_lane x2
    first | rw [emb_state1] | rw [emb_state0]
    unfold_payloads
    pointwise [stateArr, newState, hOf_mk, pOf_mk, bIx, xIx, lane, gOf, qOf]
    fin_vals j with hj
    all_goals
      simp (disch := omega) only [hj, dif_pos, dif_neg]
      simp only [Nat.reduceMul, Nat.sub_sub, Nat.reduceAdd, Nat.add_sub_cancel_left, Nat.reduceDiv, Nat.reduceMod, Nat.zero_add, Nat.zero_mul]
      rfl

end Cert.KernelIdeal.Value

end

end
-- ==== Proof.KOut.lean ====
module

public import proofs.«01_k».proof.Proof.Gen.KernelIdeal.Value
public import proofs.«01_k».proof.Proof.KWin
public import proofs.«01_k».proof.Proof.Mask
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ssd

variable (c : Dev nD) (i : grid0.Coords) (arg2 : Memref sig .tc .vmem S1x128x2304 .f32) (harg2 : arg2.IsWhole) (arg3 : Memref sig .tc .vmem S1x128x128 .f32) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x128 .f32) (harg10 : arg10.IsWhole) (arg11 : Memref sig .tc .vmem S1x128x1024 .f32) (harg11 : arg11.IsWhole) (arg12 : Memref sig .tc .vmem S136x1280 .f32) (harg12 : arg12.IsWhole) (arg13 : Memref sig .tc .vmem S2x64x512 .f32) (harg13 : arg13.IsWhole)
    (x0 : Vec Ideal S1x128x2304 .f32) (x1 : Vec Ideal S1x128x128 .f32) (x2 : Vec Ideal S4x1280 .f32) (x3 : Vec Ideal S1x1280 .f32) (x4 : Vec Ideal S1x128 .f32) (x5 : Vec Ideal S1x128 .f32) (x6 : Vec Ideal S1x1024 .f32) (x7 : Vec Ideal S1x1024 .f32) (x8 : Vec Ideal S128x128 .f32) (xs0 : Vec Ideal S136x1280 .f32) (xs1 : Vec Ideal S2x64x512 .f32)

/-- What a point that is not a sequence's first leaves in the output block. -/
theorem out0_B_9_eq (hc0 : ¬cond0_0 i) (hc1 : ¬cond0_1 i) :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1
      = outArr x0 x7 (headArr (xbKB arg12 harg12 x0 x2 x3 xs0) (dtK x1 x4) (acK x1 x4 x5 x8)
          (fun h p n => xs1 (ix3 (gOf h) n (qOf h p))) (fun q => x6 (ix2 0 q))) := by
  unfold out0_B_9
  rw [View.read_writes_junk_eq_canon]
  unfold kernelRun0_B
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg13.read_unread]
  simp only [k0_pay11, k0_pay14, k0_pay15, k0_pay16, k0_pay18, k0_pay19]
  generalize hAC : k0_pay13 (F := Ideal) _ _ _ _ = AC
  generalize hDT : k0_pay12 (F := Ideal) _ _ = DT
  generalize hXB : k0_pay10 (F := Ideal) _ _ _ = XB
  have e1 : xbKB arg12 harg12 x0 x2 x3 xs0 = XB := hXB
  have e2 : dtK x1 x4 = DT := hDT
  have e3 : acK x1 x4 x5 x8 = AC := hAC
  rw [e1, e2, e3]
  clear hXB hDT hAC e1 e2 e3
  generalize hY : arg11.view.readCov (Val := Elt Ideal) _ _ = Y
  have hYv : Y = headArr XB DT AC (fun h p n => xs1 (ix3 (gOf h) n (qOf h p))) (fun q => x6 (ix2 0 q)) := by
    rw [← hY, View.readCov_eq_canon']
    clear hY
    funext y
    rw [show (LoadRect.idx _ y : S1x128x1024.Idx) = y from by idx_ext]
    refine View.canon_apply_of_pieces _ _ (View.PiecesOf.mem ?_) y ?_
    rotate_left 1
    · exact View.cover_of_tiledL _ ![1, 128, 64] (by sl_kernel_rfl) y
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    all_goals
      dsimp only
      idx_vars x
      rw [emb_head _ _ (by decide), headArr_at, hOf'_add _ _ _ (by rfl), pOf'_add _ _ _ (by rfl)]
      simp only [Nat.reduceDiv]
      unfold_payloads
      pointwise [head, hOf'_add, pOf'_add, decay, bIx, cIx, xIx, lane, gOf, qOf, mask_eq]

  clear hY
  subst hYv
  funext y
  refine View.canon_append_of_piecesOf (s := S1x128x1024) _ _ [_, _] ⟨fun x => ?_, fun x => ?_, trivial⟩ y ?_
  rotate_left 2
  · exact View.cover_of_tiledL _ ![1, 128, 512] (by sl_kernel_rfl) y
  all_goals
    dsimp only
    idx_vars x
    rw [emb_half _ _ (by decide)]
    rw [outArr_at, gOf'_add _ _ _ (by rfl), kOf'_add _ _ _ (by rfl)]
    simp only [Nat.reduceDiv, normed]
    unfold_payloads
    pointwise [gOf'_add, kOf'_add, wIx, gate, zK]

end Cert.KernelIdeal.Value

end

end
-- ==== Proof.KOutA.lean ====
module

public import proofs.«01_k».proof.Proof.Gen.KernelIdeal.Value
public import proofs.«01_k».proof.Proof.KWin
public import proofs.«01_k».proof.Proof.Mask
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ssd

variable (c : Dev nD) (i : grid0.Coords) (arg2 : Memref sig .tc .vmem S1x128x2304 .f32) (harg2 : arg2.IsWhole) (arg3 : Memref sig .tc .vmem S1x128x128 .f32) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x128 .f32) (harg10 : arg10.IsWhole) (arg11 : Memref sig .tc .vmem S1x128x1024 .f32) (harg11 : arg11.IsWhole) (arg12 : Memref sig .tc .vmem S136x1280 .f32) (harg12 : arg12.IsWhole) (arg13 : Memref sig .tc .vmem S2x64x512 .f32) (harg13 : arg13.IsWhole)
    (x0 : Vec Ideal S1x128x2304 .f32) (x1 : Vec Ideal S1x128x128 .f32) (x2 : Vec Ideal S4x1280 .f32) (x3 : Vec Ideal S1x1280 .f32) (x4 : Vec Ideal S1x128 .f32) (x5 : Vec Ideal S1x128 .f32) (x6 : Vec Ideal S1x1024 .f32) (x7 : Vec Ideal S1x1024 .f32) (x8 : Vec Ideal S128x128 .f32) (xs0 : Vec Ideal S136x1280 .f32) (xs1 : Vec Ideal S2x64x512 .f32)

/-- What a sequence's first point leaves in the output block. -/
theorem out0_A_9_eq (hc0 : cond0_0 i) (hc1 : cond0_1 i) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8
      = outArr x0 x7 (headArr (xbKA arg12 x0 x2 x3) (dtK x1 x4) (acK x1 x4 x5 x8)
          (fun _ _ _ => 0) (fun q => x6 (ix2 0 q))) := by
  unfold out0_A_9
  rw [View.read_writes_junk_eq_canon]
  unfold kernelRun0_A
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg13.read_unread]
  simp only [k0_pay11, k0_pay14, k0_pay15, k0_pay16, k0_pay18, k0_pay19]
  generalize hAC : k0_pay13 (F := Ideal) _ _ _ _ = AC
  generalize hDT : k0_pay12 (F := Ideal) _ _ = DT
  generalize hXB : k0_pay10 (F := Ideal) _ _ _ = XB
  have e1 : xbKA arg12 x0 x2 x3 = XB := hXB
  have e2 : dtK x1 x4 = DT := hDT
  have e3 : acK x1 x4 x5 x8 = AC := hAC
  rw [e1, e2, e3]
  clear hXB hDT hAC e1 e2 e3
  generalize hY : arg11.view.readCov (Val := Elt Ideal) _ _ = Y
  have hYv : Y = headArr XB DT AC (fun _ _ _ => 0) (fun q => x6 (ix2 0 q)) := by
    rw [← hY, View.readCov_eq_canon']
    clear hY
    funext y
    rw [show (LoadRect.idx _ y : S1x128x1024.Idx) = y from by idx_ext]
    refine View.canon_apply_of_pieces _ _ (View.PiecesOf.mem ?_) y ?_
    rotate_left 1
    · exact View.cover_of_tiledL _ ![1, 128, 64] (by sl_kernel_rfl) y
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    all_goals
      dsimp only
      try rw [View.readCov_skip _ _ _ _ _ (by rfl)]
      try rw [View.readCov_fill _ _ _ _ _ (by decide)]
      idx_vars x
      rw [emb_head _ _ (by decide), headArr_at, hOf'_add _ _ _ (by rfl), pOf'_add _ _ _ (by rfl)]
      simp only [Nat.reduceDiv]
      unfold_payloads
      pointwise [head, hOf'_add, pOf'_add, decay, bIx, cIx, xIx, lane, gOf, qOf, mask_eq]

  clear hY
  subst hYv
  funext y
  refine View.canon_append_of_piecesOf (s := S1x128x1024) _ _ [_, _] ⟨fun x => ?_, fun x => ?_, trivial⟩ y ?_
  rotate_left 2
  · exact View.cover_of_tiledL _ ![1, 128, 512] (by sl_kernel_rfl) y
  all_goals
    dsimp only
    idx_vars x
    rw [emb_half _ _ (by decide)]
    rw [outArr_at, gOf'_add _ _ _ (by rfl), kOf'_add _ _ _ (by rfl)]
    simp only [Nat.reduceDiv, normed]
    unfold_payloads
    pointwise [gOf'_add, kOf'_add, wIx, gate, zK]

end Cert.KernelIdeal.Value

end

end
-- ==== Proof.KFold.lean ====
module

public import proofs.«01_k».proof.Proof.KChunk
public import proofs.«01_k».proof.Proof.KState
public import proofs.«01_k».proof.Proof.KStateA
public import proofs.«01_k».proof.Proof.KOut
public import proofs.«01_k».proof.Proof.KOutA

@[expose] public section
set_option maxRecDepth 16384
noncomputable section
open Idealize.ShloMosaic Idealize.ShloMosaic.TcCoe Idealize.SL.Sem
namespace Cert.KernelIdeal.Value
open Cert.KernelIdeal Cert.KernelIdeal.Gen Cert.Ssd

section chunk
variable (D : Data) (b : Fin 2) (ci : ℕ)
  (XB : FVec Ideal S128x1280 .f32) (DT AC : FVec Ideal S128x128 .f32) (s : Fin 16 → Fin 64 → Fin 64 → EReal)
  (hX : ∀ l j, XB (ix2 l j) = D.xb b ci l j) (hD : ∀ l h, DT (ix2 l (lane h)) = D.dt b ci l h)
  (hA : ∀ l h, AC (ix2 l (lane h)) = D.ac b ci l h) (hs : ∀ h p n, s h p n = D.st b ci h p n)
include hX hD hA hs

/-- The state array of a chunk holds the layer's next state. -/
theorem state_of (h : Fin 16) (p n : Fin 64) : stateArr XB DT AC s (ix3 (gOf h) n (qOf h p)) = D.st b (ci + 1) h p n := by
  have e1 : (fun l j => XB (ix2 l j)) = D.xb b ci := funext fun l => funext fun j => hX l j
  have e2 : (fun l h => DT (ix2 l (lane h))) = D.dt b ci := funext fun l => funext fun j => hD l j
  have e3 : (fun l h => AC (ix2 l (lane h))) = D.ac b ci := funext fun l => funext fun j => hA l j
  have e4 : s = D.st b ci := funext fun h => funext fun p => funext fun n => hs h p n
  have e5 : hOf (gOf h) (qOf h p) = h := Fin.ext (by simp only [hOf, gOf, qOf]; omega)
  have e6 : pOf (qOf h p) = p := Fin.ext (by simp only [pOf, qOf]; omega)
  show newState (fun l j => XB (ix2 l j)) (fun l h => DT (ix2 l (lane h))) (fun l h => AC (ix2 l (lane h))) s
    (hOf (gOf h) (qOf h p)) (pOf (qOf h p)) n = _
  rw [e1, e2, e3, e4, e5, e6]
  rfl

/-- The output block of a chunk holds the layer's results. -/
theorem out_of (x0 : Vec Ideal S1x128x2304 .f32) (x7 : Vec Ideal S1x1024 .f32) (dk : Fin 1024 → EReal)
    (hdk : ∀ q, dk q = D.dsk (hOf' q)) (hz : ∀ l j, x0 (ix3 0 l j) = D.u b (tIx ci l) j) (hn : ∀ q, x7 (ix2 0 q) = D.ng q)
    (l : Fin 128) (q : Fin 1024) : outArr x0 x7 (headArr XB DT AC s dk) (ix3 0 l q) = D.out b ci l q := by
  have e1 : (fun l j => XB (ix2 l j)) = D.xb b ci := funext fun l => funext fun j => hX l j
  have e2 : (fun l h => DT (ix2 l (lane h))) = D.dt b ci := funext fun l => funext fun j => hD l j
  have e3 : (fun l h => AC (ix2 l (lane h))) = D.ac b ci := funext fun l => funext fun j => hA l j
  have e4 : s = D.st b ci := funext fun h => funext fun p => funext fun n => hs h p n
  have e5 : (fun (h : Fin 16) (p : Fin 64) => dk ⟨h.val * 64 + p.val, by omega⟩) = fun h _ => D.dsk h := by
    funext h p
    rw [hdk]
    exact congrArg D.dsk (Fin.ext (by simp only [hOf']; omega))
  have e6 : (fun l q => headArr XB DT AC s dk (ix3 0 l q)) = D.y b ci := by
    funext l q
    rw [headArr_at, e1, e2, e3, e4, e5]
    rfl
  have e7 : zK x0 = fun l q => D.u b (tIx ci l) ⟨q.val, by omega⟩ := funext fun l => funext fun q => hz l _
  have e8 : (fun q => x7 (ix2 0 q)) = D.ng := funext hn
  rw [outArr_at, e6, e7, e8]
  rfl
end chunk

variable (m : (ℓ : Loc nD τ sig) → Buf (Elt Ideal) ℓ) (c : Dev nD)

/-- What a point's carried values are: its chunk's results, the last eight rows of its block, and the state leaving its
    chunk. -/
structure Good (t : Fin cfg0.N) (acc : Vec Ideal S1x128x1024 .f32 × Vec Ideal S136x1280 .f32 × Vec Ideal S2x64x512 .f32) : Prop where
  out : ∀ l q, acc.1 (ix3 0 l q) = (dataK m c).out (bOf t) (cOf t) l q
  halo : ∀ (r : Fin 136) (hr : r.val < 8) (j : Fin 1280),
    acc.2.1 (ix2 r j) = (dataK m c).u (bOf t) (tIx (cOf t) ⟨120 + r.val, by omega⟩) ⟨1024 + j.val, by omega⟩
  state : ∀ h p n, acc.2.2 (ix3 (gOf h) n (qOf h p)) = (dataK m c).st (bOf t) (cOf t + 1) h p n

/-- A sequence's first point leaves them, whatever was carried. -/
theorem good_A (t : Fin cfg0.N) (acc) (h : t.val % 128 = 0) : Good m c t (stAt0 m c t.val t.isLt acc) := by
  have hc : cOf t = 0 := h
  rw [stAt0_A m c t acc h h]
  refine ⟨fun l q => ?_, fun r hr j => ?_, fun hh p n => ?_⟩
  · dsimp only
    rw [out0_A_9_eq]
    exact out_of _ _ _ _ _ _ _ (xb_at_A m c t _ hc) (dt_at m c t) (ac_at m c t) (fun _ _ _ => by rw [hc]; rfl) _ _ _ (dsk_at m c t) (u_at m c t) (ng_at m c t) l q
  · dsimp only
    rw [sout0_A_0_at (hr := hr), u_at]
  · dsimp only
    rw [sout0_A_1_eq]
    exact state_of _ _ _ _ _ _ _ (xb_at_A m c t _ hc) (dt_at m c t) (ac_at m c t) (fun _ _ _ => by rw [hc]; rfl) hh p n

/-- A later point leaves them where the point before did. -/
theorem good_B (t t' : Fin cfg0.N) (acc) (h : ¬t.val % 128 = 0) (ht : t.val = t'.val + 1) (hg : Good m c t' acc) :
    Good m c t (stAt0 m c t.val t.isLt acc) := by
  have hc : cOf t ≠ 0 := h
  have hb : bOf t' = bOf t := Fin.ext (by show t'.val / 128 = t.val / 128; omega)
  have hc' : cOf t' = cOf t - 1 := by show t'.val % 128 = t.val % 128 - 1; omega
  have hs : ∀ h p n, acc.2.2 (ix3 (gOf h) n (qOf h p)) = (dataK m c).st (bOf t) (cOf t) h p n := by
    intro h p n
    rw [hg.state, hb, hc', Nat.sub_add_cancel (Nat.one_le_iff_ne_zero.2 hc)]
  have hx : ∀ (r : Fin 136) (hr : r.val < 8) (j : Fin 1280),
      acc.2.1 (ix2 r j) = (dataK m c).u (bOf t) (tIx (cOf t - 1) ⟨120 + r.val, by omega⟩) ⟨1024 + j.val, by omega⟩ := by
    intro r hr j
    rw [hg.halo r hr j, hb, hc']
  rw [stAt0_B m c t acc h h]
  refine ⟨fun l q => ?_, fun r hr j => ?_, fun hh p n => ?_⟩
  · dsimp only
    rw [out0_B_9_eq]
    exact out_of _ _ _ _ _ _ _ (xb_at_B m c t _ _ hc _ hx) (dt_at m c t) (ac_at m c t) hs _ _ _ (dsk_at m c t) (u_at m c t) (ng_at m c t) l q
  · dsimp only
    rw [sout0_B_0_at (hr := hr), u_at]
  · dsimp only
    rw [sout0_B_1_eq]
    exact state_of _ _ _ _ _ _ _ (xb_at_B m c t _ _ hc _ hx) (dt_at m c t) (ac_at m c t) hs hh p n

/-- So every point leaves them. -/
theorem good_all : ∀ (n : ℕ) (hn : n < cfg0.N), Good m c ⟨n, hn⟩ (outsAt0 m c n hn)
  | 0, hn => by
    rw [outsAt0_zero]
    exact good_A m c ⟨0, hn⟩ _ rfl
  | n + 1, hn => by
    rw [outsAt0_succ]
    by_cases h : (n + 1) % 128 = 0
    · exact good_A m c ⟨n + 1, hn⟩ _ h
    · exact good_B m c ⟨n + 1, hn⟩ ⟨n, Nat.lt_of_succ_lt hn⟩ _ h rfl (good_all n _)

/-- The result array of the call, at an index. -/
theorem G9_at (b : Fin 2) (t : Fin 16384) (q : Fin 1024) :
    (G9 m c : Vec Ideal S2x16384x1024 .f32) (ix3 b t q)
      = (dataK m c).out b (t.val / 128) ⟨t.val % 128, Nat.mod_lt _ (by omega)⟩ q := by
  have hp : pt9Of (ix3 b t q) = b.val * 128 + t.val / 128 := by
    show 128 * (b.val / 1 - 0) + 1 * (t.val / 128 - 0) + 1 * (q.val / 1024 - 0) = _
    omega
  have hlt : pt9Of (ix3 b t q) < cfg0.N := by
    rw [hp, show cfg0.N = 256 from N_0]
    omega
  unfold G9
  rw [dif_pos hlt, ← outsAt0_sweep m c _ hlt]
  have hl : loc9Of (ix3 b t q) = ix3 0 ⟨t.val % 128, Nat.mod_lt _ (by omega)⟩ q := by
    funext a
    match a with
    | ⟨0, _⟩ => exact Fin.ext (Nat.mod_one _)
    | ⟨1, _⟩ => rfl
    | ⟨2, _⟩ => exact Fin.ext (Nat.mod_eq_of_lt q.isLt)
  rw [hl, (good_all m c _ hlt).out]
  have hb : bOf ⟨pt9Of (ix3 b t q), hlt⟩ = b := Fin.ext (by show pt9Of (ix3 b t q) / 128 = b.val; rw [hp]; omega)
  have hc : cOf ⟨pt9Of (ix3 b t q), hlt⟩ = t.val / 128 := by show pt9Of (ix3 b t q) % 128 = _; rw [hp]; omega
  rw [hb, hc]

end Cert.KernelIdeal.Value
-- ==== Proof.RKeep.lean ====
module

public import proofs.«01_k».proof.Proof.Gen.ReferenceIdeal.Run
public import proofs.«01_k».proof.Proof.Mask
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (V : Valuation τ sig (Elt Ideal))

/-- The arguments of the call. -/
abbrev argRefs : List (Ref sig .tc) := [main_arg0, main_arg1, main_arg2, main_arg3, main_arg4, main_arg5, main_arg6, main_arg7]

/-- What lies before the loop and is read, or must be found unchanged, after it. -/
abbrev keptRefs : List (Ref sig .tc) := main_v0 :: main_v49 :: main_v50 :: main_v52 :: main_v72 :: argRefs

/-- The buffers each stretch after the loop writes. -/
abbrev hostOps0_13_W : List (Ref sig .tc) := [main_v91, main_v92, main_v93, main_v94, main_v95, main_v96, main_v97, main_v98, main_v99, main_v100, main_v101, main_v102, main_v103, main_v104]
abbrev hostOps0_14_W : List (Ref sig .tc) := [main_call9_v0, main_call9_v1, main_call9_cst, main_call9_v2, main_call9_v3, main_call9_cst_0, main_call9_v4, main_call9_v5, main_v105]
abbrev hostOps0_15_W : List (Ref sig .tc) := [main_v106, main_v107, main_v108, main_cst_4, main_v109, main_v110, main_cst_5, main_v111, main_v112, main_cst_6, main_v113, main_v114, main_v115, main_v116, main_v117, main_v118, main_v119, main_v120, main_v121]
theorem hostOps0_13_writes : (hostOps0_13 : List (HloOp τ sig (Elt Ideal))).Forall fun op => op.writes ⊆ (hostOps0_13_W.map (Proc.devRef (τ := τ) .tc)).toFinset :=
  StableHlo.forall_writes_sub_of_map rfl
theorem hostOps0_14_writes : (hostOps0_14 : List (HloOp τ sig (Elt Ideal))).Forall fun op => op.writes ⊆ (hostOps0_14_W.map (Proc.devRef (τ := τ) .tc)).toFinset :=
  StableHlo.forall_writes_sub_of_map rfl
theorem hostOps0_15_writes : (hostOps0_15 : List (HloOp τ sig (Elt Ideal))).Forall fun op => op.writes ⊆ (hostOps0_15_W.map (Proc.devRef (τ := τ) .tc)).toFinset :=
  StableHlo.forall_writes_sub_of_map rfl

/-! What the buffers hold after each of the stretches before the loop: `e k` after the `k`-th, from `V`. -/

def e0 : Valuation τ sig (Elt Ideal) := after hostOps0 V
def e1 : Valuation τ sig (Elt Ideal) := after hostOps0_1 (e0 V)
def e2 : Valuation τ sig (Elt Ideal) := after hostOps0_2 (e1 V)
def e3 : Valuation τ sig (Elt Ideal) := after hostOps0_3 (e2 V)
def e4 : Valuation τ sig (Elt Ideal) := after hostOps0_4 (e3 V)
def e5 : Valuation τ sig (Elt Ideal) := after hostOps0_5 (e4 V)
def e6 : Valuation τ sig (Elt Ideal) := after hostOps0_6 (e5 V)
def e7 : Valuation τ sig (Elt Ideal) := after hostOps0_7 (e6 V)
def e8 : Valuation τ sig (Elt Ideal) := after hostOps0_8 (e7 V)
def e9 : Valuation τ sig (Elt Ideal) := after hostOps0_9 (e8 V)
def e10 : Valuation τ sig (Elt Ideal) := after hostOps0_10 (e9 V)
def e11 : Valuation τ sig (Elt Ideal) := after hostOps0_11 (e10 V)
def e12 : Valuation τ sig (Elt Ideal) := after hostOps0_12 (e11 V)

theorem e0_keep (r : Ref sig .tc) (h : r ∉ hostOps0_W) : e0 V (Proc.devRef .tc r) = V (Proc.devRef .tc r) := after_of_writes_sub hostOps0 _ hostOps0_writes h
theorem e1_keep (r : Ref sig .tc) (h : r ∉ hostOps0_1_W) : e1 V (Proc.devRef .tc r) = e0 V (Proc.devRef .tc r) := after_of_writes_sub hostOps0_1 _ hostOps0_1_writes h
theorem e2_keep (r : Ref sig .tc) (h : r ∉ hostOps0_2_W) : e2 V (Proc.devRef .tc r) = e1 V (Proc.devRef .tc r) := after_of_writes_sub hostOps0_2 _ hostOps0_2_writes h
theorem e3_keep (r : Ref sig .tc) (h : r ∉ hostOps0_3_W) : e3 V (Proc.devRef .tc r) = e2 V (Proc.devRef .tc r) := after_of_writes_sub hostOps0_3 _ hostOps0_3_writes h
theorem e4_keep (r : Ref sig .tc) (h : r ∉ hostOps0_4_W) : e4 V (Proc.devRef .tc r) = e3 V (Proc.devRef .tc r) := after_of_writes_sub hostOps0_4 _ hostOps0_4_writes h
theorem e5_keep (r : Ref sig .tc) (h : r ∉ hostOps0_5_W) : e5 V (Proc.devRef .tc r) = e4 V (Proc.devRef .tc r) := after_of_writes_sub hostOps0_5 _ hostOps0_5_writes h
theorem e6_keep (r : Ref sig .tc) (h : r ∉ hostOps0_6_W) : e6 V (Proc.devRef .tc r) = e5 V (Proc.devRef .tc r) := after_of_writes_sub hostOps0_6 _ hostOps0_6_writes h
theorem e7_keep (r : Ref sig .tc) (h : r ∉ hostOps0_7_W) : e7 V (Proc.devRef .tc r) = e6 V (Proc.devRef .tc r) := after_of_writes_sub hostOps0_7 _ hostOps0_7_writes h
theorem e8_keep (r : Ref sig .tc) (h : r ∉ hostOps0_8_W) : e8 V (Proc.devRef .tc r) = e7 V (Proc.devRef .tc r) := after_of_writes_sub hostOps0_8 _ hostOps0_8_writes h
theorem e9_keep (r : Ref sig .tc) (h : r ∉ hostOps0_9_W) : e9 V (Proc.devRef .tc r) = e8 V (Proc.devRef .tc r) := after_of_writes_sub hostOps0_9 _ hostOps0_9_writes h
theorem e10_keep (r : Ref sig .tc) (h : r ∉ hostOps0_10_W) : e10 V (Proc.devRef .tc r) = e9 V (Proc.devRef .tc r) := after_of_writes_sub hostOps0_10 _ hostOps0_10_writes h
theorem e11_keep (r : Ref sig .tc) (h : r ∉ hostOps0_11_W) : e11 V (Proc.devRef .tc r) = e10 V (Proc.devRef .tc r) := after_of_writes_sub hostOps0_11 _ hostOps0_11_writes h
theorem e12_keep (r : Ref sig .tc) (h : r ∉ hostOps0_12_W) : e12 V (Proc.devRef .tc r) = e11 V (Proc.devRef .tc r) := after_of_writes_sub hostOps0_12 _ hostOps0_12_writes h

/-! No stretch before the loop writes an argument. -/

theorem e0_arg (r : Ref sig .tc) (h : r ∈ argRefs) : e0 V (Proc.devRef .tc r) = V (Proc.devRef .tc r) :=
  e0_keep V r ((by decide +kernel : ∀ r ∈ argRefs, r ∉ hostOps0_W) r h)
theorem e1_arg (r : Ref sig .tc) (h : r ∈ argRefs) : e1 V (Proc.devRef .tc r) = V (Proc.devRef .tc r) :=
  (e1_keep V r ((by decide +kernel : ∀ r ∈ argRefs, r ∉ hostOps0_1_W) r h)).trans (e0_arg V r h)
theorem e2_arg (r : Ref sig .tc) (h : r ∈ argRefs) : e2 V (Proc.devRef .tc r) = V (Proc.devRef .tc r) :=
  (e2_keep V r ((by decide +kernel : ∀ r ∈ argRefs, r ∉ hostOps0_2_W) r h)).trans (e1_arg V r h)
theorem e3_arg (r : Ref sig .tc) (h : r ∈ argRefs) : e3 V (Proc.devRef .tc r) = V (Proc.devRef .tc r) :=
  (e3_keep V r ((by decide +kernel : ∀ r ∈ argRefs, r ∉ hostOps0_3_W) r h)).trans (e2_arg V r h)
theorem e4_arg (r : Ref sig .tc) (h : r ∈ argRefs) : e4 V (Proc.devRef .tc r) = V (Proc.devRef .tc r) :=
  (e4_keep V r ((by decide +kernel : ∀ r ∈ argRefs, r ∉ hostOps0_4_W) r h)).trans (e3_arg V r h)
theorem e5_arg (r : Ref sig .tc) (h : r ∈ argRefs) : e5 V (Proc.devRef .tc r) = V (Proc.devRef .tc r) :=
  (e5_keep V r ((by decide +kernel : ∀ r ∈ argRefs, r ∉ hostOps0_5_W) r h)).trans (e4_arg V r h)
theorem e6_arg (r : Ref sig .tc) (h : r ∈ argRefs) : e6 V (Proc.devRef .tc r) = V (Proc.devRef .tc r) :=
  (e6_keep V r ((by decide +kernel : ∀ r ∈ argRefs, r ∉ hostOps0_6_W) r h)).trans (e5_arg V r h)
theorem e7_arg (r : Ref sig .tc) (h : r ∈ argRefs) : e7 V (Proc.devRef .tc r) = V (Proc.devRef .tc r) :=
  (e7_keep V r ((by decide +kernel : ∀ r ∈ argRefs, r ∉ hostOps0_7_W) r h)).trans (e6_arg V r h)
theorem e8_arg (r : Ref sig .tc) (h : r ∈ argRefs) : e8 V (Proc.devRef .tc r) = V (Proc.devRef .tc r) :=
  (e8_keep V r ((by decide +kernel : ∀ r ∈ argRefs, r ∉ hostOps0_8_W) r h)).trans (e7_arg V r h)
theorem e9_arg (r : Ref sig .tc) (h : r ∈ argRefs) : e9 V (Proc.devRef .tc r) = V (Proc.devRef .tc r) :=
  (e9_keep V r ((by decide +kernel : ∀ r ∈ argRefs, r ∉ hostOps0_9_W) r h)).trans (e8_arg V r h)
theorem e10_arg (r : Ref sig .tc) (h : r ∈ argRefs) : e10 V (Proc.devRef .tc r) = V (Proc.devRef .tc r) :=
  (e10_keep V r ((by decide +kernel : ∀ r ∈ argRefs, r ∉ hostOps0_10_W) r h)).trans (e9_arg V r h)
theorem e11_arg (r : Ref sig .tc) (h : r ∈ argRefs) : e11 V (Proc.devRef .tc r) = V (Proc.devRef .tc r) :=
  (e11_keep V r ((by decide +kernel : ∀ r ∈ argRefs, r ∉ hostOps0_11_W) r h)).trans (e10_arg V r h)
theorem e12_arg (r : Ref sig .tc) (h : r ∈ argRefs) : e12 V (Proc.devRef .tc r) = V (Proc.devRef .tc r) :=
  (e12_keep V r ((by decide +kernel : ∀ r ∈ argRefs, r ∉ hostOps0_12_W) r h)).trans (e11_arg V r h)

/-- One trip leaves what is kept: neither the condition nor the body writes it. -/
theorem trip_keep (r : Ref sig .tc) (h : r ∈ keptRefs) : afterL bodyI (after condOps V) (Proc.devRef .tc r) = V (Proc.devRef .tc r) := by
  simp only [afterL_cons, afterL_nil]
  rw [after_of_writes_sub while0Ops0_4 _ while0Ops0_4_writes ((by decide +kernel : ∀ r ∈ keptRefs, r ∉ while0Ops0_4_W) r h),
    after_of_writes_sub while0Ops0_3 _ while0Ops0_3_writes ((by decide +kernel : ∀ r ∈ keptRefs, r ∉ while0Ops0_3_W) r h),
    after_of_writes_sub while0Ops0_2 _ while0Ops0_2_writes ((by decide +kernel : ∀ r ∈ keptRefs, r ∉ while0Ops0_2_W) r h),
    after_of_writes_sub while0Ops0_1 _ while0Ops0_1_writes ((by decide +kernel : ∀ r ∈ keptRefs, r ∉ while0Ops0_1_W) r h),
    after_of_writes_sub while0Ops0 _ while0Ops0_writes ((by decide +kernel : ∀ r ∈ keptRefs, r ∉ while0Ops0_W) r h),
    after_of_writes_sub condOps _ condOps_writes ((by decide +kernel : ∀ r ∈ keptRefs, r ∉ condOps_W) r h)]

variable (m : (ℓ : Loc nD τ sig) → Buf (Elt Ideal) ℓ)

/-- What the buffers of a device hold at the launch. -/
abbrev launch (c : Dev nD) : Valuation τ sig (Elt Ideal) := fun b => m (c, b)

theorem entry_eq (c : Dev nD) : entryContents preI m c = e12 (launch m c) := rfl

/-- Any number of trips leave it. -/
theorem atK_keep (c : Dev nD) (r : Ref sig .tc) (h : r ∈ keptRefs) :
    ∀ k, atK m k c (Proc.devRef .tc r) = e12 (launch m c) (Proc.devRef .tc r)
  | 0 => congrFun (entry_eq m c) _
  | k + 1 => (trip_keep (atK m k c) r h).trans (atK_keep c r h k)

/-- What the buffers hold after the loop. -/
def pf (c : Dev nD) : Valuation τ sig (Elt Ideal) := after condOps (atK m 128 c)
def p13 (c : Dev nD) : Valuation τ sig (Elt Ideal) := after hostOps0_13 (pf m c)
def p14 (c : Dev nD) : Valuation τ sig (Elt Ideal) := after hostOps0_14 (p13 m c)

theorem final_eq (c : Dev nD) : finalContents condOps preI bodyI postI 128 m c = after hostOps0_15 (p14 m c) := rfl

theorem pf_keep (c : Dev nD) (r : Ref sig .tc) (h : r ∈ keptRefs) : pf m c (Proc.devRef .tc r) = e12 (launch m c) (Proc.devRef .tc r) :=
  (after_of_writes_sub condOps _ condOps_writes ((by decide +kernel : ∀ r ∈ keptRefs, r ∉ condOps_W) r h)).trans (atK_keep m c r h 128)

theorem p13_keep (c : Dev nD) (r : Ref sig .tc) (h : r ∈ keptRefs) : p13 m c (Proc.devRef .tc r) = e12 (launch m c) (Proc.devRef .tc r) :=
  (after_of_writes_sub hostOps0_13 _ hostOps0_13_writes ((by decide +kernel : ∀ r ∈ keptRefs, r ∉ hostOps0_13_W) r h)).trans (pf_keep m c r h)

theorem p14_keep (c : Dev nD) (r : Ref sig .tc) (h : r ∈ keptRefs) : p14 m c (Proc.devRef .tc r) = e12 (launch m c) (Proc.devRef .tc r) :=
  (after_of_writes_sub hostOps0_14 _ hostOps0_14_writes ((by decide +kernel : ∀ r ∈ keptRefs, r ∉ hostOps0_14_W) r h)).trans (p13_keep m c r h)

/-- The whole run leaves an argument as it was at the launch. -/
theorem final_arg (c : Dev nD) (r : Ref sig .tc) (h : r ∈ argRefs) :
    finalContents condOps preI bodyI postI 128 m c (Proc.devRef .tc r) = m ((c.tc : Thread nD τ).loc r) := by
  rw [final_eq, after_of_writes_sub hostOps0_15 _ hostOps0_15_writes ((by decide +kernel : ∀ r ∈ argRefs, r ∉ hostOps0_15_W) r h),
    p14_keep m c r ((by decide +kernel : ∀ r ∈ argRefs, r ∈ keptRefs) r h), e12_arg _ r h]

end Cert.ReferenceIdeal.Value
-- ==== Proof.RHead.lean ====
module

public import proofs.«01_k».proof.Proof.Gen.ReferenceIdeal.Run
public import proofs.«01_k».proof.Proof.Mask
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (V : Valuation τ sig (Elt Ideal))

/-- Head `j` of group `g`, of all sixteen. -/
def hh (g : Fin 2) (j : Fin 8) : Fin 16 := ⟨g.val * 8 + j.val, by omega⟩

/-- Entry `n` of the vector of group `g`, among the 128 of the two groups. -/
def gn (g : Fin 2) (n : Fin 64) : Fin 128 := ⟨g.val * 64 + n.val, by omega⟩

/-- Step `l` of chunk `k`. -/
def kl (k l : Fin 128) : Fin 16384 := ⟨k.val * 128 + l.val, by omega⟩

theorem kl_eq (k l : Fin 128) : kl k l = tIx k.val l := Fin.ext (by simp only [kl, tIx]; omega)

/-- The place of value lane `p` of head `j` of group `g`, among all 1024. -/
def hp (g : Fin 2) (j : Fin 8) (p : Fin 64) : Fin 1024 := ⟨g.val * 512 + j.val * 64 + p.val, by omega⟩

/-- The gate's input. -/
theorem s0_v0 (D : Data) (hu : ∀ b t j, (V (Proc.devRef .tc main_arg0) : Vec Ideal S2x16384x2304 .f32) (ix3 b t j) = D.u b t j)
    (b : Fin 2) (t : Fin 16384) (q : Fin 1024) :
    (after hostOps0 V (Proc.devRef .tc main_v0) : Vec Ideal S2x16384x1024 .f32) (ix3 b t q) = D.u b t ⟨q.val, by omega⟩ := by
  after_reads_at
  exact hu _ _ _

/-- The channels that the convolution reads. -/
theorem s0_v1 (D : Data) (hu : ∀ b t j, (V (Proc.devRef .tc main_arg0) : Vec Ideal S2x16384x2304 .f32) (ix3 b t j) = D.u b t j)
    (b : Fin 2) (t : Fin 16384) (q : Fin 1280) :
    (after hostOps0 V (Proc.devRef .tc main_v1) : Vec Ideal S2x16384x1280 .f32) (ix3 b t q) = D.u b t ⟨1024 + q.val, by omega⟩ := by
  after_reads_at
  exact hu _ _ _

/-- The step sizes' inputs. -/
theorem s0_v2 (D : Data) (hs : ∀ b t j, (V (Proc.devRef .tc main_arg1) : Vec Ideal S2x16384x128 .f32) (ix3 b t j) = D.sm b t j)
    (b : Fin 2) (t : Fin 16384) (h : Fin 16) :
    (after hostOps0 V (Proc.devRef .tc main_v2) : Vec Ideal S2x16384x16 .f32) (ix3 b t h) = D.sm b t ⟨h.val, by omega⟩ := by
  after_reads_at
  exact hs _ _ _

theorem s0_c : (after hostOps0 V (Proc.devRef .tc main_c) : IVec S_ 32) = constantI S_ 32 0#32 := by
  after_reads_simp

/-- The channels with three zero steps before them. -/
theorem s1_v3 (D : Data) (hu : ∀ b t q, (V (Proc.devRef .tc main_v1) : Vec Ideal S2x16384x1280 .f32) (ix3 b t q) = D.u b t ⟨1024 + q.val, by omega⟩)
    (hc : (V (Proc.devRef .tc main_c) : IVec S_ 32) = constantI S_ 32 0#32) (b : Fin 2) (t : Fin 16387) (q : Fin 1280) :
    (after hostOps0_1 V (Proc.devRef .tc main_v3) : Vec Ideal S2x16387x1280 .f32) (ix3 b t q) =
      (if h : 3 ≤ t.val then D.u b ⟨t.val - 3, by omega⟩ ⟨1024 + q.val, by omega⟩ else 0 : EReal) := by
  after_reads_at
  by_cases h : 3 ≤ t.val
  · rw [dif_pos h, dif_pos ⟨h, by omega⟩]
    exact hu _ _ _
  · rw [dif_neg h, dif_neg fun hh => h hh.1, hc]
    show (((0#32 : BitVec 32).toInt : ℝ) : EReal) = 0
    simp

/-- The causal convolution. -/
theorem s2_v33 (D : Data) (hu : ∀ b t (q : Fin 1280), (V (Proc.devRef .tc main_v3) : Vec Ideal S2x16387x1280 .f32) (ix3 b t q) =
      (if h : 3 ≤ t.val then D.u b ⟨t.val - 3, by omega⟩ ⟨1024 + q.val, by omega⟩ else 0 : EReal))
    (hw : ∀ k j, (V (Proc.devRef .tc main_arg2) : Vec Ideal S4x1280 .f32) (ix2 k j) = D.w k j)
    (hb : ∀ j, (V (Proc.devRef .tc main_arg3) : Vec Ideal S1280 .f32) (ix1 j) = D.cb j)
    (b : Fin 2) (t : Fin 16384) (j : Fin 1280) :
    (after hostOps0_2 V (Proc.devRef .tc main_v33) : Vec Ideal S2x16384x1280 .f32) (ix3 b t j) = D.conv b t j := by
  have hl : ∀ (k : ℕ) (hk : k < 3), (V (Proc.devRef .tc main_v3) : Vec Ideal S2x16387x1280 .f32) (ix3 b ⟨k + t.val, by omega⟩ j) = D.lag b t k j := by
    intro k hk
    rw [hu, Data.lag]
    by_cases h : t.val + k < 3
    · rw [if_pos h, dif_neg (by dsimp only; omega)]
    · rw [if_neg h, dif_pos (by dsimp only; omega)]
      exact congrArg (fun r => D.u b r _) (Fin.ext (by dsimp only; omega))
  after_reads_at
  have h0 := hl 0 (by omega)
  simp only [Nat.zero_add] at h0
  rw [h0, hl 1 (by omega), hl 2 (by omega), hu, dif_pos (by dsimp only; omega), hw, hw, hw, hw, hb, Data.conv,
    show (⟨3 + t.val - 3, by omega⟩ : Fin 16384) = t from Fin.ext (by dsimp only; omega)]
  generalize D.lag b t 0 j * D.w 0 j = A, D.lag b t 1 j * D.w 1 j = B, D.lag b t 2 j * D.w 2 j = C, D.u b t _ * D.w 3 j = E, D.cb j = F
  ac_rfl

/-- The gated channels. -/
theorem s3_v34 (x : Fin 2 → Fin 16384 → Fin 1280 → EReal)
    (hx : ∀ b t j, (V (Proc.devRef .tc main_v33) : Vec Ideal S2x16384x1280 .f32) (ix3 b t j) = x b t j)
    (b : Fin 2) (t : Fin 16384) (j : Fin 1280) :
    (after hostOps0_3 V (Proc.devRef .tc main_v34) : Vec Ideal S2x16384x1280 .f32) (ix3 b t j) = gate (x b t j) := by
  after_reads_at
  rw [hx]
  rfl

theorem s4_v35 (x : Fin 2 → Fin 16384 → Fin 1280 → EReal)
    (hx : ∀ b t j, (V (Proc.devRef .tc main_v34) : Vec Ideal S2x16384x1280 .f32) (ix3 b t j) = x b t j)
    (b : Fin 2) (t : Fin 16384) (q : Fin 1024) :
    (after hostOps0_4 V (Proc.devRef .tc main_v35) : Vec Ideal S2x16384x1024 .f32) (ix3 b t q) = x b t ⟨q.val, by omega⟩ := by
  after_reads_at
  exact hx _ _ _

theorem s4_v36 (x : Fin 2 → Fin 16384 → Fin 1280 → EReal)
    (hx : ∀ b t j, (V (Proc.devRef .tc main_v34) : Vec Ideal S2x16384x1280 .f32) (ix3 b t j) = x b t j)
    (b : Fin 2) (t : Fin 16384) (q : Fin 128) :
    (after hostOps0_4 V (Proc.devRef .tc main_v36) : Vec Ideal S2x16384x128 .f32) (ix3 b t q) = x b t ⟨1024 + q.val, by omega⟩ := by
  after_reads_at
  exact hx _ _ _

theorem s4_v37 (x : Fin 2 → Fin 16384 → Fin 1280 → EReal)
    (hx : ∀ b t j, (V (Proc.devRef .tc main_v34) : Vec Ideal S2x16384x1280 .f32) (ix3 b t j) = x b t j)
    (b : Fin 2) (t : Fin 16384) (q : Fin 128) :
    (after hostOps0_4 V (Proc.devRef .tc main_v37) : Vec Ideal S2x16384x128 .f32) (ix3 b t q) = x b t ⟨1152 + q.val, by omega⟩ := by
  after_reads_at
  exact hx _ _ _

theorem s4_v40 (D : Data) (hs : ∀ b t (h : Fin 16), (V (Proc.devRef .tc main_v2) : Vec Ideal S2x16384x16 .f32) (ix3 b t h) = D.sm b t ⟨h.val, by omega⟩)
    (hb : ∀ h, (V (Proc.devRef .tc main_arg4) : Vec Ideal S16 .f32) (ix1 h) = D.dtb h) (b : Fin 2) (t : Fin 16384) (h : Fin 16) :
    (after hostOps0_4 V (Proc.devRef .tc main_v40) : Vec Ideal S2x16384x16 .f32) (ix3 b t h) = D.sm b t ⟨h.val, by omega⟩ + D.dtb h := by
  after_reads_at
  rw [hs, hb]

/-- The step sizes; the test for a value that is not itself never holds. -/
theorem s5_v41 (x : Fin 2 → Fin 16384 → Fin 16 → EReal)
    (hx : ∀ b t j, (V (Proc.devRef .tc main_v40) : Vec Ideal S2x16384x16 .f32) (ix3 b t j) = x b t j) (b : Fin 2) (t : Fin 16384) (h : Fin 16) :
    (after hostOps0_5 V (Proc.devRef .tc main_v41) : Vec Ideal S2x16384x16 .f32) (ix3 b t h) = softplus (x b t h) := by
  after_reads_at
  rw [if_neg (fun hne => hne rfl), hx, softplus, zero_sub]

end Cert.ReferenceIdeal.Value
-- ==== Proof.RChunk.lean ====
module

public import proofs.«01_k».proof.Proof.Gen.ReferenceIdeal.Run
public import proofs.«01_k».proof.Proof.Mask
public import proofs.«01_k».proof.Proof.RHead
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (V : Valuation τ sig (Elt Ideal))

theorem s6_v42 (x : Fin 2 → Fin 16384 → Fin 16 → EReal)
    (hx : ∀ b t j, (V (Proc.devRef .tc main_v41) : Vec Ideal S2x16384x16 .f32) (ix3 b t j) = x b t j) (b : Fin 2) (k l : Fin 128) (g : Fin 2) (j : Fin 8) :
    (after hostOps0_6 V (Proc.devRef .tc main_v42) : Vec Ideal S2x128x128x2x8 .f32) (ix5 b k l g j) = x b (kl k l) (hh g j) := by
  after_reads_at
  exact hx _ _ _

/-- The log decay of each step. -/
theorem s6_v48 (D : Data) (x : Fin 2 → Fin 16384 → Fin 16 → EReal)
    (hx : ∀ b t j, (V (Proc.devRef .tc main_v41) : Vec Ideal S2x16384x16 .f32) (ix3 b t j) = x b t j)
    (ha : ∀ h, (V (Proc.devRef .tc main_arg5) : Vec Ideal S16 .f32) (ix1 h) = D.alog h) (b : Fin 2) (k l : Fin 128) (g : Fin 2) (j : Fin 8) :
    (after hostOps0_6 V (Proc.devRef .tc main_v48) : Vec Ideal S2x128x128x2x8 .f32) (ix5 b k l g j) = x b (kl k l) (hh g j) * -Ideal.exp (D.alog (hh g j)) := by
  after_reads_at
  rw [hx, ha]
  rfl

theorem s8_v50 (x : Fin 2 → Fin 16384 → Fin 1024 → EReal)
    (hx : ∀ b t j, (V (Proc.devRef .tc main_v35) : Vec Ideal S2x16384x1024 .f32) (ix3 b t j) = x b t j) (b : Fin 2) (k l : Fin 128) (g : Fin 2) (j : Fin 8) (p : Fin 64) :
    (after hostOps0_8 V (Proc.devRef .tc main_v50) : Vec Ideal S2x128x128x2x8x64 .f32) (ix6 b k l g j p) = x b (kl k l) (hp g j p) := by
  after_reads_at
  exact hx _ _ _

theorem s8_v51 (x : Fin 2 → Fin 16384 → Fin 128 → EReal)
    (hx : ∀ b t j, (V (Proc.devRef .tc main_v36) : Vec Ideal S2x16384x128 .f32) (ix3 b t j) = x b t j) (b : Fin 2) (k l : Fin 128) (g : Fin 2) (n : Fin 64) :
    (after hostOps0_8 V (Proc.devRef .tc main_v51) : Vec Ideal S2x128x128x2x64 .f32) (ix5 b k l g n) = x b (kl k l) (gn g n) := by
  after_reads_at
  exact hx _ _ _

theorem s8_v52 (x : Fin 2 → Fin 16384 → Fin 128 → EReal)
    (hx : ∀ b t j, (V (Proc.devRef .tc main_v37) : Vec Ideal S2x16384x128 .f32) (ix3 b t j) = x b t j) (b : Fin 2) (k l : Fin 128) (g : Fin 2) (n : Fin 64) :
    (after hostOps0_8 V (Proc.devRef .tc main_v52) : Vec Ideal S2x128x128x2x64 .f32) (ix5 b k l g n) = x b (kl k l) (gn g n) := by
  after_reads_at
  exact hx _ _ _

theorem s8_v55 (x : Fin 2 → Fin 16384 → Fin 1024 → EReal) (dt : Fin 2 → Fin 128 → Fin 128 → Fin 2 → Fin 8 → EReal)
    (hx : ∀ b t j, (V (Proc.devRef .tc main_v35) : Vec Ideal S2x16384x1024 .f32) (ix3 b t j) = x b t j)
    (hd : ∀ b k l g j, (V (Proc.devRef .tc main_v42) : Vec Ideal S2x128x128x2x8 .f32) (ix5 b k l g j) = dt b k l g j)
    (b : Fin 2) (k l : Fin 128) (g : Fin 2) (j : Fin 8) (p : Fin 64) :
    (after hostOps0_8 V (Proc.devRef .tc main_v55) : Vec Ideal S2x128x128x2x8x64 .f32) (ix6 b k l g j p) = x b (kl k l) (hp g j p) * dt b k l g j := by
  after_reads_at
  rw [hx, hd]
  rfl

theorem s8_v60 (ac : Fin 2 → Fin 128 → Fin 128 → Fin 2 → Fin 8 → EReal)
    (ha : ∀ b k l g j, (V (Proc.devRef .tc main_v49) : Vec Ideal S2x128x128x2x8 .f32) (ix5 b k l g j) = ac b k l g j)
    (b : Fin 2) (k l r : Fin 128) (g : Fin 2) (j : Fin 8) :
    (after hostOps0_8 V (Proc.devRef .tc main_v60) : Vec Ideal S2x128x128x128x2x8 .f32) (ix6 b k l r g j) = ac b k l g j - ac b k r g j := by
  after_reads_at
  rw [ha, ha]

theorem s8_v61 (l r : Fin 128) :
    (after hostOps0_8 V (Proc.devRef .tc main_v61) : IVec S128x128 1) (ix2 l r) = 1#1 := by
  after_reads_at

/-- The causal mask, as a table of bits. -/
theorem s9_v62 (h1 : ∀ l r, (V (Proc.devRef .tc main_v61) : IVec S128x128 1) (ix2 l r) = 1#1) (l r : Fin 128) :
    (after hostOps0_9 V (Proc.devRef .tc main_v62) : IVec S128x128 1) (ix2 l r) = if r ≤ l then 1#1 else 0#1 := by
  after_reads_at
  rw [h1]
  have hl := l.isLt
  have hr := r.isLt
  by_cases h : r ≤ l
  · have hv : r.val ≤ l.val := h
    rw [if_pos h, show IntOp.cmpi CmpIPredicate.sge (IntOp.addi (BitVec.ofNat 32 l.val) 0#32) (BitVec.ofNat 32 r.val) = 1#1 by word_omega]
    rfl
  · have hv : ¬ r.val ≤ l.val := h
    rw [if_neg h, show IntOp.cmpi CmpIPredicate.sge (IntOp.addi (BitVec.ofNat 32 l.val) 0#32) (BitVec.ofNat 32 r.val) = 0#1 by word_omega]
    rfl

theorem s10_v63 (hm : ∀ l r, (V (Proc.devRef .tc main_v62) : IVec S128x128 1) (ix2 l r) = if r ≤ l then 1#1 else 0#1) (l r : Fin 128) (a b : Fin 1) :
    (after hostOps0_10 V (Proc.devRef .tc main_v63) : IVec S128x128x1x1 1) (ix4 l r a b) = if r ≤ l then 1#1 else 0#1 := by
  after_reads_at
  exact hm _ _

theorem s10_cst : (after hostOps0_10 V (Proc.devRef .tc main_cst) : Vec Ideal S_ .f32) ix0 = (⊥ : EReal) := by
  after_reads_at
  exact neg_inf_f32

/-- The decays' exponents, with later tokens cut off. -/
theorem s11_v64 (sg : Fin 2 → Fin 128 → Fin 128 → Fin 128 → Fin 2 → Fin 8 → EReal)
    (hm : ∀ l r a b, (V (Proc.devRef .tc main_v63) : IVec S128x128x1x1 1) (ix4 l r a b) = if r ≤ l then 1#1 else 0#1)
    (hs : ∀ b k l r g j, (V (Proc.devRef .tc main_v60) : Vec Ideal S2x128x128x128x2x8 .f32) (ix6 b k l r g j) = sg b k l r g j)
    (hc : (V (Proc.devRef .tc main_cst) : Vec Ideal S_ .f32) ix0 = (⊥ : EReal))
    (b : Fin 2) (k l r : Fin 128) (g : Fin 2) (j : Fin 8) :
    (after hostOps0_11 V (Proc.devRef .tc main_v64) : Vec Ideal S2x128x128x128x2x8 .f32) (ix6 b k l r g j) = if r ≤ l then sg b k l r g j else ⊥ := by
  after_reads_at
  rw [id_eq, hm, hs, hc]
  split_ifs <;> rfl

/-- The contributions of a chunk's own tokens. -/
theorem s12_v72 (xd : Fin 2 → Fin 128 → Fin 128 → Fin 2 → Fin 8 → Fin 64 → EReal) (bb cc : Fin 2 → Fin 128 → Fin 128 → Fin 2 → Fin 64 → EReal)
    (sg : Fin 2 → Fin 128 → Fin 128 → Fin 128 → Fin 2 → Fin 8 → EReal)
    (hx : ∀ b k l g j p, (V (Proc.devRef .tc main_v55) : Vec Ideal S2x128x128x2x8x64 .f32) (ix6 b k l g j p) = xd b k l g j p)
    (hb : ∀ b k l g n, (V (Proc.devRef .tc main_v51) : Vec Ideal S2x128x128x2x64 .f32) (ix5 b k l g n) = bb b k l g n)
    (hc : ∀ b k l g n, (V (Proc.devRef .tc main_v52) : Vec Ideal S2x128x128x2x64 .f32) (ix5 b k l g n) = cc b k l g n)
    (hs : ∀ b k l r g j, (V (Proc.devRef .tc main_v64) : Vec Ideal S2x128x128x128x2x8 .f32) (ix6 b k l r g j) = sg b k l r g j)
    (b : Fin 2) (k l : Fin 128) (g : Fin 2) (j : Fin 8) (p : Fin 64) :
    (after hostOps0_12 V (Proc.devRef .tc main_v72) : Vec Ideal S2x128x128x2x8x64 .f32) (ix6 b k l g j p) =
      ∑ r : Fin 128, xd b k r g j p * ((∑ n : Fin 64, bb b k r g n * cc b k l g n) * Ideal.exp (sg b k l r g j)) := by
  after_reads_at
  simp only [hx, hb, hc, hs]

/-- What each chunk adds to the state. -/
theorem s12_st (xd : Fin 2 → Fin 128 → Fin 128 → Fin 2 → Fin 8 → Fin 64 → EReal) (bb : Fin 2 → Fin 128 → Fin 128 → Fin 2 → Fin 64 → EReal)
    (ac : Fin 2 → Fin 128 → Fin 128 → Fin 2 → Fin 8 → EReal)
    (hx : ∀ b k l g j p, (V (Proc.devRef .tc main_v55) : Vec Ideal S2x128x128x2x8x64 .f32) (ix6 b k l g j p) = xd b k l g j p)
    (hb : ∀ b k l g n, (V (Proc.devRef .tc main_v51) : Vec Ideal S2x128x128x2x64 .f32) (ix5 b k l g n) = bb b k l g n)
    (ha : ∀ b k l g j, (V (Proc.devRef .tc main_v49) : Vec Ideal S2x128x128x2x8 .f32) (ix5 b k l g j) = ac b k l g j)
    (k : Fin 128) (b : Fin 2) (g : Fin 2) (j : Fin 8) (p n : Fin 64) :
    (after hostOps0_12 V (Proc.devRef .tc main_v90_0) : Vec Ideal S128x2x2x8x64x64 .f32) (ix6 k b g j p n) =
      ∑ l : Fin 128, xd b k l g j p * Ideal.exp (ac b k 127 g j - ac b k l g j) * bb b k l g n := by
  after_reads_at
  simp only [id_eq]
  pointwise
  simp only [hx, hb, ha]

/-- Each chunk's whole decay. -/
theorem s12_dec (ac : Fin 2 → Fin 128 → Fin 128 → Fin 2 → Fin 8 → EReal)
    (ha : ∀ b k l g j, (V (Proc.devRef .tc main_v49) : Vec Ideal S2x128x128x2x8 .f32) (ix5 b k l g j) = ac b k l g j)
    (k : Fin 128) (b : Fin 2) (g : Fin 2) (j : Fin 8) :
    (after hostOps0_12 V (Proc.devRef .tc main_v90_1) : Vec Ideal S128x2x2x8 .f32) (ix4 k b g j) = Ideal.exp (ac b k 127 g j) := by
  after_reads_at
  simp only [id_eq]
  pointwise
  rw [ha]

theorem s12_s0 (b : Fin 2) (g : Fin 2) (j : Fin 8) (p n : Fin 64) :
    (after hostOps0_12 V (Proc.devRef .tc main_v90_3) : Vec Ideal S2x2x8x64x64 .f32) (ix5 b g j p n) = (0 : EReal) := by
  after_reads_at
  simp only [id_eq]
  pointwise

end Cert.ReferenceIdeal.Value
-- ==== Proof.RSum.lean ====
module

public import proofs.«01_k».proof.Proof.Gen.ReferenceIdeal.Run
public import proofs.«01_k».proof.Proof.Mask
public import Idealize.ShloMosaic.Lib.Pointwise
public import Idealize.ShloMosaic.Lib.ValueIdxRank6
public import Idealize.ShloMosaic.Lib.StableHlo.ReadAt

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (V : Valuation τ sig (Elt Ideal))

/-- A window one element wide on every axis but the third, 128 there: its positions are counted by the third coordinate. -/
abbrev Win : Shape := ⟨5, ![1, 1, 128, 1, 1]⟩

theorem win_numel : Win.numel = 128 := by decide

theorem win_at (n : Fin Win.numel) (a : Fin 5) : (Win.rowMajor.symm n a).val = if a = 2 then n.val else 0 := by
  have h : Win.rowMajor (Win.rowMajor.symm n) = n := Equiv.apply_symm_apply _ _
  obtain ⟨i, hi⟩ : ∃ i, Win.rowMajor.symm n = i := ⟨_, rfl⟩
  rw [hi] at h ⊢
  have h0 : (i 0).val < 1 := (i 0).isLt
  have h1 : (i 1).val < 1 := (i 1).isLt
  have h3 : (i 3).val < 1 := (i 3).isLt
  have h4 : (i 4).val < 1 := (i 4).isLt
  have e := congrArg Fin.val h
  rw [Shape.rowMajor_val_five] at e
  simp only [Matrix.cons_val] at e
  fin_cases a <;> simp <;> omega

/-- A fold of additions over all of a finite range is the sum. -/
theorem foldl_add_sum {N : ℕ} (f : Fin N → EReal) (z : EReal) : (List.finRange N).foldl (fun r n => r + f n) z = z + ∑ n, f n := by
  rw [← List.sum_ofFn, List.ofFn_eq_map]
  generalize List.finRange N = l
  induction l generalizing z with
  | nil => simp
  | cons a l ih => rw [List.foldl_cons, ih, List.map_cons, List.sum_cons, add_assoc]

/-- A running sum along the third axis, as it prints: the window of the 128 positions up to each one. -/
theorem cumsum_at (x : S2x128x128x2x8.Idx → EReal) (init : S_.Idx → EReal) (hz : init (Shape.Idx.first h_S_) = 0)
    (b : Fin 2) (k l : Fin 128) (g : Fin 2) (j : Fin 8) :
    Host.reduceWindowAdd (F := Ideal) (φ := .f32) ![1, 1, 128, 1, 1] ![1, 1, 1, 1, 1] ![0, 0, 127, 0, 0] ![0, 0, 0, 0, 0] x init
      reduceWindows_S2x128x128x2x8_S2x128x128x2x8_w1s1p0_0_w1s1p0_0_w128s1p127_0_w1s1p0_0_w1s1p0_0 h_S_ (ix5 b k l g j)
      = ∑ r : Fin 128, if r ≤ l then x (ix5 b k r g j) else 0 := by
  unfold Host.reduceWindowAdd
  rw [Ideal.hostReduceWindowAdd_def]
  unfold Ideal.hostReduceWindowAdd Host.reduceWindow
  dsimp only
  rw [hz, foldl_add_sum, zero_add]
  refine (Fintype.sum_equiv ((Equiv.addRight (127 - l)).trans (finCongr win_numel.symm)) _ _ (fun r => ?_)).symm
  obtain ⟨n, hn⟩ : ∃ n, ((Equiv.addRight (127 - l)).trans (finCongr win_numel.symm)) r = n := ⟨_, rfl⟩
  have hv : n.val = (r.val + (127 - l.val)) % 128 := by
    rw [← hn]
    simp only [Equiv.trans_apply, Equiv.coe_addRight, finCongr_apply, Fin.val_cast, Fin.val_add, Fin.val_sub]
    have : (127 : Fin 128).val = 127 := rfl
    omega
  rw [hn]
  have hw := win_at n
  by_cases h : r ≤ l
  · have h' : r.val ≤ l.val := h
    rw [if_pos h, dif_pos]
    · congr 1
      funext a
      refine Fin.ext ?_
      dsimp only
      rw [hw a]
      fin_cases a <;> simp <;> omega
    · intro a
      rw [hw a]
      fin_cases a <;> simp <;> omega
  · have h' : ¬ r.val ≤ l.val := h
    rw [if_neg h, dif_neg]
    intro hin
    have h2 := (hin 2).1
    rw [hw 2] at h2
    simp at h2
    omega

/-- The running sums of the log decays, within each chunk. -/
theorem s7_v49 (a : Fin 2 → Fin 128 → Fin 128 → Fin 2 → Fin 8 → EReal)
    (ha : ∀ b k l g j, (V (Proc.devRef .tc main_v48) : Vec Ideal S2x128x128x2x8 .f32) (ix5 b k l g j) = a b k l g j)
    (b : Fin 2) (k l : Fin 128) (g : Fin 2) (j : Fin 8) :
    (after hostOps0_7 V (Proc.devRef .tc main_v49) : Vec Ideal S2x128x128x2x8 .f32) (ix5 b k l g j) =
      ∑ r : Fin 128, if r ≤ l then a b k r g j else 0 := by
  after_reads_at
  rw [cumsum_at]
  · simp only [ha]
  · simp [broadcastInDim, constant]

end Cert.ReferenceIdeal.Value
-- ==== Proof.RPre.lean ====
module

public import proofs.«01_k».proof.Proof.Gen.ReferenceIdeal.Run
public import proofs.«01_k».proof.Proof.Mask
public import proofs.«01_k».proof.Proof.RKeep
public import proofs.«01_k».proof.Proof.RHead
public import proofs.«01_k».proof.Proof.RChunk
public import proofs.«01_k».proof.Proof.RSum
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (V : Valuation τ sig (Elt Ideal))

/-- The arguments hold the arrays `D`. -/
structure Holds (D : Data) : Prop where
  u : ∀ b t j, (V (Proc.devRef .tc main_arg0) : Vec Ideal S2x16384x2304 .f32) (ix3 b t j) = D.u b t j
  sm : ∀ b t j, (V (Proc.devRef .tc main_arg1) : Vec Ideal S2x16384x128 .f32) (ix3 b t j) = D.sm b t j
  w : ∀ k j, (V (Proc.devRef .tc main_arg2) : Vec Ideal S4x1280 .f32) (ix2 k j) = D.w k j
  cb : ∀ j, (V (Proc.devRef .tc main_arg3) : Vec Ideal S1280 .f32) (ix1 j) = D.cb j
  dtb : ∀ h, (V (Proc.devRef .tc main_arg4) : Vec Ideal S16 .f32) (ix1 h) = D.dtb h
  alog : ∀ h, (V (Proc.devRef .tc main_arg5) : Vec Ideal S16 .f32) (ix1 h) = D.alog h
  dsk : ∀ h, (V (Proc.devRef .tc main_arg6) : Vec Ideal S16 .f32) (ix1 h) = D.dsk h
  ng : ∀ q, (V (Proc.devRef .tc main_arg7) : Vec Ideal S1024 .f32) (ix1 q) = D.ng q

/-! The chunk's arrays, by batch entry, chunk, step, group, head within the group and lane. -/

def xf (D : Data) (b : Fin 2) (k l : Fin 128) (g : Fin 2) (j : Fin 8) (p : Fin 64) : EReal := D.xb b k l (xIx (hh g j) p)
def bf (D : Data) (b : Fin 2) (k l : Fin 128) (g : Fin 2) (n : Fin 64) : EReal := D.xb b k l (bIx (hh g 0) n)
def cf (D : Data) (b : Fin 2) (k l : Fin 128) (g : Fin 2) (n : Fin 64) : EReal := D.xb b k l (cIx (hh g 0) n)
def tf (D : Data) (b : Fin 2) (k l : Fin 128) (g : Fin 2) (j : Fin 8) : EReal := D.dt b k l (hh g j)
def af (D : Data) (b : Fin 2) (k l : Fin 128) (g : Fin 2) (j : Fin 8) : EReal := D.ac b k l (hh g j)

/-- The exponents of the decays between a chunk's tokens. -/
def sf (D : Data) (b : Fin 2) (k l r : Fin 128) (g : Fin 2) (j : Fin 8) : EReal := if r ≤ l then af D b k l g j - af D b k r g j else ⊥

variable {V} {D : Data} (H : Holds V D)
include H

theorem e2_v33 (b : Fin 2) (t : Fin 16384) (j : Fin 1280) :
    (e2 V (Proc.devRef .tc main_v33) : Vec Ideal S2x16384x1280 .f32) (ix3 b t j) = D.conv b t j :=
  s2_v33 (e1 V) D (s1_v3 (e0 V) D (s0_v1 V D H.u) (s0_c V)) (fun k j => by rw [e1_arg V main_arg2 (by decide +kernel), H.w])
    (fun j => by rw [e1_arg V main_arg3 (by decide +kernel), H.cb]) b t j

theorem e3_v34 (b : Fin 2) (t : Fin 16384) (j : Fin 1280) :
    (e3 V (Proc.devRef .tc main_v34) : Vec Ideal S2x16384x1280 .f32) (ix3 b t j) = gate (D.conv b t j) :=
  s3_v34 (e2 V) _ (e2_v33 H) b t j

/-- The step sizes. -/
theorem e5_v41 (b : Fin 2) (t : Fin 16384) (h : Fin 16) :
    (e5 V (Proc.devRef .tc main_v41) : Vec Ideal S2x16384x16 .f32) (ix3 b t h) = softplus (D.sm b t ⟨h.val, by omega⟩ + D.dtb h) :=
  s5_v41 (e4 V) (fun b t h => D.sm b t ⟨h.val, by omega⟩ + D.dtb h) (s4_v40 (e3 V) D
    (fun b t h => by
      rw [e3_keep V main_v2 (by decide +kernel), e2_keep V main_v2 (by decide +kernel), e1_keep V main_v2 (by decide +kernel)]
      exact s0_v2 V D H.sm b t h)
    (fun h => by rw [e3_arg V main_arg4 (by decide +kernel), H.dtb])) b t h

theorem e6_v42 (b : Fin 2) (k l : Fin 128) (g : Fin 2) (j : Fin 8) :
    (e6 V (Proc.devRef .tc main_v42) : Vec Ideal S2x128x128x2x8 .f32) (ix5 b k l g j) = tf D b k l g j := by
  refine (s6_v42 (e5 V) (fun b t h => softplus (D.sm b t ⟨h.val, by omega⟩ + D.dtb h)) (e5_v41 H) b k l g j).trans ?_
  rw [kl_eq]
  rfl

theorem e6_v48 (b : Fin 2) (k l : Fin 128) (g : Fin 2) (j : Fin 8) :
    (e6 V (Proc.devRef .tc main_v48) : Vec Ideal S2x128x128x2x8 .f32) (ix5 b k l g j) = tf D b k l g j * -Ideal.exp (D.alog (hh g j)) := by
  refine (s6_v48 (e5 V) D (fun b t h => softplus (D.sm b t ⟨h.val, by omega⟩ + D.dtb h)) (e5_v41 H)
    (fun h => by rw [e5_arg V main_arg5 (by decide +kernel), H.alog]) b k l g j).trans ?_
  rw [kl_eq]
  rfl

/-- The running sums of the log decays. -/
theorem e7_v49 (b : Fin 2) (k l : Fin 128) (g : Fin 2) (j : Fin 8) :
    (e7 V (Proc.devRef .tc main_v49) : Vec Ideal S2x128x128x2x8 .f32) (ix5 b k l g j) = af D b k l g j :=
  s7_v49 (e6 V) (fun b k l g j => tf D b k l g j * -Ideal.exp (D.alog (hh g j))) (e6_v48 H) b k l g j

theorem e7_v35 (b : Fin 2) (t : Fin 16384) (q : Fin 1024) :
    (e7 V (Proc.devRef .tc main_v35) : Vec Ideal S2x16384x1024 .f32) (ix3 b t q) = gate (D.conv b t ⟨q.val, by omega⟩) := by
  rw [e7_keep V main_v35 (by decide +kernel), e6_keep V main_v35 (by decide +kernel), e5_keep V main_v35 (by decide +kernel)]
  exact s4_v35 (e3 V) (fun b t j => gate (D.conv b t j)) (e3_v34 H) b t q

theorem e7_v36 (b : Fin 2) (t : Fin 16384) (q : Fin 128) :
    (e7 V (Proc.devRef .tc main_v36) : Vec Ideal S2x16384x128 .f32) (ix3 b t q) = gate (D.conv b t ⟨1024 + q.val, by omega⟩) := by
  rw [e7_keep V main_v36 (by decide +kernel), e6_keep V main_v36 (by decide +kernel), e5_keep V main_v36 (by decide +kernel)]
  exact s4_v36 (e3 V) (fun b t j => gate (D.conv b t j)) (e3_v34 H) b t q

theorem e7_v37 (b : Fin 2) (t : Fin 16384) (q : Fin 128) :
    (e7 V (Proc.devRef .tc main_v37) : Vec Ideal S2x16384x128 .f32) (ix3 b t q) = gate (D.conv b t ⟨1152 + q.val, by omega⟩) := by
  rw [e7_keep V main_v37 (by decide +kernel), e6_keep V main_v37 (by decide +kernel), e5_keep V main_v37 (by decide +kernel)]
  exact s4_v37 (e3 V) (fun b t j => gate (D.conv b t j)) (e3_v34 H) b t q

omit H in
theorem gate_hp (b : Fin 2) (k l : Fin 128) (g : Fin 2) (j : Fin 8) (p : Fin 64) (h : (hp g j p).val < 1280) :
    gate (D.conv b (kl k l) ⟨(hp g j p).val, h⟩) = xf D b k l g j p := by
  rw [kl_eq, show (⟨(hp g j p).val, h⟩ : Fin 1280) = xIx (hh g j) p from Fin.ext (by simp only [hp, xIx, hh]; omega)]
  rfl

omit H in
theorem gate_gn_b (b : Fin 2) (k l : Fin 128) (g : Fin 2) (n : Fin 64) (h : 1024 + (gn g n).val < 1280) :
    gate (D.conv b (kl k l) ⟨1024 + (gn g n).val, h⟩) = bf D b k l g n := by
  rw [kl_eq, show (⟨1024 + (gn g n).val, h⟩ : Fin 1280) = bIx (hh g 0) n from Fin.ext (by simp only [gn, bIx, hh, Fin.val_zero]; omega)]
  rfl

omit H in
theorem gate_gn_c (b : Fin 2) (k l : Fin 128) (g : Fin 2) (n : Fin 64) (h : 1152 + (gn g n).val < 1280) :
    gate (D.conv b (kl k l) ⟨1152 + (gn g n).val, h⟩) = cf D b k l g n := by
  rw [kl_eq, show (⟨1152 + (gn g n).val, h⟩ : Fin 1280) = cIx (hh g 0) n from Fin.ext (by simp only [gn, cIx, hh, Fin.val_zero]; omega)]
  rfl

theorem e8_v50 (b : Fin 2) (k l : Fin 128) (g : Fin 2) (j : Fin 8) (p : Fin 64) :
    (e8 V (Proc.devRef .tc main_v50) : Vec Ideal S2x128x128x2x8x64 .f32) (ix6 b k l g j p) = xf D b k l g j p :=
  (s8_v50 (e7 V) (fun b t q => gate (D.conv b t ⟨q.val, by omega⟩)) (e7_v35 H) b k l g j p).trans (gate_hp ..)

theorem e8_v51 (b : Fin 2) (k l : Fin 128) (g : Fin 2) (n : Fin 64) :
    (e8 V (Proc.devRef .tc main_v51) : Vec Ideal S2x128x128x2x64 .f32) (ix5 b k l g n) = bf D b k l g n :=
  (s8_v51 (e7 V) (fun b t q => gate (D.conv b t ⟨1024 + q.val, by omega⟩)) (e7_v36 H) b k l g n).trans (gate_gn_b ..)

theorem e8_v52 (b : Fin 2) (k l : Fin 128) (g : Fin 2) (n : Fin 64) :
    (e8 V (Proc.devRef .tc main_v52) : Vec Ideal S2x128x128x2x64 .f32) (ix5 b k l g n) = cf D b k l g n :=
  (s8_v52 (e7 V) (fun b t q => gate (D.conv b t ⟨1152 + q.val, by omega⟩)) (e7_v37 H) b k l g n).trans (gate_gn_c ..)

theorem e8_v55 (b : Fin 2) (k l : Fin 128) (g : Fin 2) (j : Fin 8) (p : Fin 64) :
    (e8 V (Proc.devRef .tc main_v55) : Vec Ideal S2x128x128x2x8x64 .f32) (ix6 b k l g j p) = xf D b k l g j p * tf D b k l g j :=
  (s8_v55 (e7 V) (fun b t q => gate (D.conv b t ⟨q.val, by omega⟩)) (tf D) (e7_v35 H)
    (fun b k l g j => by rw [e7_keep V main_v42 (by decide +kernel)]; exact e6_v42 H b k l g j) b k l g j p).trans
    (congrArg (· * tf D b k l g j) (gate_hp ..))

theorem e10_v60 (b : Fin 2) (k l r : Fin 128) (g : Fin 2) (j : Fin 8) :
    (e10 V (Proc.devRef .tc main_v60) : Vec Ideal S2x128x128x128x2x8 .f32) (ix6 b k l r g j) = af D b k l g j - af D b k r g j := by
  rw [e10_keep V main_v60 (by decide +kernel), e9_keep V main_v60 (by decide +kernel)]
  exact s8_v60 (e7 V) (af D) (e7_v49 H) b k l r g j

/-- The exponents of the decays between a chunk's tokens. -/
theorem e11_v64 (b : Fin 2) (k l r : Fin 128) (g : Fin 2) (j : Fin 8) :
    (e11 V (Proc.devRef .tc main_v64) : Vec Ideal S2x128x128x128x2x8 .f32) (ix6 b k l r g j) = sf D b k l r g j :=
  s11_v64 (e10 V) (fun b k l r g j => af D b k l g j - af D b k r g j) (s10_v63 (e9 V) (s9_v62 (e8 V) (s8_v61 (e7 V)))) (e10_v60 H)
    (s10_cst (e9 V)) b k l r g j

theorem e11_v49 (b : Fin 2) (k l : Fin 128) (g : Fin 2) (j : Fin 8) :
    (e11 V (Proc.devRef .tc main_v49) : Vec Ideal S2x128x128x2x8 .f32) (ix5 b k l g j) = af D b k l g j := by
  rw [e11_keep V main_v49 (by decide +kernel), e10_keep V main_v49 (by decide +kernel), e9_keep V main_v49 (by decide +kernel), e8_keep V main_v49 (by decide +kernel)]
  exact e7_v49 H b k l g j

theorem e11_v51 (b : Fin 2) (k l : Fin 128) (g : Fin 2) (n : Fin 64) :
    (e11 V (Proc.devRef .tc main_v51) : Vec Ideal S2x128x128x2x64 .f32) (ix5 b k l g n) = bf D b k l g n := by
  rw [e11_keep V main_v51 (by decide +kernel), e10_keep V main_v51 (by decide +kernel), e9_keep V main_v51 (by decide +kernel)]
  exact e8_v51 H b k l g n

theorem e11_v52 (b : Fin 2) (k l : Fin 128) (g : Fin 2) (n : Fin 64) :
    (e11 V (Proc.devRef .tc main_v52) : Vec Ideal S2x128x128x2x64 .f32) (ix5 b k l g n) = cf D b k l g n := by
  rw [e11_keep V main_v52 (by decide +kernel), e10_keep V main_v52 (by decide +kernel), e9_keep V main_v52 (by decide +kernel)]
  exact e8_v52 H b k l g n

theorem e11_v55 (b : Fin 2) (k l : Fin 128) (g : Fin 2) (j : Fin 8) (p : Fin 64) :
    (e11 V (Proc.devRef .tc main_v55) : Vec Ideal S2x128x128x2x8x64 .f32) (ix6 b k l g j p) = xf D b k l g j p * tf D b k l g j := by
  rw [e11_keep V main_v55 (by decide +kernel), e10_keep V main_v55 (by decide +kernel), e9_keep V main_v55 (by decide +kernel)]
  exact e8_v55 H b k l g j p

/-! What the loop, and the stretches after it, find. -/

theorem e12_v0 (b : Fin 2) (t : Fin 16384) (q : Fin 1024) :
    (e12 V (Proc.devRef .tc main_v0) : Vec Ideal S2x16384x1024 .f32) (ix3 b t q) = D.u b t ⟨q.val, by omega⟩ := by
  rw [e12_keep V main_v0 (by decide +kernel), e11_keep V main_v0 (by decide +kernel), e10_keep V main_v0 (by decide +kernel), e9_keep V main_v0 (by decide +kernel),
    e8_keep V main_v0 (by decide +kernel), e7_keep V main_v0 (by decide +kernel), e6_keep V main_v0 (by decide +kernel), e5_keep V main_v0 (by decide +kernel),
    e4_keep V main_v0 (by decide +kernel), e3_keep V main_v0 (by decide +kernel), e2_keep V main_v0 (by decide +kernel), e1_keep V main_v0 (by decide +kernel)]
  exact s0_v0 V D H.u b t q

theorem e12_v49 (b : Fin 2) (k l : Fin 128) (g : Fin 2) (j : Fin 8) :
    (e12 V (Proc.devRef .tc main_v49) : Vec Ideal S2x128x128x2x8 .f32) (ix5 b k l g j) = af D b k l g j := by
  rw [e12_keep V main_v49 (by decide +kernel)]
  exact e11_v49 H b k l g j

theorem e12_v50 (b : Fin 2) (k l : Fin 128) (g : Fin 2) (j : Fin 8) (p : Fin 64) :
    (e12 V (Proc.devRef .tc main_v50) : Vec Ideal S2x128x128x2x8x64 .f32) (ix6 b k l g j p) = xf D b k l g j p := by
  rw [e12_keep V main_v50 (by decide +kernel), e11_keep V main_v50 (by decide +kernel), e10_keep V main_v50 (by decide +kernel), e9_keep V main_v50 (by decide +kernel)]
  exact e8_v50 H b k l g j p

theorem e12_v52 (b : Fin 2) (k l : Fin 128) (g : Fin 2) (n : Fin 64) :
    (e12 V (Proc.devRef .tc main_v52) : Vec Ideal S2x128x128x2x64 .f32) (ix5 b k l g n) = cf D b k l g n := by
  rw [e12_keep V main_v52 (by decide +kernel)]
  exact e11_v52 H b k l g n

theorem e12_v72 (b : Fin 2) (k l : Fin 128) (g : Fin 2) (j : Fin 8) (p : Fin 64) :
    (e12 V (Proc.devRef .tc main_v72) : Vec Ideal S2x128x128x2x8x64 .f32) (ix6 b k l g j p) =
      ∑ r : Fin 128, xf D b k r g j p * tf D b k r g j * ((∑ n : Fin 64, bf D b k r g n * cf D b k l g n) * Ideal.exp (sf D b k l r g j)) :=
  s12_v72 (e11 V) (fun b k l g j p => xf D b k l g j p * tf D b k l g j) (bf D) (cf D) (sf D) (e11_v55 H) (e11_v51 H) (e11_v52 H) (e11_v64 H) b k l g j p

theorem e12_add (k : Fin 128) (b g : Fin 2) (j : Fin 8) (p n : Fin 64) :
    (e12 V (Proc.devRef .tc main_v90_0) : Vec Ideal S128x2x2x8x64x64 .f32) (ix6 k b g j p n) =
      ∑ l : Fin 128, xf D b k l g j p * tf D b k l g j * Ideal.exp (af D b k 127 g j - af D b k l g j) * bf D b k l g n :=
  s12_st (e11 V) (fun b k l g j p => xf D b k l g j p * tf D b k l g j) (bf D) (af D) (e11_v55 H) (e11_v51 H) (e11_v49 H) k b g j p n

theorem e12_dec (k : Fin 128) (b g : Fin 2) (j : Fin 8) :
    (e12 V (Proc.devRef .tc main_v90_1) : Vec Ideal S128x2x2x8 .f32) (ix4 k b g j) = Ideal.exp (af D b k 127 g j) :=
  s12_dec (e11 V) (af D) (e11_v49 H) k b g j

end Cert.ReferenceIdeal.Value
-- ==== Proof.RLoop.lean ====
module

public import proofs.«01_k».proof.Proof.Gen.ReferenceIdeal.Run
public import proofs.«01_k».proof.Proof.Mask
public import proofs.«01_k».proof.Proof.RHead
public import Idealize.ShloMosaic.Lib.DynamicIndex
public import Idealize.ShloMosaic.Lib.Pointwise
public import Idealize.ShloMosaic.Lib.WordCmp
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (V : Valuation τ sig (Elt Ideal))

/-- One trip's state: the state before it decayed by the trip's chunk, plus what the chunk adds. -/
theorem step_state (dec : Fin 128 → Fin 2 → Fin 2 → Fin 8 → EReal) (add : Fin 128 → Fin 2 → Fin 2 → Fin 8 → Fin 64 → Fin 64 → EReal)
    (s : Fin 2 → Fin 2 → Fin 8 → Fin 64 → Fin 64 → EReal) (k : Fin 128)
    (hk : (V (Proc.devRef .tc main_v90_2) : IVec S_ 32) = fun _ => BitVec.ofNat 32 k.val)
    (ha : ∀ k b g j p n, (V (Proc.devRef .tc main_v90_0) : Vec Ideal S128x2x2x8x64x64 .f32) (ix6 k b g j p n) = add k b g j p n)
    (hd : ∀ k b g j, (V (Proc.devRef .tc main_v90_1) : Vec Ideal S128x2x2x8 .f32) (ix4 k b g j) = dec k b g j)
    (hs : ∀ b g j p n, (V (Proc.devRef .tc main_v90_3) : Vec Ideal S2x2x8x64x64 .f32) (ix5 b g j p n) = s b g j p n)
    (b g : Fin 2) (j : Fin 8) (p n : Fin 64) :
    (step_main_v90_3 V : Vec Ideal S2x2x8x64x64 .f32) (ix5 b g j p n) = s b g j p n * dec k b g j + add k b g j p n := by
  have hi : ((V (Proc.devRef .tc main_v90_2) : IVec S_ 32) (Shape.Idx.first h_S_)).toInt = (k.val : Int) := by
    rw [hk]
    exact toInt_ofNat_of_lt (by omega)
  unfold step_main_v90_3
  rw [Host.dynamicSlice_eq_extractStridedSlice S1x2x2x8 _ _ ![k.val, 0, 0, 0] sliceFits_S128x2x2x8_S1x2x2x8
      ⟨rfl, fun a => by fin_cases a <;> simp <;> omega⟩ (fun a => by fin_cases a <;> first | exact hi | rfl),
    Host.dynamicSlice_eq_extractStridedSlice S1x2x2x8x64x64 _ _ ![k.val, 0, 0, 0, 0, 0] sliceFits_S128x2x2x8x64x64_S1x2x2x8x64x64
      ⟨rfl, fun a => by fin_cases a <;> simp <;> omega⟩ (fun a => by fin_cases a <;> first | exact hi | rfl), id_eq]
  pointwise
  rw [ha, hd, hs]

/-- One trip's stacked states: the state before it, written at the trip's chunk. -/
theorem step_stack (k : Fin 128)
    (hk : (V (Proc.devRef .tc main_v90_2) : IVec S_ 32) = fun _ => BitVec.ofNat 32 k.val)
    (k' : Fin 128) (b g : Fin 2) (j : Fin 8) (p n : Fin 64) :
    (step_main_v90_4 V : Vec Ideal S128x2x2x8x64x64 .f32) (ix6 k' b g j p n) =
      if k' = k then (V (Proc.devRef .tc main_v90_3) : Vec Ideal S2x2x8x64x64 .f32) (ix5 b g j p n)
      else (V (Proc.devRef .tc main_v90_4) : Vec Ideal S128x2x2x8x64x64 .f32) (ix6 k' b g j p n) := by
  have hi : ((V (Proc.devRef .tc main_v90_2) : IVec S_ 32) (Shape.Idx.first h_S_)).toInt = (k.val : Int) := by
    rw [hk]
    exact toInt_ofNat_of_lt (by omega)
  unfold step_main_v90_4
  rw [WordCmp.dynamicUpdateSlice_eq_update _ _ _ updateFits_S128x2x2x8x64x64_S1x2x2x8x64x64 ![k.val, 0, 0, 0, 0, 0]
      ⟨rfl, fun a => by fin_cases a <;> simp <;> omega⟩ (fun a => by fin_cases a <;> first | exact hi | rfl), id_eq]
  pointwise
  by_cases h : k' = k
  · rw [dif_pos ⟨by rw [h], by rw [h]; omega⟩, if_pos h]
  · rw [dif_neg (fun h' => h (Fin.ext (by omega))), if_neg h]

end Cert.ReferenceIdeal.Value
-- ==== Proof.RIter.lean ====
module

public import proofs.«01_k».proof.Proof.Gen.ReferenceIdeal.Run
public import proofs.«01_k».proof.Proof.Mask
public import proofs.«01_k».proof.Proof.RPre
public import proofs.«01_k».proof.Proof.RLoop
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (V : Valuation τ sig (Elt Ideal))

variable (m : (ℓ : Loc nD τ sig) → Buf (Elt Ideal) ℓ) (c : Dev nD)

/-- What the carried buffers hold before trip `k`. -/
abbrev SK (k : ℕ) : Valuation τ sig (Elt Ideal) := STEP^[k] (e12 (launch m c))

theorem SK_succ (k : ℕ) : SK m c (k + 1) = STEP (SK m c k) := Function.iterate_succ_apply' ..

/-- No trip writes what the chunks add, nor their decays. -/
theorem SK_add : ∀ k, SK m c k (Proc.devRef .tc main_v90_0) = e12 (launch m c) (Proc.devRef .tc main_v90_0)
  | 0 => rfl
  | k + 1 => by rw [SK_succ, STEP_main_v90_0, SK_add k]

theorem SK_dec : ∀ k, SK m c k (Proc.devRef .tc main_v90_1) = e12 (launch m c) (Proc.devRef .tc main_v90_1)
  | 0 => rfl
  | k + 1 => by rw [SK_succ, STEP_main_v90_1, SK_dec k]

/-- The trip counter counts. -/
theorem SK_ctr (k : ℕ) : (SK m c k (Proc.devRef .tc main_v90_2) : IVec S_ 32) = fun _ => BitVec.ofNat 32 k := by
  have h : atK m k c (Proc.devRef .tc main_v90_2) = SK m c k (Proc.devRef .tc main_v90_2) := atK_agree m c k main_v90_2 (by decide +kernel)
  rw [← h, atK_ctr]
  funext _
  show 0#32 + BitVec.ofNat 32 k * 1#32 = _
  rw [BitVec.zero_add, BitVec.mul_one]

variable {m c} {D : Data} (H : Holds (launch m c) D)

/-- The state of group `g`'s head `j` entering chunk `k`. -/
def stf (D : Data) (k : ℕ) (b g : Fin 2) (j : Fin 8) (p n : Fin 64) : EReal := D.st b k (hh g j) p n

/-- One chunk's step of the state. -/
theorem stf_succ (k : Fin 128) (b g : Fin 2) (j : Fin 8) (p n : Fin 64) :
    stf D (k.val + 1) b g j p n = stf D k b g j p n * Ideal.exp (af D b k 127 g j)
      + ∑ l : Fin 128, xf D b k l g j p * tf D b k l g j * Ideal.exp (af D b k 127 g j - af D b k l g j) * bf D b k l g n := by
  show newState (D.xb b k) (D.dt b k) (D.ac b k) (D.st b k) (hh g j) p n = _
  unfold newState
  refine congrArg₂ (· + ·) rfl (Finset.sum_congr rfl fun l _ => ?_)
  rw [mul_comm, show bIx (hh g j) n = bIx (hh g 0) n from Fin.ext (by simp only [bIx, hh, Fin.val_zero]; omega)]
  rfl

include H

/-- Before trip `k` the carried state is the one entering chunk `k`. -/
theorem SK_state : ∀ (k : ℕ) (_ : k ≤ 128) (b g : Fin 2) (j : Fin 8) (p n : Fin 64),
    (SK m c k (Proc.devRef .tc main_v90_3) : Vec Ideal S2x2x8x64x64 .f32) (ix5 b g j p n) = stf D k b g j p n
  | 0, _, b, g, j, p, n => s12_s0 (e11 (launch m c)) b g j p n
  | k + 1, hk, b, g, j, p, n => by
    rw [SK_succ, STEP_main_v90_3]
    refine (step_state (SK m c k) (fun k b g j => Ideal.exp (af D b k 127 g j))
      (fun k b g j p n => ∑ l : Fin 128, xf D b k l g j p * tf D b k l g j * Ideal.exp (af D b k 127 g j - af D b k l g j) * bf D b k l g n)
      (stf D k) ⟨k, by omega⟩ (SK_ctr m c k) ?_ ?_ (SK_state k (by omega)) b g j p n).trans (stf_succ ⟨k, by omega⟩ b g j p n).symm
    · intro k' b g j p n
      rw [SK_add]
      exact e12_add H k' b g j p n
    · intro k' b g j
      rw [SK_dec]
      exact e12_dec H k' b g j

/-- Before trip `k` the states entering the chunks before it are stacked. -/
theorem SK_stack : ∀ (k : ℕ) (_ : k ≤ 128) (k' : Fin 128) (_ : k'.val < k) (b g : Fin 2) (j : Fin 8) (p n : Fin 64),
    (SK m c k (Proc.devRef .tc main_v90_4) : Vec Ideal S128x2x2x8x64x64 .f32) (ix6 k' b g j p n) = stf D k' b g j p n
  | 0, _, k', hk', _, _, _, _, _ => absurd hk' (Nat.not_lt_zero _)
  | k + 1, hk, k', hk', b, g, j, p, n => by
    rw [SK_succ, STEP_main_v90_4]
    refine (step_stack (SK m c k) ⟨k, by omega⟩ (SK_ctr m c k) k' b g j p n).trans ?_
    by_cases h : k' = ⟨k, by omega⟩
    · rw [if_pos h, SK_state H k (by omega), h]
    · have hv : k'.val ≠ k := fun e => h (Fin.ext e)
      rw [if_neg h]
      exact SK_stack k (by omega) k' (by omega) b g j p n

/-- After the loop they are all stacked. -/
theorem pf_stack (k : Fin 128) (b g : Fin 2) (j : Fin 8) (p n : Fin 64) :
    (pf m c (Proc.devRef .tc main_v90_4) : Vec Ideal S128x2x2x8x64x64 .f32) (ix6 k b g j p n) = stf D k b g j p n := by
  have h : pf m c (Proc.devRef .tc main_v90_4) = SK m c 128 (Proc.devRef .tc main_v90_4) :=
    (cond_keeps (atK m 128 c) main_v90_4 (by decide +kernel)).trans (atK_agree m c 128 main_v90_4 (by decide +kernel))
  rw [h]
  exact SK_stack H 128 (le_refl _) k k.isLt b g j p n

end Cert.ReferenceIdeal.Value
-- ==== Proof.RTail.lean ====
module

public import proofs.«01_k».proof.Proof.Gen.ReferenceIdeal.Run
public import proofs.«01_k».proof.Proof.Mask
public import proofs.«01_k».proof.Proof.RHead
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (V : Valuation τ sig (Elt Ideal))

/-- What the heads give, of the chunk's own part, the states entering the chunks, and the skip. -/
theorem s13_v103 (D : Data) (yd x : Fin 2 → Fin 128 → Fin 128 → Fin 2 → Fin 8 → Fin 64 → EReal) (st : Fin 128 → Fin 2 → Fin 2 → Fin 8 → Fin 64 → Fin 64 → EReal)
    (cc : Fin 2 → Fin 128 → Fin 128 → Fin 2 → Fin 64 → EReal) (ac : Fin 2 → Fin 128 → Fin 128 → Fin 2 → Fin 8 → EReal)
    (hy : ∀ b k l g j p, (V (Proc.devRef .tc main_v72) : Vec Ideal S2x128x128x2x8x64 .f32) (ix6 b k l g j p) = yd b k l g j p)
    (hst : ∀ k b g j p n, (V (Proc.devRef .tc main_v90_4) : Vec Ideal S128x2x2x8x64x64 .f32) (ix6 k b g j p n) = st k b g j p n)
    (hcc : ∀ b k l g n, (V (Proc.devRef .tc main_v52) : Vec Ideal S2x128x128x2x64 .f32) (ix5 b k l g n) = cc b k l g n)
    (hac : ∀ b k l g j, (V (Proc.devRef .tc main_v49) : Vec Ideal S2x128x128x2x8 .f32) (ix5 b k l g j) = ac b k l g j)
    (hx : ∀ b k l g j p, (V (Proc.devRef .tc main_v50) : Vec Ideal S2x128x128x2x8x64 .f32) (ix6 b k l g j p) = x b k l g j p)
    (hd : ∀ h, (V (Proc.devRef .tc main_arg6) : Vec Ideal S16 .f32) (ix1 h) = D.dsk h)
    (b : Fin 2) (t : Fin 16384) (q : Fin 1024) :
    (after hostOps0_13 V (Proc.devRef .tc main_v104) : Vec Ideal S2x16384x1024 .f32) (ix3 b t q) =
      yd b ⟨t.val / 128, by omega⟩ ⟨t.val % 128, by omega⟩ ⟨q.val / 512, by omega⟩ ⟨q.val / 64 % 8, by omega⟩ ⟨q.val % 64, by omega⟩
        + (∑ n : Fin 64, st ⟨t.val / 128, by omega⟩ b ⟨q.val / 512, by omega⟩ ⟨q.val / 64 % 8, by omega⟩ ⟨q.val % 64, by omega⟩ n
            * cc b ⟨t.val / 128, by omega⟩ ⟨t.val % 128, by omega⟩ ⟨q.val / 512, by omega⟩ n)
          * Ideal.exp (ac b ⟨t.val / 128, by omega⟩ ⟨t.val % 128, by omega⟩ ⟨q.val / 512, by omega⟩ ⟨q.val / 64 % 8, by omega⟩)
        + x b ⟨t.val / 128, by omega⟩ ⟨t.val % 128, by omega⟩ ⟨q.val / 512, by omega⟩ ⟨q.val / 64 % 8, by omega⟩ ⟨q.val % 64, by omega⟩
          * D.dsk ⟨q.val / 64, by omega⟩ := by
  after_reads_at
  simp only [hy, hst, hcc, hac, hx, hd]
  rw [show (⟨q.val / 512 * 8 + q.val / 64 % 8, by omega⟩ : Fin 16) = ⟨q.val / 64, by omega⟩ from Fin.ext (by dsimp only; omega)]

theorem s14_v105 (x : Fin 2 → Fin 16384 → Fin 1024 → EReal)
    (hx : ∀ b t j, (V (Proc.devRef .tc main_v0) : Vec Ideal S2x16384x1024 .f32) (ix3 b t j) = x b t j)
    (b : Fin 2) (t : Fin 16384) (j : Fin 1024) :
    (after hostOps0_14 V (Proc.devRef .tc main_v105) : Vec Ideal S2x16384x1024 .f32) (ix3 b t j) = gate (x b t j) := by
  after_reads_at
  rw [hx]
  rfl

/-- The gated heads normalised over each group of 512 lanes and scaled. -/
theorem s15_v121 (D : Data) (y z : Fin 2 → Fin 16384 → Fin 1024 → EReal)
    (hy : ∀ b t q, (V (Proc.devRef .tc main_v104) : Vec Ideal S2x16384x1024 .f32) (ix3 b t q) = y b t q)
    (hz : ∀ b t q, (V (Proc.devRef .tc main_v105) : Vec Ideal S2x16384x1024 .f32) (ix3 b t q) = gate (z b t q))
    (hg : ∀ q, (V (Proc.devRef .tc main_arg7) : Vec Ideal S1024 .f32) (ix1 q) = D.ng q)
    (b : Fin 2) (k : ℕ) (l : Fin 128) (q : Fin 1024) :
    (after hostOps0_15 V (Proc.devRef .tc main_v121) : Vec Ideal S2x16384x1024 .f32) (ix3 b (tIx k l) q) =
      normed (fun l q => y b (tIx k l) q) (fun l q => z b (tIx k l) q) D.ng l (gOf' q) (kOf' q) := by
  after_reads_at
  simp only [hy, hz, hg]
  have e : q = (⟨q.val / 512 * 512 + q.val % 512, by omega⟩ : Fin 1024) := Fin.ext (by dsimp only; omega)
  refine (congrArg (fun r => _ * D.ng r) e).trans ?_
  simp only [normed, wIx, gOf', kOf']

end Cert.ReferenceIdeal.Value
-- ==== Proof.RJoin.lean ====
module

public import proofs.«01_k».proof.Proof.Gen.ReferenceIdeal.Run
public import proofs.«01_k».proof.Proof.Mask
public import proofs.«01_k».proof.Proof.RIter
public import proofs.«01_k».proof.Proof.RTail
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (V : Valuation τ sig (Elt Ideal))

variable {m : (ℓ : Loc nD τ sig) → Buf (Elt Ideal) ℓ} {c : Dev nD} {D : Data}

/-- The heads at step `l` of chunk `k`, from what the reference's arrays hold there. -/
theorem y_eq (b : Fin 2) (k l : Fin 128) (q : Fin 1024) (g : Fin 2) (j : Fin 8) (p : Fin 64) (hh' : hh g j = hOf' q) (hp' : p = pOf' q) :
    (∑ r : Fin 128, xf D b k r g j p * tf D b k r g j * ((∑ n : Fin 64, bf D b k r g n * cf D b k l g n) * Ideal.exp (sf D b k l r g j)))
        + (∑ n : Fin 64, stf D k b g j p n * cf D b k l g n) * Ideal.exp (af D b k l g j) + xf D b k l g j p * D.dsk (hOf' q)
      = D.y b k l q := by
  unfold Data.y head
  rw [← hh', ← hp']
  have hb : ∀ n, bIx (hh g j) n = bIx (hh g 0) n := fun n => Fin.ext (by simp only [bIx, hh, Fin.val_zero]; omega)
  have hc : ∀ n, cIx (hh g j) n = cIx (hh g 0) n := fun n => Fin.ext (by simp only [cIx, hh, Fin.val_zero]; omega)
  refine congrArg₂ (· + ·) (congrArg₂ (· + ·) (Finset.sum_congr rfl fun r _ => ?_) (congrArg₂ (· * ·) (Finset.sum_congr rfl fun n _ => ?_) rfl)) rfl
  · rw [mul_comm]
    refine congrArg₂ (· * ·) (congrArg₂ (· * ·) (Finset.sum_congr rfl fun n _ => ?_) rfl) rfl
    rw [mul_comm, hb, hc]
    rfl
  · rw [mul_comm, hc]
    rfl

variable (H : Holds (launch m c) D)
include H

/-- The heads, at any step. -/
theorem p13_v104 (b : Fin 2) (t : Fin 16384) (q : Fin 1024) :
    (p13 m c (Proc.devRef .tc main_v104) : Vec Ideal S2x16384x1024 .f32) (ix3 b t q) = D.y b (t.val / 128) ⟨t.val % 128, by omega⟩ q := by
  refine (s13_v103 (pf m c) D (fun b k l g j p => ∑ r : Fin 128, xf D b k r g j p * tf D b k r g j * ((∑ n : Fin 64, bf D b k r g n * cf D b k l g n) * Ideal.exp (sf D b k l r g j))) (xf D) (fun k => stf D k) (cf D) (af D)
    (fun b k l g j p => by rw [pf_keep m c main_v72 (by decide +kernel)]; exact e12_v72 H b k l g j p) (pf_stack H)
    (fun b k l g n => by rw [pf_keep m c main_v52 (by decide +kernel)]; exact e12_v52 H b k l g n)
    (fun b k l g j => by rw [pf_keep m c main_v49 (by decide +kernel)]; exact e12_v49 H b k l g j)
    (fun b k l g j p => by rw [pf_keep m c main_v50 (by decide +kernel)]; exact e12_v50 H b k l g j p)
    (fun h => by rw [pf_keep m c main_arg6 (by decide +kernel), e12_arg _ main_arg6 (by decide +kernel)]; exact H.dsk h) b t q).trans ?_
  exact y_eq b ⟨t.val / 128, by omega⟩ ⟨t.val % 128, by omega⟩ q ⟨q.val / 512, by omega⟩ ⟨q.val / 64 % 8, by omega⟩ ⟨q.val % 64, by omega⟩
    (Fin.ext (by simp only [hh, hOf', pOf']; omega)) rfl

/-- The result at step `l` of chunk `k`. -/
theorem last_v121 (b : Fin 2) (k : ℕ) (hk : k < 128) (l : Fin 128) (q : Fin 1024) :
    (after hostOps0_15 (p14 m c) (Proc.devRef .tc main_v121) : Vec Ideal S2x16384x1024 .f32) (ix3 b (tIx k l) q) = D.out b k l q := by
  have h1 : ∀ l : Fin 128, (tIx k l).val / 128 = k := fun l => by simp only [tIx]; omega
  have h2 : ∀ l : Fin 128, (⟨(tIx k l).val % 128, by omega⟩ : Fin 128) = l := fun l => Fin.ext (by simp only [tIx]; omega)
  refine (s15_v121 (p14 m c) D (fun b t q => D.y b (t.val / 128) ⟨t.val % 128, by omega⟩ q) (fun b t q => D.u b t ⟨q.val, by omega⟩)
    (fun b t q => by
      rw [show p14 m c (Proc.devRef .tc main_v104) = p13 m c (Proc.devRef .tc main_v104) from
        after_of_writes_sub hostOps0_14 _ hostOps0_14_writes (by decide +kernel)]
      exact p13_v104 H b t q)
    (s14_v105 (p13 m c) (fun b t q => D.u b t ⟨q.val, by omega⟩)
      (fun b t q => by rw [p13_keep m c main_v0 (by decide +kernel)]; exact e12_v0 H b t q))
    (fun q => by rw [p14_keep m c main_arg7 (by decide +kernel), e12_arg _ main_arg7 (by decide +kernel)]; exact H.ng q) b k l q).trans ?_
  unfold Data.out
  simp only [h1, h2]

/-- The result at any step. -/
theorem last_at (b : Fin 2) (t : Fin 16384) (q : Fin 1024) :
    (after hostOps0_15 (p14 m c) (Proc.devRef .tc main_v121) : Vec Ideal S2x16384x1024 .f32) (ix3 b t q)
      = D.out b (t.val / 128) ⟨t.val % 128, Nat.mod_lt _ (by omega)⟩ q := by
  have ht : t = tIx (t.val / 128) ⟨t.val % 128, Nat.mod_lt _ (by omega)⟩ := Fin.ext (by simp only [tIx]; omega)
  exact (congrArg (fun t => (after hostOps0_15 (p14 m c) (Proc.devRef .tc main_v121) : Vec Ideal S2x16384x1024 .f32) (ix3 b t q)) ht).trans
    (last_v121 H b _ (by omega) _ q)

end Cert.ReferenceIdeal.Value
-- ==== Proof.RRun.lean ====
module

public import proofs.«01_k».proof.Proof.Gen.ReferenceIdeal.Run
public import proofs.«01_k».proof.Proof.RJoin
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.ReferenceIdeal.Value
open Cert.ReferenceIdeal Cert.ReferenceIdeal.Gen Cert.Ssd

variable (m : (ℓ : Loc nD τ sig) → Buf (Elt Ideal) ℓ) (ρ : Dev nD → PrngReg)

/-- The arrays the reference is given. -/
def dataR (c : Dev nD) : Data where
  u b t j := (m ((c : Thread nD τ).loc main_arg0) : Vec Ideal S2x16384x2304 .f32) (ix3 b t j)
  sm b t j := (m ((c : Thread nD τ).loc main_arg1) : Vec Ideal S2x16384x128 .f32) (ix3 b t j)
  w k j := (m ((c : Thread nD τ).loc main_arg2) : Vec Ideal S4x1280 .f32) (ix2 k j)
  cb j := (m ((c : Thread nD τ).loc main_arg3) : Vec Ideal S1280 .f32) (ix1 j)
  dtb h := (m ((c : Thread nD τ).loc main_arg4) : Vec Ideal S16 .f32) (ix1 h)
  alog h := (m ((c : Thread nD τ).loc main_arg5) : Vec Ideal S16 .f32) (ix1 h)
  dsk h := (m ((c : Thread nD τ).loc main_arg6) : Vec Ideal S16 .f32) (ix1 h)
  ng q := (m ((c : Thread nD τ).loc main_arg7) : Vec Ideal S1024 .f32) (ix1 q)

theorem holdsR (c : Dev nD) : Holds (launch m c) (dataR m c) where
  u _ _ _ := rfl
  sm _ _ _ := rfl
  w _ _ := rfl
  cb _ := rfl
  dtb _ := rfl
  alog _ := rfl
  dsk _ := rfl
  ng _ := rfl

/-- The reference's result array. -/
def res (c : Dev nD) : Buf (Elt Ideal) ((c : Thread nD τ).loc main_v121) := finalContents condOps preI bodyI postI 128 m c (Proc.devRef .tc main_v121)

theorem res_eq (c : Dev nD) : res m c = after hostOps0_15 (p14 m c) (Proc.devRef .tc main_v121) := congrFun (final_eq m c) _

/-- The reference runs, ends with that array, and leaves its arguments as they were. -/
theorem run : θ_run (defs (F := Ideal)) (onTc (τ := τ) (main (F := Ideal))) ⟨m, fun _ => 0, ρ⟩ fun r => ∀ c : Dev nD,
      r.2.mem ((c : Thread nD τ).loc main_v121) = res m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7) :=
  (θ_run defs _ _).mono (fun r h c => ⟨h c main_v121 rfl,
    (h c main_arg0 rfl).trans (final_arg m c main_arg0 (by decide +kernel)),
    (h c main_arg1 rfl).trans (final_arg m c main_arg1 (by decide +kernel)),
    (h c main_arg2 rfl).trans (final_arg m c main_arg2 (by decide +kernel)),
    (h c main_arg3 rfl).trans (final_arg m c main_arg3 (by decide +kernel)),
    (h c main_arg4 rfl).trans (final_arg m c main_arg4 (by decide +kernel)),
    (h c main_arg5 rfl).trans (final_arg m c main_arg5 (by decide +kernel)),
    (h c main_arg6 rfl).trans (final_arg m c main_arg6 (by decide +kernel)),
    (h c main_arg7 rfl).trans (final_arg m c main_arg7 (by decide +kernel))⟩) (run_fold m ρ)

/-- The reference runs, leaves its arguments as they were, and ends with every semaphore at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7))
      ∧ r.2.sem = fun _ => 0 :=
  (θ_run defs _ _).mono (fun r h => ⟨fun c => (h c).2, sem_eq_zero_of_no_sems (by decide) r.2⟩) (run m ρ)

end Cert.ReferenceIdeal.Value
-- ==== Proof.Dense.lean ====
/-
  The dense parts of the trunk over the extended reals, one token at a time: the normalisation of a token's 1024
  channels, the gated feed-forward, and the two projections.
-/
module

public import proofs.«01_k».proof.Proof.Spec

@[expose] public section

noncomputable section

open Idealize.ShloMosaic

namespace Cert.Dense

/-- A token's channels divided by the root of their mean square, and weighted. -/
def normRow (x g : Fin 1024 → EReal) (k : Fin 1024) : EReal :=
  x k * Ideal.rsqrt (Ideal.div (∑ r : Fin 1024, x r * x r) (Ideal.ofBits FTy.f32 1149239296#32) + Ideal.ofBits FTy.f32 897988541#32)
    * g k

/-- The column of the first product that gates hidden channel `r`, and the one that it gates. -/
def gateIx (r : Fin 2816) : Fin 5632 := ⟨r.val, by omega⟩
def upIx (r : Fin 2816) : Fin 5632 := ⟨2816 + r.val, by omega⟩

/-- Hidden channel `r` of the feed-forward of a token with normalised channels `h`. -/
def hid (h : Fin 1024 → EReal) (w : Fin 1024 → Fin 5632 → EReal) (r : Fin 2816) : EReal :=
  Ssd.gate (∑ k, h k * w k (gateIx r)) * ∑ k, h k * w k (upIx r)

/-- A token after the feed-forward half step. -/
def ffn (x g : Fin 1024 → EReal) (w : Fin 1024 → Fin 5632 → EReal) (wd : Fin 2816 → Fin 1024 → EReal) (j : Fin 1024) : EReal :=
  x j + Ideal.ofBits FTy.f32 1056964608#32 * ∑ r, hid (normRow x g) w r * wd r j

/-- Hidden channel `s` of block `f` of eleven. -/
def hIx (f : ℕ) (s : Fin 256) : Fin 2816 := ⟨(f * 256 + s.val) % 2816, Nat.mod_lt _ (by omega)⟩

/-- What the first `n` blocks of hidden channels add to channel `j`. -/
def part (a : Fin 2816 → EReal) (n : ℕ) : EReal := ∑ f ∈ Finset.range n, ∑ s : Fin 256, a (hIx f s)

/-- All eleven blocks give the whole sum. -/
theorem part_all (a : Fin 2816 → EReal) : part a 11 = ∑ r, a r := by
  unfold part
  rw [Finset.sum_range, ← Fintype.sum_prod_type']
  refine Fintype.sum_equiv (finProdFinEquiv (m := 11) (n := 256)) _ _ fun p => congrArg a (Fin.ext ?_)
  have h1 := p.1.isLt
  have h2 := p.2.isLt
  show (p.1.val * 256 + p.2.val) % 2816 = p.2.val + 256 * p.1.val
  omega

/-- No block adds nothing. -/
theorem part_zero (a : Fin 2816 → EReal) : part a 0 = 0 := rfl

/-- The next block adds its own channels. -/
theorem part_succ (a : Fin 2816 → EReal) (n : ℕ) : part a (n + 1) = part a n + ∑ s : Fin 256, a (hIx n s) :=
  Finset.sum_range_succ _ _

/-- A token after the last feed-forward half step and the final normalisation. -/
def last (x g : Fin 1024 → EReal) (w : Fin 1024 → Fin 5632 → EReal) (wd : Fin 2816 → Fin 1024 → EReal) (fg : Fin 1024 → EReal)
    (j : Fin 1024) : EReal := normRow (ffn x g w wd) fg j

/-- A token after the output projection: each mixer's channels meet their own rows of the weights. -/
def outp (x ys : Fin 1024 → EReal) (ym yr : Fin 512 → EReal) (w : Fin 2048 → Fin 1024 → EReal) (j : Fin 1024) : EReal :=
  x j + (∑ k : Fin 1024, ys k * w ⟨k.val, by omega⟩ j) + (∑ k : Fin 512, ym k * w ⟨1024 + k.val, by omega⟩ j)
    + ∑ k : Fin 512, yr k * w ⟨1536 + k.val, by omega⟩ j

/-- A sum over all of the mixers' channels is the sum over each mixer's. -/
theorem sum_mixers (f : Fin 2048 → EReal) : ∑ k, f k = (∑ k : Fin 1024, f ⟨k.val, by omega⟩)
    + ((∑ k : Fin 512, f ⟨1024 + k.val, by omega⟩) + ∑ k : Fin 512, f ⟨1536 + k.val, by omega⟩) := by
  refine (Fin.sum_univ_add (a := 1024) (b := 1024) f).trans (congrArg₂ (· + ·) rfl ?_)
  refine (Fin.sum_univ_add (a := 512) (b := 512) fun k => f (Fin.natAdd 1024 k)).trans (congrArg₂ (· + ·) rfl ?_)
  refine Finset.sum_congr rfl fun k _ => congrArg f (Fin.ext ?_)
  show 1024 + (512 + k.val) = 1536 + k.val
  omega

/-- A token's projected column `j`. -/
def proj (x g : Fin 1024 → EReal) (w : Fin 1024 → Fin 5144 → EReal) (j : Fin 5144) : EReal := ∑ k, normRow x g k * w k j

/-- The weights' few columns at lane `j`: the steps' sixteen, the eight gates', and zeros. -/
def smallW (w : Fin 1024 → Fin 5144 → EReal) (k : Fin 1024) (j : Fin 128) : EReal :=
  if j.val < 16 then w k ⟨2304 + j.val, by omega⟩ else if j.val < 24 then w k ⟨3328 + j.val, by omega⟩ else 0

/-- A token's few projected columns. -/
def small (x g : Fin 1024 → EReal) (w : Fin 1024 → Fin 5144 → EReal) (j : Fin 128) : EReal :=
  if j.val < 16 then proj x g w ⟨2304 + j.val, by omega⟩ else if j.val < 24 then proj x g w ⟨3328 + j.val, by omega⟩ else 0

/-- They are the token's product with the few columns. -/
theorem small_eq (x g : Fin 1024 → EReal) (w : Fin 1024 → Fin 5144 → EReal) (j : Fin 128) :
    ∑ k, normRow x g k * smallW w k j = small x g w j := by
  unfold smallW small proj
  split_ifs
  · rfl
  · rfl
  · exact Finset.sum_eq_zero fun k _ => mul_zero _

end Cert.Dense

end

end
-- ==== Proof.FfnPay.lean ====
/-
  The feed-forward call: what its body computes of its blocks, and what a grid point leaves in the output block and in
  the two scratches it carries.
-/
module

public import proofs.«01_k».proof.Proof.Gen.FfnIdeal.Value
public import proofs.«01_k».proof.Proof.Dense
public import Idealize.ShloMosaic.Lib.Pointwise
public import Idealize.ShloMosaic.Lib.Pipeline.ValueKit.Acc

@[expose] public section
set_option maxRecDepth 16384
noncomputable section
open Idealize.ShloMosaic Idealize.ShloMosaic.TcCoe Idealize.SL.Sem
namespace Cert.FfnIdeal.Value
open Cert.FfnIdeal Cert.FfnIdeal.Gen Cert.Dense

/-- The normalised block, at an index. -/
theorem pay1_at (x : Vec Ideal S1024x1024 .f32) (g : Vec Ideal S1x1024 .f32) (l k : Fin 1024) :
    k0_pay1 x g (ix2 l k) = normRow (fun r => x (ix2 l r)) (fun r => g (ix2 0 r)) k := by
  unfold k0_pay1
  pointwise
  rfl

/-- The zeroed accumulator, at an index. -/
theorem pay2_at (l j : Fin 1024) : k0_pay2 (F := Ideal) (ix2 l j) = 0 := by
  unfold k0_pay2
  pointwise

/-- The accumulator after a block of hidden channels, at an index. -/
theorem pay3_at (h : Vec Ideal S1024x1024 .bf16) (wg wu : Vec Ideal S1024x256 .bf16) (acc : Vec Ideal S1024x1024 .f32)
    (wd : Vec Ideal S256x1024 .bf16) (l j : Fin 1024) :
    k0_pay3 h wg wu acc wd (ix2 l j) = acc (ix2 l j) + ∑ s : Fin 256,
      Ssd.gate (∑ k : Fin 1024, h (ix2 l k) * wg (ix2 k s)) * (∑ k : Fin 1024, h (ix2 l k) * wu (ix2 k s)) * wd (ix2 s j) := by
  unfold k0_pay3
  pointwise
  rfl

/-- The output block, at an index. -/
theorem pay4_at (x acc : Vec Ideal S1024x1024 .f32) (l j : Fin 1024) :
    k0_pay4 x acc (ix2 l j) = x (ix2 l j) + Ideal.ofBits FTy.f32 1056964608#32 * acc (ix2 l j) := by
  unfold k0_pay4
  pointwise

variable (m : (ℓ : Loc nD τ sig) → Buf (Elt Ideal) ℓ) (c : Dev nD) (t : Fin cfg0.N)
  (acc : Vec Ideal S1024x1024 .f32 × Vec Ideal S1024x1024 .bf16 × Vec Ideal S1024x1024 .f32)

/-- A row block's first point stores the normalised block. -/
theorem h_A (h0 : t.val % 11 = 0) (h1 : ¬t.val % 11 = 10) : (stAt0 m c t.val t.isLt acc).2.1 = k0_pay1 (iblk m c 0 t) (iblk m c 1 t) := by
  rw [stAt0_A m c t acc h0 h1]
  dsimp only
  frame_out

/-- It starts the accumulator with its block of hidden channels. -/
theorem acc_A (h0 : t.val % 11 = 0) (h1 : ¬t.val % 11 = 10) : (stAt0 m c t.val t.isLt acc).2.2
    = k0_pay3 (k0_pay1 (iblk m c 0 t) (iblk m c 1 t)) (iblk m c 2 t) (iblk m c 3 t) (k0_pay2 (F := Ideal)) (iblk m c 4 t) := by
  rw [stAt0_A m c t acc h0 h1]
  dsimp only
  frame_out

/-- A later point keeps the normalised block. -/
theorem h_B (h0 : ¬t.val % 11 = 0) : (stAt0 m c t.val t.isLt acc).2.1 = acc.2.1 := by
  by_cases h1 : t.val % 11 = 10
  · rw [stAt0_C m c t acc h0 h1]
    rfl
  · rw [stAt0_B m c t acc h0 h1]
    rfl

/-- The scratches are read back as they were carried. -/
theorem keep_acc : k0_pay3 (F := Ideal) (View.read (Elt Ideal) (View.whole cc0_scratch0) ((Memref.isWhole_whole cc0_scratch0).unread acc.2.1)) (iblk m c 2 t)
      (iblk m c 3 t) (View.read (Elt Ideal) (View.whole cc0_scratch1) ((Memref.isWhole_whole cc0_scratch1).unread acc.2.2)) (iblk m c 4 t)
    = k0_pay3 acc.2.1 (iblk m c 2 t) (iblk m c 3 t) acc.2.2 (iblk m c 4 t) :=
  congrArg₂ (fun a b => k0_pay3 (F := Ideal) a (iblk m c 2 t) (iblk m c 3 t) b (iblk m c 4 t)) (Memref.IsWhole.read_unread _ _) (Memref.IsWhole.read_unread _ _)

/-- It adds its block of hidden channels to the accumulator. -/
theorem acc_B (h0 : ¬t.val % 11 = 0) : (stAt0 m c t.val t.isLt acc).2.2
    = k0_pay3 acc.2.1 (iblk m c 2 t) (iblk m c 3 t) acc.2.2 (iblk m c 4 t) := by
  by_cases h1 : t.val % 11 = 10
  · rw [stAt0_C m c t acc h0 h1]
    dsimp only
    frame_out
    exact keep_acc m c t acc
  · rw [stAt0_B m c t acc h0 h1]
    dsimp only
    frame_out
    exact keep_acc m c t acc

/-- A row block's last point writes the output block from the accumulator. -/
theorem out_C (h0 : ¬t.val % 11 = 0) (h1 : t.val % 11 = 10) : (stAt0 m c t.val t.isLt acc).1
    = k0_pay4 (iblk m c 0 t) (k0_pay3 acc.2.1 (iblk m c 2 t) (iblk m c 3 t) acc.2.2 (iblk m c 4 t)) := by
  rw [stAt0_C m c t acc h0 h1]
  dsimp only
  frame_out
  exact congrArg (k0_pay4 (iblk m c 0 t)) (keep_acc m c t acc)

end Cert.FfnIdeal.Value
-- ==== Proof.FfnBlk.lean ====
/-
  The feed-forward call: the blocks a grid point works on, as parts of the call's arguments.
-/
module

public import proofs.«01_k».proof.Proof.FfnPay
public import Idealize.ShloMosaic.Lib.StableHlo.ReadAt

@[expose] public section
set_option maxRecDepth 16384
noncomputable section
open Idealize.ShloMosaic Idealize.ShloMosaic.TcCoe Idealize.SL.Sem
namespace Cert.FfnIdeal.Value
open Cert.FfnIdeal Cert.FfnIdeal.Gen Cert.Dense

variable (m : (ℓ : Loc nD τ sig) → Buf (Elt Ideal) ℓ) (c : Dev nD)

/-- The call's tokens, norm weights, and the two products' weights. -/
def xK (n : ℕ) (j : Fin 1024) : EReal := (m ((c : Thread nD τ).loc main_arg0) : Vec Ideal S32768x1024 .f32) (ix2 ⟨n % 32768, Nat.mod_lt _ (by omega)⟩ j)
def gK (j : Fin 1024) : EReal := (m ((c : Thread nD τ).loc main_arg1) : Vec Ideal S1024 .f32) (ix1 j)
def wK (k : Fin 1024) (j : Fin 5632) : EReal := (m ((c : Thread nD τ).loc main_arg2) : Vec Ideal S1024x5632 .f32) (ix2 k j)
def wdK (s : Fin 2816) (j : Fin 1024) : EReal := (m ((c : Thread nD τ).loc main_arg3) : Vec Ideal S2816x1024 .f32) (ix2 s j)

/-- The row block and the block of hidden channels of a grid point. -/
theorem index_x : ∀ t : Fin cfg0.N, win0_0.index t (0 : Fin 2) = t.val / 11 ∧ win0_0.index t (1 : Fin 2) = 0 := by decide +kernel
theorem index_g : ∀ t : Fin cfg0.N, win0_2.index t (0 : Fin 2) = 0 ∧ win0_2.index t (1 : Fin 2) = t.val % 11 := by decide +kernel
theorem index_u : ∀ t : Fin cfg0.N, win0_3.index t (0 : Fin 2) = 0 ∧ win0_3.index t (1 : Fin 2) = t.val % 11 + 11 := by decide +kernel
theorem index_d : ∀ t : Fin cfg0.N, win0_4.index t (0 : Fin 2) = t.val % 11 ∧ win0_4.index t (1 : Fin 2) = 0 := by decide +kernel

/-- The norm's weights reach the call as a row. -/
theorem V_g (j : Fin 1024) : (V m c main_v0 : Vec Ideal S1x1024 .f32) (ix2 0 j) = gK m c j := by
  unfold V
  after_reads_at
  rfl

/-- The first product's weights reach it in the narrow type. -/
theorem V_w (k : Fin 1024) (j : Fin 5632) : (V m c main_v1 : Vec Ideal S1024x5632 .bf16) (ix2 k j) = wK m c k j := by
  unfold V
  after_reads_at
  rfl

/-- So do the second's. -/
theorem V_wd (s : Fin 2816) (j : Fin 1024) : (V m c main_v2 : Vec Ideal S2816x1024 .bf16) (ix2 s j) = wdK m c s j := by
  unfold V
  after_reads_at
  rfl

variable (t : Fin cfg0.N)

/-- The point's rows of the tokens. -/
theorem blk_x (l j : Fin 1024) : (iblk m c 0 t : Vec Ideal S1024x1024 .f32) (ix2 l j) = xK m c (t.val / 11 * 1024 + l.val) j := by
  unfold xK
  rw [← V_main_arg0 m c]
  obtain ⟨h0, h1⟩ := index_x t
  have ht : t.val < 352 := t.isLt
  unfold iblk
  rw [View.read_apply]
  show V m c main_arg0 _ = V m c main_arg0 _
  refine congrArg (V m c main_arg0) ?_
  funext a
  apply Fin.ext
  match a with
  | ⟨0, _⟩ => show win0_0.index t 0 * 1024 + 1 * l.val = (t.val / 11 * 1024 + l.val) % 32768; omega
  | ⟨1, _⟩ => show win0_0.index t 1 * 1024 + 1 * j.val = j.val; omega

/-- The norm's weights are one window. -/
theorem blk_g (j : Fin 1024) : (iblk m c 1 t : Vec Ideal S1x1024 .f32) (ix2 0 j) = gK m c j := by
  rw [← V_g m c]
  unfold iblk
  rw [View.read_apply]
  exact congrArg (V m c main_v0) (funext fun a => Fin.ext (Pipeline.Window.rect_emb_val_of_index_zero win0_1 t a (by match a with | ⟨0, _⟩ => rfl | ⟨1, _⟩ => rfl) _))

/-- The point's columns of the gate's weights. -/
theorem blk_wg (k : Fin 1024) (s : Fin 256) : (iblk m c 2 t : Vec Ideal S1024x256 .bf16) (ix2 k s) = wK m c k (gateIx (hIx (t.val % 11) s)) := by
  rw [← V_w m c]
  obtain ⟨h0, h1⟩ := index_g t
  unfold iblk
  rw [View.read_apply]
  show V m c main_v1 _ = V m c main_v1 _
  refine congrArg (V m c main_v1) ?_
  funext a
  apply Fin.ext
  match a with
  | ⟨0, _⟩ => show win0_2.index t 0 * 1024 + 1 * k.val = k.val; omega
  | ⟨1, _⟩ => show win0_2.index t 1 * 256 + 1 * s.val = (t.val % 11 * 256 + s.val) % 2816; omega

/-- The point's columns of the gated half's weights. -/
theorem blk_wu (k : Fin 1024) (s : Fin 256) : (iblk m c 3 t : Vec Ideal S1024x256 .bf16) (ix2 k s) = wK m c k (upIx (hIx (t.val % 11) s)) := by
  rw [← V_w m c]
  obtain ⟨h0, h1⟩ := index_u t
  unfold iblk
  rw [View.read_apply]
  show V m c main_v1 _ = V m c main_v1 _
  refine congrArg (V m c main_v1) ?_
  funext a
  apply Fin.ext
  match a with
  | ⟨0, _⟩ => show win0_3.index t 0 * 1024 + 1 * k.val = k.val; omega
  | ⟨1, _⟩ => show win0_3.index t 1 * 256 + 1 * s.val = 2816 + (t.val % 11 * 256 + s.val) % 2816; omega

/-- The point's rows of the second product's weights. -/
theorem blk_wd (s : Fin 256) (j : Fin 1024) : (iblk m c 4 t : Vec Ideal S256x1024 .bf16) (ix2 s j) = wdK m c (hIx (t.val % 11) s) j := by
  rw [← V_wd m c]
  obtain ⟨h0, h1⟩ := index_d t
  unfold iblk
  rw [View.read_apply]
  show V m c main_v2 _ = V m c main_v2 _
  refine congrArg (V m c main_v2) ?_
  funext a
  apply Fin.ext
  match a with
  | ⟨0, _⟩ => show win0_4.index t 0 * 256 + 1 * s.val = (t.val % 11 * 256 + s.val) % 2816; omega
  | ⟨1, _⟩ => show win0_4.index t 1 * 1024 + 1 * j.val = j.val; omega

end Cert.FfnIdeal.Value
-- ==== Proof.FfnFold.lean ====
/-
  The feed-forward call's result array: the eleven points of a row block carry its normalised tokens and the growing sum
  over the hidden channels.
-/
module

public import proofs.«01_k».proof.Proof.FfnBlk

@[expose] public section
set_option maxRecDepth 16384
noncomputable section
open Idealize.ShloMosaic Idealize.ShloMosaic.TcCoe Idealize.SL.Sem
namespace Cert.FfnIdeal.Value
open Cert.FfnIdeal Cert.FfnIdeal.Gen Cert.Dense

variable (m : (ℓ : Loc nD τ sig) → Buf (Elt Ideal) ℓ) (c : Dev nD)

/-- A point's token, normalised. -/
def hK (t l : ℕ) : Fin 1024 → EReal := normRow (xK m c (t / 11 * 1024 + l)) (gK m c)

/-- What a hidden channel adds to a token's channel. -/
def addK (t l : ℕ) (j : Fin 1024) (r : Fin 2816) : EReal := hid (hK m c t l) (wK m c) r * wdK m c r j

/-- What a point leaves: the normalised tokens of its row block, and the sum of the hidden channels so far. -/
structure Good (t : Fin cfg0.N) (acc : Vec Ideal S1024x1024 .f32 × Vec Ideal S1024x1024 .bf16 × Vec Ideal S1024x1024 .f32) : Prop where
  h : ∀ l k, acc.2.1 (ix2 l k) = hK m c t.val l.val k
  sum : ∀ l j, acc.2.2 (ix2 l j) = part (addK m c t.val l.val j) (t.val % 11 + 1)

/-- The normalised block a row block's first point computes. -/
theorem h_at (t : Fin cfg0.N) (l k : Fin 1024) : k0_pay1 (iblk m c 0 t) (iblk m c 1 t) (ix2 l k) = hK m c t.val l.val k := by
  refine (pay1_at (iblk m c 0 t) (iblk m c 1 t) l k).trans ?_
  exact congrArg₂ (fun x g => normRow x g k) (funext fun r => blk_x m c t l r) (funext fun r => blk_g m c t r)

/-- A point's step adds its block of hidden channels. -/
theorem sum_at (t : Fin cfg0.N) (h : Vec Ideal S1024x1024 .bf16) (acc : Vec Ideal S1024x1024 .f32) (hh : ∀ l k, h (ix2 l k) = hK m c t.val l.val k)
    (l j : Fin 1024) (ha : acc (ix2 l j) = part (addK m c t.val l.val j) (t.val % 11)) :
    k0_pay3 h (iblk m c 2 t) (iblk m c 3 t) acc (iblk m c 4 t) (ix2 l j) = part (addK m c t.val l.val j) (t.val % 11 + 1) := by
  refine (pay3_at h (iblk m c 2 t) (iblk m c 3 t) acc (iblk m c 4 t) l j).trans ?_
  rw [part_succ, ha]
  refine congrArg (_ + ·) (Finset.sum_congr rfl fun s _ => ?_)
  unfold addK hid
  refine congrArg₂ (· * ·) (congrArg₂ (fun a b => Ssd.gate a * b) ?_ ?_) (blk_wd m c t s j)
  · exact Finset.sum_congr rfl fun k _ => congrArg₂ (· * ·) (hh l k) (blk_wg m c t k s)
  · exact Finset.sum_congr rfl fun k _ => congrArg₂ (· * ·) (hh l k) (blk_wu m c t k s)

/-- A row block's first point leaves them, whatever was carried. -/
theorem good_A (t : Fin cfg0.N) (acc) (h0 : t.val % 11 = 0) : Good m c t (stAt0 m c t.val t.isLt acc) := by
  have h1 : ¬t.val % 11 = 10 := by omega
  refine ⟨fun l k => ?_, fun l j => ?_⟩
  · rw [h_A m c t acc h0 h1]
    exact h_at m c t l k
  · rw [acc_A m c t acc h0 h1]
    refine sum_at m c t _ _ (h_at m c t) l j ?_
    rw [h0, part_zero]
    exact pay2_at l j

/-- Two points of a row block have the same tokens. -/
theorem hK_step (n l : ℕ) (h : ¬(n + 1) % 11 = 0) : hK m c (n + 1) l = hK m c n l := by
  unfold hK
  rw [show (n + 1) / 11 = n / 11 by omega]

/-- So they add the same. -/
theorem addK_step (n l : ℕ) (j : Fin 1024) (h : ¬(n + 1) % 11 = 0) : addK m c (n + 1) l j = addK m c n l j := by
  unfold addK
  rw [hK_step m c n l h]

/-- A later point leaves them where the point before did. -/
theorem good_B (n : ℕ) (hn : n + 1 < cfg0.N) (acc) (h0 : ¬(n + 1) % 11 = 0) (hg : Good m c ⟨n, Nat.lt_of_succ_lt hn⟩ acc) :
    Good m c ⟨n + 1, hn⟩ (stAt0 m c (n + 1) hn acc) := by
  have hh : ∀ l k, acc.2.1 (ix2 l k) = hK m c (n + 1) l.val k := fun l k => by rw [hK_step m c n _ h0]; exact hg.h l k
  refine ⟨fun l k => ?_, fun l j => ?_⟩
  · rw [h_B m c ⟨n + 1, hn⟩ acc h0]
    exact hh l k
  · rw [acc_B m c ⟨n + 1, hn⟩ acc h0]
    refine sum_at m c ⟨n + 1, hn⟩ _ _ hh l j ?_
    show _ = part (addK m c (n + 1) l.val j) ((n + 1) % 11)
    rw [addK_step m c n _ _ h0, show (n + 1) % 11 = n % 11 + 1 by omega]
    exact hg.sum l j

/-- So every point leaves them. -/
theorem good_all : ∀ (n : ℕ) (hn : n < cfg0.N), Good m c ⟨n, hn⟩ (outsAt0 m c n hn)
  | 0, hn => by
    rw [outsAt0_zero]
    exact good_A m c ⟨0, hn⟩ _ rfl
  | n + 1, hn => by
    rw [outsAt0_succ]
    by_cases h : (n + 1) % 11 = 0
    · exact good_A m c ⟨n + 1, hn⟩ _ h
    · exact good_B m c n hn _ h (good_all n _)

/-- A row block's last point writes its tokens' results. -/
theorem out_at (n : ℕ) (hn : n + 1 < cfg0.N) (h1 : (n + 1) % 11 = 10) (l j : Fin 1024) :
    (outsAt0 m c (n + 1) hn).1 (ix2 l j) = ffn (xK m c ((n + 1) / 11 * 1024 + l.val)) (gK m c) (wK m c) (wdK m c) j := by
  have h0 : ¬(n + 1) % 11 = 0 := by omega
  have hg := good_all m c (n + 1) hn
  rw [outsAt0_succ] at hg ⊢
  have hs := hg.sum l j
  rw [acc_B m c ⟨n + 1, hn⟩ _ h0] at hs
  rw [out_C m c ⟨n + 1, hn⟩ _ h0 h1]
  refine (pay4_at _ _ l j).trans ?_
  rw [hs]
  show _ + _ * part (addK m c (n + 1) l.val j) ((n + 1) % 11 + 1) = _
  rw [h1, part_all]
  exact congrArg (· + _) (blk_x m c ⟨n + 1, hn⟩ l j)

/-- The result array of the call, at an index. -/
theorem G6_at (n : Fin 32768) (j : Fin 1024) :
    (G6 m c : Vec Ideal S32768x1024 .f32) (ix2 n j) = ffn (xK m c n.val) (gK m c) (wK m c) (wdK m c) j := by
  have hp : pt6Of (ix2 n j) = 11 * (n.val / 1024) + 9 + 1 := by
    show 11 * (1 * (n.val / 1024 - 0) + 1 * (j.val / 1024 - 0)) + 10 = _
    omega
  have hlt : 11 * (n.val / 1024) + 9 + 1 < cfg0.N := by
    rw [show cfg0.N = 352 from N_0]
    omega
  have hlt' : pt6Of (ix2 n j) < cfg0.N := hp ▸ hlt
  unfold G6
  rw [dif_pos hlt', ← outsAt0_sweep m c _ hlt']
  have hl : loc6Of (ix2 n j) = ix2 ⟨n.val % 1024, Nat.mod_lt _ (by omega)⟩ j := by
    funext a
    match a with
    | ⟨0, _⟩ => rfl
    | ⟨1, _⟩ => exact Fin.ext (Nat.mod_eq_of_lt j.isLt)
  rw [hl]
  have e : ∀ (p : ℕ) (h : p < cfg0.N), p = 11 * (n.val / 1024) + 9 + 1 → outsAt0 m c p h = outsAt0 m c _ hlt := by
    rintro p h rfl
    rfl
  rw [e _ hlt' hp, out_at m c _ hlt (by omega)]
  rw [show (11 * (n.val / 1024) + 9 + 1) / 11 * 1024 + n.val % 1024 = n.val by omega]

end Cert.FfnIdeal.Value
-- ==== Proof.FfnRef.lean ====
/-
  The feed-forward reference's result.
-/
module

public import proofs.«01_k».proof.Proof.Gen.FfnRefIdeal.Run
public import proofs.«01_k».proof.Proof.Dense
public import Idealize.ShloMosaic.Lib.Pointwise

@[expose] public section
set_option maxRecDepth 16384
noncomputable section
open Idealize.ShloMosaic Idealize.ShloMosaic.TcCoe Idealize.SL.Sem
namespace Cert.FfnRefIdeal.Value
open Cert.FfnRefIdeal Cert.FfnRefIdeal.Gen Cert.Dense

/-- The result array of the reference. -/
def res (x : Vec Ideal S32768x1024 .f32) (g : Vec Ideal S1024 .f32) (w : Vec Ideal S1024x5632 .f32) (wd : Vec Ideal S2816x1024 .f32) :
    Vec Ideal S32768x1024 .f32 := fun i =>
  ffn (fun r => x (ix2 (i 0) r)) (fun r => g (ix1 r)) (fun k j => w (ix2 k j)) (fun s j => wd (ix2 s j)) (i 1)

/-- The reference run leaves that array, and its arguments. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = res (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run m ρ)
  generalize (m ((c.tc : Thread nD τ).loc main_arg0)) = x
  generalize (m ((c.tc : Thread nD τ).loc main_arg1)) = g
  generalize (m ((c.tc : Thread nD τ).loc main_arg2)) = w
  generalize (m ((c.tc : Thread nD τ).loc main_arg3)) = wd
  funext i
  obtain ⟨n, j, rfl⟩ : ∃ (n : Fin 32768) (j : Fin 1024), i = ix2 n j := ⟨i 0, i 1, ValueIdx.eq_ix2 i⟩
  pointwise
  rfl

end Cert.FfnRefIdeal.Value
-- ==== Proof.LastPay.lean ====
/-
  The last feed-forward call, which normalises its results: what its body computes of its blocks, and what a grid point leaves in the output block and in
  the two scratches it carries.
-/
module

public import proofs.«01_k».proof.Proof.Gen.LastIdeal.Value
public import proofs.«01_k».proof.Proof.Dense
public import Idealize.ShloMosaic.Lib.Pointwise
public import Idealize.ShloMosaic.Lib.Pipeline.ValueKit.Acc

@[expose] public section
set_option maxRecDepth 16384
noncomputable section
open Idealize.ShloMosaic Idealize.ShloMosaic.TcCoe Idealize.SL.Sem
namespace Cert.LastIdeal.Value
open Cert.LastIdeal Cert.LastIdeal.Gen Cert.Dense

/-- The output block before its normalisation, at an index. -/
def pre (x acc : Vec Ideal S1024x1024 .f32) (l j : Fin 1024) : EReal := x (ix2 l j) + Ideal.ofBits FTy.f32 1056964608#32 * acc (ix2 l j)

/-- The output block, at an index. -/
theorem pay4_at (x acc : Vec Ideal S1024x1024 .f32) (fg : Vec Ideal S1x1024 .f32) (l j : Fin 1024) :
    k0_pay4 x acc fg (ix2 l j) = normRow (pre x acc l) (fun r => fg (ix2 0 r)) j := by
  unfold k0_pay4
  pointwise
  rfl

variable (m : (ℓ : Loc nD τ sig) → Buf (Elt Ideal) ℓ) (c : Dev nD) (t : Fin cfg0.N)
  (acc : Vec Ideal S1024x1024 .f32 × Vec Ideal S1024x1024 .bf16 × Vec Ideal S1024x1024 .f32)

/-- A row block's first point stores the normalised block. -/
theorem h_A (h0 : t.val % 11 = 0) (h1 : ¬t.val % 11 = 10) : (stAt0 m c t.val t.isLt acc).2.1 = k0_pay1 (iblk m c 0 t) (iblk m c 1 t) := by
  rw [stAt0_A m c t acc h0 h1]
  dsimp only
  frame_out

/-- It starts the accumulator with its block of hidden channels. -/
theorem acc_A (h0 : t.val % 11 = 0) (h1 : ¬t.val % 11 = 10) : (stAt0 m c t.val t.isLt acc).2.2
    = k0_pay3 (k0_pay1 (iblk m c 0 t) (iblk m c 1 t)) (iblk m c 2 t) (iblk m c 3 t) (k0_pay2 (F := Ideal)) (iblk m c 4 t) := by
  rw [stAt0_A m c t acc h0 h1]
  dsimp only
  frame_out

/-- A later point keeps the normalised block. -/
theorem h_B (h0 : ¬t.val % 11 = 0) : (stAt0 m c t.val t.isLt acc).2.1 = acc.2.1 := by
  by_cases h1 : t.val % 11 = 10
  · rw [stAt0_C m c t acc h0 h1]
    rfl
  · rw [stAt0_B m c t acc h0 h1]
    rfl

/-- The scratches are read back as they were carried. -/
theorem keep_acc : k0_pay3 (F := Ideal) (View.read (Elt Ideal) (View.whole cc0_scratch0) ((Memref.isWhole_whole cc0_scratch0).unread acc.2.1)) (iblk m c 2 t)
      (iblk m c 3 t) (View.read (Elt Ideal) (View.whole cc0_scratch1) ((Memref.isWhole_whole cc0_scratch1).unread acc.2.2)) (iblk m c 4 t)
    = k0_pay3 acc.2.1 (iblk m c 2 t) (iblk m c 3 t) acc.2.2 (iblk m c 4 t) :=
  congrArg₂ (fun a b => k0_pay3 (F := Ideal) a (iblk m c 2 t) (iblk m c 3 t) b (iblk m c 4 t)) (Memref.IsWhole.read_unread _ _) (Memref.IsWhole.read_unread _ _)

/-- It adds its block of hidden channels to the accumulator. -/
theorem acc_B (h0 : ¬t.val % 11 = 0) : (stAt0 m c t.val t.isLt acc).2.2
    = k0_pay3 acc.2.1 (iblk m c 2 t) (iblk m c 3 t) acc.2.2 (iblk m c 4 t) := by
  by_cases h1 : t.val % 11 = 10
  · rw [stAt0_C m c t acc h0 h1]
    dsimp only
    frame_out
    exact keep_acc m c t acc
  · rw [stAt0_B m c t acc h0 h1]
    dsimp only
    frame_out
    exact keep_acc m c t acc

/-- A row block's last point writes the output block from the accumulator. -/
theorem out_C (h0 : ¬t.val % 11 = 0) (h1 : t.val % 11 = 10) : (stAt0 m c t.val t.isLt acc).1
    = k0_pay4 (iblk m c 0 t) (k0_pay3 acc.2.1 (iblk m c 2 t) (iblk m c 3 t) acc.2.2 (iblk m c 4 t)) (iblk m c 5 t) := by
  rw [stAt0_C m c t acc h0 h1]
  dsimp only
  frame_out
  exact congrArg (fun a => k0_pay4 (F := Ideal) (iblk m c 0 t) a (iblk m c 5 t)) (keep_acc m c t acc)

end Cert.LastIdeal.Value
-- ==== Proof.LastBlk.lean ====
/-
  The last feed-forward call: the blocks a grid point works on, as parts of the call's arguments.
-/
module

public import proofs.«01_k».proof.Proof.LastPay
public import Idealize.ShloMosaic.Lib.StableHlo.ReadAt

@[expose] public section
set_option maxRecDepth 16384
noncomputable section
open Idealize.ShloMosaic Idealize.ShloMosaic.TcCoe Idealize.SL.Sem
namespace Cert.LastIdeal.Value
open Cert.LastIdeal Cert.LastIdeal.Gen Cert.Dense

variable (m : (ℓ : Loc nD τ sig) → Buf (Elt Ideal) ℓ) (c : Dev nD)

/-- The call's tokens, norm weights, and the two products' weights. -/
def xK (n : ℕ) (j : Fin 1024) : EReal := (m ((c : Thread nD τ).loc main_arg0) : Vec Ideal S32768x1024 .f32) (ix2 ⟨n % 32768, Nat.mod_lt _ (by omega)⟩ j)
def gK (j : Fin 1024) : EReal := (m ((c : Thread nD τ).loc main_arg1) : Vec Ideal S1024 .f32) (ix1 j)
def wK (k : Fin 1024) (j : Fin 5632) : EReal := (m ((c : Thread nD τ).loc main_arg2) : Vec Ideal S1024x5632 .f32) (ix2 k j)
def wdK (s : Fin 2816) (j : Fin 1024) : EReal := (m ((c : Thread nD τ).loc main_arg3) : Vec Ideal S2816x1024 .f32) (ix2 s j)
def fgK (j : Fin 1024) : EReal := (m ((c : Thread nD τ).loc main_arg4) : Vec Ideal S1024 .f32) (ix1 j)

/-- The row block and the block of hidden channels of a grid point. -/
theorem index_x : ∀ t : Fin cfg0.N, win0_0.index t (0 : Fin 2) = t.val / 11 ∧ win0_0.index t (1 : Fin 2) = 0 := by decide +kernel
theorem index_g : ∀ t : Fin cfg0.N, win0_2.index t (0 : Fin 2) = 0 ∧ win0_2.index t (1 : Fin 2) = t.val % 11 := by decide +kernel
theorem index_u : ∀ t : Fin cfg0.N, win0_3.index t (0 : Fin 2) = 0 ∧ win0_3.index t (1 : Fin 2) = t.val % 11 + 11 := by decide +kernel
theorem index_d : ∀ t : Fin cfg0.N, win0_4.index t (0 : Fin 2) = t.val % 11 ∧ win0_4.index t (1 : Fin 2) = 0 := by decide +kernel

/-- The norm's weights reach the call as a row. -/
theorem V_g (j : Fin 1024) : (V m c main_v0 : Vec Ideal S1x1024 .f32) (ix2 0 j) = gK m c j := by
  unfold V
  after_reads_at
  rfl

/-- The first product's weights reach it in the narrow type. -/
theorem V_w (k : Fin 1024) (j : Fin 5632) : (V m c main_v1 : Vec Ideal S1024x5632 .bf16) (ix2 k j) = wK m c k j := by
  unfold V
  after_reads_at
  rfl

/-- So do the second's. -/
theorem V_wd (s : Fin 2816) (j : Fin 1024) : (V m c main_v2 : Vec Ideal S2816x1024 .bf16) (ix2 s j) = wdK m c s j := by
  unfold V
  after_reads_at
  rfl

/-- The final norm's weights reach it as a row. -/
theorem V_fg (j : Fin 1024) : (V m c main_v3 : Vec Ideal S1x1024 .f32) (ix2 0 j) = fgK m c j := by
  unfold V
  after_reads_at
  rfl

variable (t : Fin cfg0.N)

/-- The point's rows of the tokens. -/
theorem blk_x (l j : Fin 1024) : (iblk m c 0 t : Vec Ideal S1024x1024 .f32) (ix2 l j) = xK m c (t.val / 11 * 1024 + l.val) j := by
  unfold xK
  rw [← V_main_arg0 m c]
  obtain ⟨h0, h1⟩ := index_x t
  have ht : t.val < 352 := t.isLt
  unfold iblk
  rw [View.read_apply]
  show V m c main_arg0 _ = V m c main_arg0 _
  refine congrArg (V m c main_arg0) ?_
  funext a
  apply Fin.ext
  match a with
  | ⟨0, _⟩ => show win0_0.index t 0 * 1024 + 1 * l.val = (t.val / 11 * 1024 + l.val) % 32768; omega
  | ⟨1, _⟩ => show win0_0.index t 1 * 1024 + 1 * j.val = j.val; omega

/-- The norm's weights are one window. -/
theorem blk_g (j : Fin 1024) : (iblk m c 1 t : Vec Ideal S1x1024 .f32) (ix2 0 j) = gK m c j := by
  rw [← V_g m c]
  unfold iblk
  rw [View.read_apply]
  exact congrArg (V m c main_v0) (funext fun a => Fin.ext (Pipeline.Window.rect_emb_val_of_index_zero win0_1 t a (by match a with | ⟨0, _⟩ => rfl | ⟨1, _⟩ => rfl) _))

/-- So are the final norm's. -/
theorem blk_fg (j : Fin 1024) : (iblk m c 5 t : Vec Ideal S1x1024 .f32) (ix2 0 j) = fgK m c j := by
  rw [← V_fg m c]
  unfold iblk
  rw [View.read_apply]
  exact congrArg (V m c main_v3) (funext fun a => Fin.ext (Pipeline.Window.rect_emb_val_of_index_zero win0_5 t a (by match a with | ⟨0, _⟩ => rfl | ⟨1, _⟩ => rfl) _))

/-- The point's columns of the gate's weights. -/
theorem blk_wg (k : Fin 1024) (s : Fin 256) : (iblk m c 2 t : Vec Ideal S1024x256 .bf16) (ix2 k s) = wK m c k (gateIx (hIx (t.val % 11) s)) := by
  rw [← V_w m c]
  obtain ⟨h0, h1⟩ := index_g t
  unfold iblk
  rw [View.read_apply]
  show V m c main_v1 _ = V m c main_v1 _
  refine congrArg (V m c main_v1) ?_
  funext a
  apply Fin.ext
  match a with
  | ⟨0, _⟩ => show win0_2.index t 0 * 1024 + 1 * k.val = k.val; omega
  | ⟨1, _⟩ => show win0_2.index t 1 * 256 + 1 * s.val = (t.val % 11 * 256 + s.val) % 2816; omega

/-- The point's columns of the gated half's weights. -/
theorem blk_wu (k : Fin 1024) (s : Fin 256) : (iblk m c 3 t : Vec Ideal S1024x256 .bf16) (ix2 k s) = wK m c k (upIx (hIx (t.val % 11) s)) := by
  rw [← V_w m c]
  obtain ⟨h0, h1⟩ := index_u t
  unfold iblk
  rw [View.read_apply]
  show V m c main_v1 _ = V m c main_v1 _
  refine congrArg (V m c main_v1) ?_
  funext a
  apply Fin.ext
  match a with
  | ⟨0, _⟩ => show win0_3.index t 0 * 1024 + 1 * k.val = k.val; omega
  | ⟨1, _⟩ => show win0_3.index t 1 * 256 + 1 * s.val = 2816 + (t.val % 11 * 256 + s.val) % 2816; omega

/-- The point's rows of the second product's weights. -/
theorem blk_wd (s : Fin 256) (j : Fin 1024) : (iblk m c 4 t : Vec Ideal S256x1024 .bf16) (ix2 s j) = wdK m c (hIx (t.val % 11) s) j := by
  rw [← V_wd m c]
  obtain ⟨h0, h1⟩ := index_d t
  unfold iblk
  rw [View.read_apply]
  show V m c main_v2 _ = V m c main_v2 _
  refine congrArg (V m c main_v2) ?_
  funext a
  apply Fin.ext
  match a with
  | ⟨0, _⟩ => show win0_4.index t 0 * 256 + 1 * s.val = (t.val % 11 * 256 + s.val) % 2816; omega
  | ⟨1, _⟩ => show win0_4.index t 1 * 1024 + 1 * j.val = j.val; omega

end Cert.LastIdeal.Value
-- ==== Proof.LastFold.lean ====
/-
  The last feed-forward call's result array: the eleven points of a row block carry its normalised tokens and the growing sum
  over the hidden channels.
-/
module

public import proofs.«01_k».proof.Proof.LastBlk
public import proofs.«01_k».proof.Proof.FfnPay

@[expose] public section
set_option maxRecDepth 16384
noncomputable section
open Idealize.ShloMosaic Idealize.ShloMosaic.TcCoe Idealize.SL.Sem
namespace Cert.LastIdeal.Value
open Cert.LastIdeal Cert.LastIdeal.Gen Cert.Dense

variable (m : (ℓ : Loc nD τ sig) → Buf (Elt Ideal) ℓ) (c : Dev nD)

/-- A point's token, normalised. -/
def hK (t l : ℕ) : Fin 1024 → EReal := normRow (xK m c (t / 11 * 1024 + l)) (gK m c)

/-- What a hidden channel adds to a token's channel. -/
def addK (t l : ℕ) (j : Fin 1024) (r : Fin 2816) : EReal := hid (hK m c t l) (wK m c) r * wdK m c r j

/-- What a point leaves: the normalised tokens of its row block, and the sum of the hidden channels so far. -/
structure Good (t : Fin cfg0.N) (acc : Vec Ideal S1024x1024 .f32 × Vec Ideal S1024x1024 .bf16 × Vec Ideal S1024x1024 .f32) : Prop where
  h : ∀ l k, acc.2.1 (ix2 l k) = hK m c t.val l.val k
  sum : ∀ l j, acc.2.2 (ix2 l j) = part (addK m c t.val l.val j) (t.val % 11 + 1)

/-- The normalised block a row block's first point computes. -/
theorem h_at (t : Fin cfg0.N) (l k : Fin 1024) : k0_pay1 (iblk m c 0 t) (iblk m c 1 t) (ix2 l k) = hK m c t.val l.val k := by
  refine (Cert.FfnIdeal.Value.pay1_at (iblk m c 0 t) (iblk m c 1 t) l k).trans ?_
  exact congrArg₂ (fun x g => normRow x g k) (funext fun r => blk_x m c t l r) (funext fun r => blk_g m c t r)

/-- A point's step adds its block of hidden channels. -/
theorem sum_at (t : Fin cfg0.N) (h : Vec Ideal S1024x1024 .bf16) (acc : Vec Ideal S1024x1024 .f32) (hh : ∀ l k, h (ix2 l k) = hK m c t.val l.val k)
    (l j : Fin 1024) (ha : acc (ix2 l j) = part (addK m c t.val l.val j) (t.val % 11)) :
    k0_pay3 h (iblk m c 2 t) (iblk m c 3 t) acc (iblk m c 4 t) (ix2 l j) = part (addK m c t.val l.val j) (t.val % 11 + 1) := by
  refine (Cert.FfnIdeal.Value.pay3_at h (iblk m c 2 t) (iblk m c 3 t) acc (iblk m c 4 t) l j).trans ?_
  rw [part_succ, ha]
  refine congrArg (_ + ·) (Finset.sum_congr rfl fun s _ => ?_)
  unfold addK hid
  refine congrArg₂ (· * ·) (congrArg₂ (fun a b => Ssd.gate a * b) ?_ ?_) (blk_wd m c t s j)
  · exact Finset.sum_congr rfl fun k _ => congrArg₂ (· * ·) (hh l k) (blk_wg m c t k s)
  · exact Finset.sum_congr rfl fun k _ => congrArg₂ (· * ·) (hh l k) (blk_wu m c t k s)

/-- A row block's first point leaves them, whatever was carried. -/
theorem good_A (t : Fin cfg0.N) (acc) (h0 : t.val % 11 = 0) : Good m c t (stAt0 m c t.val t.isLt acc) := by
  have h1 : ¬t.val % 11 = 10 := by omega
  refine ⟨fun l k => ?_, fun l j => ?_⟩
  · rw [h_A m c t acc h0 h1]
    exact h_at m c t l k
  · rw [acc_A m c t acc h0 h1]
    refine sum_at m c t _ _ (h_at m c t) l j ?_
    rw [h0, part_zero]
    exact Cert.FfnIdeal.Value.pay2_at l j

/-- Two points of a row block have the same tokens. -/
theorem hK_step (n l : ℕ) (h : ¬(n + 1) % 11 = 0) : hK m c (n + 1) l = hK m c n l := by
  unfold hK
  rw [show (n + 1) / 11 = n / 11 by omega]

/-- So they add the same. -/
theorem addK_step (n l : ℕ) (j : Fin 1024) (h : ¬(n + 1) % 11 = 0) : addK m c (n + 1) l j = addK m c n l j := by
  unfold addK
  rw [hK_step m c n l h]

/-- A later point leaves them where the point before did. -/
theorem good_B (n : ℕ) (hn : n + 1 < cfg0.N) (acc) (h0 : ¬(n + 1) % 11 = 0) (hg : Good m c ⟨n, Nat.lt_of_succ_lt hn⟩ acc) :
    Good m c ⟨n + 1, hn⟩ (stAt0 m c (n + 1) hn acc) := by
  have hh : ∀ l k, acc.2.1 (ix2 l k) = hK m c (n + 1) l.val k := fun l k => by rw [hK_step m c n _ h0]; exact hg.h l k
  refine ⟨fun l k => ?_, fun l j => ?_⟩
  · rw [h_B m c ⟨n + 1, hn⟩ acc h0]
    exact hh l k
  · rw [acc_B m c ⟨n + 1, hn⟩ acc h0]
    refine sum_at m c ⟨n + 1, hn⟩ _ _ hh l j ?_
    show _ = part (addK m c (n + 1) l.val j) ((n + 1) % 11)
    rw [addK_step m c n _ _ h0, show (n + 1) % 11 = n % 11 + 1 by omega]
    exact hg.sum l j

/-- So every point leaves them. -/
theorem good_all : ∀ (n : ℕ) (hn : n < cfg0.N), Good m c ⟨n, hn⟩ (outsAt0 m c n hn)
  | 0, hn => by
    rw [outsAt0_zero]
    exact good_A m c ⟨0, hn⟩ _ rfl
  | n + 1, hn => by
    rw [outsAt0_succ]
    by_cases h : (n + 1) % 11 = 0
    · exact good_A m c ⟨n + 1, hn⟩ _ h
    · exact good_B m c n hn _ h (good_all n _)

/-- A row block's last point writes its tokens' results. -/
theorem out_at (n : ℕ) (hn : n + 1 < cfg0.N) (h1 : (n + 1) % 11 = 10) (l j : Fin 1024) :
    (outsAt0 m c (n + 1) hn).1 (ix2 l j) = last (xK m c ((n + 1) / 11 * 1024 + l.val)) (gK m c) (wK m c) (wdK m c) (fgK m c) j := by
  have h0 : ¬(n + 1) % 11 = 0 := by omega
  have hg := good_all m c (n + 1) hn
  rw [outsAt0_succ] at hg ⊢
  have hs := fun j => hg.sum l j
  rw [acc_B m c ⟨n + 1, hn⟩ _ h0] at hs
  rw [out_C m c ⟨n + 1, hn⟩ _ h0 h1]
  refine (pay4_at _ _ (iblk m c 5 ⟨n + 1, hn⟩) l j).trans ?_
  refine congrArg₂ (fun x g => normRow x g j) (funext fun r => ?_) (funext fun r => blk_fg m c ⟨n + 1, hn⟩ r)
  unfold pre
  rw [hs]
  show _ + _ * part (addK m c (n + 1) l.val r) ((n + 1) % 11 + 1) = _
  rw [h1, part_all]
  exact congrArg (· + _) (blk_x m c ⟨n + 1, hn⟩ l r)

/-- The result array of the call, at an index. -/
theorem G6_at (n : Fin 32768) (j : Fin 1024) :
    (G6 m c : Vec Ideal S32768x1024 .f32) (ix2 n j) = last (xK m c n.val) (gK m c) (wK m c) (wdK m c) (fgK m c) j := by
  have hp : pt6Of (ix2 n j) = 11 * (n.val / 1024) + 9 + 1 := by
    show 11 * (1 * (n.val / 1024 - 0) + 1 * (j.val / 1024 - 0)) + 10 = _
    omega
  have hlt : 11 * (n.val / 1024) + 9 + 1 < cfg0.N := by
    rw [show cfg0.N = 352 from N_0]
    omega
  have hlt' : pt6Of (ix2 n j) < cfg0.N := hp ▸ hlt
  unfold G6
  rw [dif_pos hlt', ← outsAt0_sweep m c _ hlt']
  have hl : loc6Of (ix2 n j) = ix2 ⟨n.val % 1024, Nat.mod_lt _ (by omega)⟩ j := by
    funext a
    match a with
    | ⟨0, _⟩ => rfl
    | ⟨1, _⟩ => exact Fin.ext (Nat.mod_eq_of_lt j.isLt)
  rw [hl]
  have e : ∀ (p : ℕ) (h : p < cfg0.N), p = 11 * (n.val / 1024) + 9 + 1 → outsAt0 m c p h = outsAt0 m c _ hlt := by
    rintro p h rfl
    rfl
  rw [e _ hlt' hp, out_at m c _ hlt (by omega)]
  rw [show (11 * (n.val / 1024) + 9 + 1) / 11 * 1024 + n.val % 1024 = n.val by omega]

end Cert.LastIdeal.Value
-- ==== Proof.LastRef.lean ====
/-
  The last feed-forward reference's result.
-/
module

public import proofs.«01_k».proof.Proof.Gen.LastRefIdeal.Run
public import proofs.«01_k».proof.Proof.Dense
public import Idealize.ShloMosaic.Lib.Pointwise

@[expose] public section
set_option maxRecDepth 16384
noncomputable section
open Idealize.ShloMosaic Idealize.ShloMosaic.TcCoe Idealize.SL.Sem
namespace Cert.LastRefIdeal.Value
open Cert.LastRefIdeal Cert.LastRefIdeal.Gen Cert.Dense

/-- The result array of the reference. -/
def res (x : Vec Ideal S32768x1024 .f32) (g : Vec Ideal S1024 .f32) (w : Vec Ideal S1024x5632 .f32) (wd : Vec Ideal S2816x1024 .f32)
    (fg : Vec Ideal S1024 .f32) :
    Vec Ideal S32768x1024 .f32 := fun i =>
  last (fun r => x (ix2 (i 0) r)) (fun r => g (ix1 r)) (fun k j => w (ix2 k j)) (fun s j => wd (ix2 s j)) (fun r => fg (ix1 r)) (i 1)

/-- The reference run leaves that array, and its arguments. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run m ρ)
  unfold res_main_v34
  generalize (m ((c.tc : Thread nD τ).loc main_arg0)) = x
  generalize (m ((c.tc : Thread nD τ).loc main_arg1)) = g
  generalize (m ((c.tc : Thread nD τ).loc main_arg2)) = w
  generalize (m ((c.tc : Thread nD τ).loc main_arg3)) = wd
  generalize (m ((c.tc : Thread nD τ).loc main_arg4)) = fg
  funext i
  obtain ⟨n, j, rfl⟩ : ∃ (n : Fin 32768) (j : Fin 1024), i = ix2 n j := ⟨i 0, i 1, ValueIdx.eq_ix2 i⟩
  pointwise
  rfl

end Cert.LastRefIdeal.Value
-- ==== Proof.InpBlk.lean ====
/-
  The input projection's call: what its body computes, and the blocks a grid point works on.
-/
module

public import proofs.«01_k».proof.Proof.Gen.InprojIdeal.Value
public import proofs.«01_k».proof.Proof.Dense
public import Idealize.ShloMosaic.Lib.Pointwise
public import Idealize.ShloMosaic.Lib.Pipeline.ValueKit.Acc
public import Idealize.ShloMosaic.Lib.StableHlo.ReadAt

@[expose] public section
set_option maxRecDepth 16384
noncomputable section
open Idealize.ShloMosaic Idealize.ShloMosaic.TcCoe Idealize.SL.Sem
namespace Cert.InprojIdeal.Value
open Cert.InprojIdeal Cert.InprojIdeal.Gen Cert.Dense

/-- The normalised block, at an index. -/
theorem pay1_at (x : Vec Ideal S256x1024 .f32) (g : Vec Ideal S1x1024 .f32) (l : Fin 256) (k : Fin 1024) :
    k0_pay1 x g (ix2 l k) = normRow (fun r => x (ix2 l r)) (fun r => g (ix2 0 r)) k := by
  unfold k0_pay1
  pointwise
  rfl

/-- The four products, at an index. -/
theorem pay2_at (x : Vec Ideal S256x1024 .f32) (g : Vec Ideal S1x1024 .f32) (w : Vec Ideal S1024x2304 .bf16) (l : Fin 256) (j : Fin 2304) :
    k0_pay2 x g w (ix2 l j) = ∑ k : Fin 1024, k0_pay1 x g (ix2 l k) * w (ix2 k j) := by
  unfold k0_pay2
  generalize k0_pay1 x g = h
  pointwise

theorem pay3_at (x : Vec Ideal S256x1024 .f32) (g : Vec Ideal S1x1024 .f32) (w : Vec Ideal S1024x1024 .bf16) (l : Fin 256) (j : Fin 1024) :
    k0_pay3 x g w (ix2 l j) = ∑ k : Fin 1024, k0_pay1 x g (ix2 l k) * w (ix2 k j) := by
  unfold k0_pay3
  generalize k0_pay1 x g = h
  pointwise

theorem pay4_at (x : Vec Ideal S256x1024 .f32) (g : Vec Ideal S1x1024 .f32) (w : Vec Ideal S1024x1792 .bf16) (l : Fin 256) (j : Fin 1792) :
    k0_pay4 x g w (ix2 l j) = ∑ k : Fin 1024, k0_pay1 x g (ix2 l k) * w (ix2 k j) := by
  unfold k0_pay4
  generalize k0_pay1 x g = h
  pointwise

theorem pay5_at (x : Vec Ideal S256x1024 .f32) (g : Vec Ideal S1x1024 .f32) (w : Vec Ideal S1024x128 .bf16) (l : Fin 256) (j : Fin 128) :
    k0_pay5 x g w (ix2 l j) = ∑ k : Fin 1024, k0_pay1 x g (ix2 l k) * w (ix2 k j) := by
  unfold k0_pay5
  generalize k0_pay1 x g = h
  pointwise

variable (m : (ℓ : Loc nD τ sig) → Buf (Elt Ideal) ℓ) (c : Dev nD)

/-- The call's tokens, norm weights, and the projection's weights. -/
def xK (n : Fin 32768) (j : Fin 1024) : EReal := (m ((c : Thread nD τ).loc main_arg0) : Vec Ideal S32768x1024 .f32) (ix2 n j)
def gK (j : Fin 1024) : EReal := (m ((c : Thread nD τ).loc main_arg1) : Vec Ideal S1024 .f32) (ix1 j)
def wK (k : Fin 1024) (j : Fin 5144) : EReal := (m ((c : Thread nD τ).loc main_arg2) : Vec Ideal S1024x5144 .f32) (ix2 k j)

/-- The norm's weights reach the call as a row. -/
theorem V_g (j : Fin 1024) : (V m c main_v11 : Vec Ideal S1x1024 .f32) (ix2 0 j) = gK m c j := by
  unfold V
  after_reads_at
  rfl

/-- The first mixer's columns of the weights. -/
theorem V_ws (k : Fin 1024) (j : Fin 2304) : (V m c main_v1 : Vec Ideal S1024x2304 .bf16) (ix2 k j) = wK m c k ⟨j.val, by omega⟩ := by
  unfold V
  after_reads_at
  rfl

/-- The second's. -/
theorem V_wm (k : Fin 1024) (j : Fin 1024) : (V m c main_v3 : Vec Ideal S1024x1024 .bf16) (ix2 k j) = wK m c k ⟨2320 + j.val, by omega⟩ := by
  unfold V
  after_reads_at
  rfl

/-- The third's. -/
theorem V_wr (k : Fin 1024) (j : Fin 1792) : (V m c main_v5 : Vec Ideal S1024x1792 .bf16) (ix2 k j) = wK m c k ⟨3352 + j.val, by omega⟩ := by
  unfold V
  after_reads_at
  rfl

/-- The few columns, side by side and followed by zeros. -/
theorem V_sm (k : Fin 1024) (j : Fin 128) : (V m c main_v10 : Vec Ideal S1024x128 .bf16) (ix2 k j) = smallW (wK m c) k j := by
  unfold V
  after_reads_at
  unfold smallW
  by_cases h : j.val < 16
  · rw [dif_pos h, if_pos h]
    after_reads_at
    rfl
  rw [dif_neg h, if_neg h]
  by_cases h' : j.val < 24
  · rw [dif_pos (show j.val - 16 < 8 by omega), if_pos h']
    after_reads_at
    exact congrArg (wK m c k) (Fin.ext (by show 3344 + (j.val - 16) = 3328 + j.val; omega))
  · rw [dif_neg (show ¬j.val - 16 < 8 by omega), if_neg h']
    after_reads_at

/-- Every token window is at the point's row block. -/
theorem index_tok : ∀ t : Fin cfg0.N, (win0_0.index t (0 : Fin 2) = t.val ∧ win0_0.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) ∧ (win0_9.index t (0 : Fin 2) = t.val ∧ win0_9.index t (1 : Fin 2) = 0) := by
  decide +kernel

variable (t : Fin cfg0.N)

/-- A row of the point's block is a token. -/
def tok (l : Fin 256) : Fin 32768 := ⟨t.val * 256 + l.val, by have : t.val < 128 := t.isLt; omega⟩

/-- The point's tokens. -/
theorem blk_x (l : Fin 256) (j : Fin 1024) : (iblk m c 0 t : Vec Ideal S256x1024 .f32) (ix2 l j) = xK m c (tok t l) j := by
  unfold xK
  rw [← V_main_arg0 m c]
  obtain ⟨⟨h0, h1⟩, -⟩ := index_tok t
  unfold iblk
  rw [View.read_apply]
  show V m c main_arg0 _ = V m c main_arg0 _
  refine congrArg (V m c main_arg0) ?_
  funext a
  apply Fin.ext
  match a with
  | ⟨0, _⟩ => show win0_0.index t 0 * 256 + 1 * l.val = t.val * 256 + l.val; omega
  | ⟨1, _⟩ => show win0_0.index t 1 * 1024 + 1 * j.val = j.val; omega

/-- The norm's weights are one window. -/
theorem blk_g : (iblk m c 1 t : Vec Ideal S1x1024 .f32) = V m c main_v11 := by
  funext i
  unfold iblk
  rw [View.read_apply]
  exact congrArg (V m c main_v11) (funext fun a => Fin.ext (Pipeline.Window.rect_emb_val_of_index_zero win0_1 t a (by match a with | ⟨0, _⟩ => rfl | ⟨1, _⟩ => rfl) i))

/-- So are the first mixer's columns. -/
theorem blk_ws : (iblk m c 2 t : Vec Ideal S1024x2304 .bf16) = V m c main_v1 := by
  funext i
  unfold iblk
  rw [View.read_apply]
  exact congrArg (V m c main_v1) (funext fun a => Fin.ext (Pipeline.Window.rect_emb_val_of_index_zero win0_2 t a (by match a with | ⟨0, _⟩ => rfl | ⟨1, _⟩ => rfl) i))

/-- So are the second's. -/
theorem blk_wm : (iblk m c 3 t : Vec Ideal S1024x1024 .bf16) = V m c main_v3 := by
  funext i
  unfold iblk
  rw [View.read_apply]
  exact congrArg (V m c main_v3) (funext fun a => Fin.ext (Pipeline.Window.rect_emb_val_of_index_zero win0_3 t a (by match a with | ⟨0, _⟩ => rfl | ⟨1, _⟩ => rfl) i))

/-- So are the third's. -/
theorem blk_wr : (iblk m c 4 t : Vec Ideal S1024x1792 .bf16) = V m c main_v5 := by
  funext i
  unfold iblk
  rw [View.read_apply]
  exact congrArg (V m c main_v5) (funext fun a => Fin.ext (Pipeline.Window.rect_emb_val_of_index_zero win0_4 t a (by match a with | ⟨0, _⟩ => rfl | ⟨1, _⟩ => rfl) i))

/-- So are the few columns. -/
theorem blk_sm : (iblk m c 5 t : Vec Ideal S1024x128 .bf16) = V m c main_v10 := by
  funext i
  unfold iblk
  rw [View.read_apply]
  exact congrArg (V m c main_v10) (funext fun a => Fin.ext (Pipeline.Window.rect_emb_val_of_index_zero win0_5 t a (by match a with | ⟨0, _⟩ => rfl | ⟨1, _⟩ => rfl) i))

/-- The point's normalised tokens. -/
theorem h_at (l : Fin 256) (k : Fin 1024) : k0_pay1 (iblk m c 0 t) (iblk m c 1 t) (ix2 l k) = normRow (xK m c (tok t l)) (gK m c) k := by
  refine (pay1_at (iblk m c 0 t) (iblk m c 1 t) l k).trans ?_
  exact congrArg₂ (fun x g => normRow x g k) (funext fun r => blk_x m c t l r) (funext fun r => (congrFun (blk_g m c t) (ix2 0 r)).trans (V_g m c r))

end Cert.InprojIdeal.Value
-- ==== Proof.InpArr.lean ====
/-
  The input projection's call: its four result arrays, one token at a time.
-/
module

public import proofs.«01_k».proof.Proof.InpBlk
public import proofs.«01_k».proof.Proof.Dense
public import Idealize.ShloMosaic.Lib.Pointwise
public import Idealize.ShloMosaic.Lib.Pipeline.ValueKit.Acc
public import Idealize.ShloMosaic.Lib.StableHlo.ReadAt

@[expose] public section
set_option maxRecDepth 16384
noncomputable section
open Idealize.ShloMosaic Idealize.ShloMosaic.TcCoe Idealize.SL.Sem
namespace Cert.InprojIdeal.Value
open Cert.InprojIdeal Cert.InprojIdeal.Gen Cert.Dense

variable (m : (ℓ : Loc nD τ sig) → Buf (Elt Ideal) ℓ) (c : Dev nD)

/-- The point that writes a token back, and the token's row in its block. -/
def pt (n : Fin 32768) : Fin cfg0.N := ⟨n.val / 256, by rw [show cfg0.N = 128 from N_0]; omega⟩
def rowOf (n : Fin 32768) : Fin 256 := ⟨n.val % 256, Nat.mod_lt _ (by omega)⟩

/-- That row is the token. -/
theorem tok_pt (n : Fin 32768) : tok (pt n) (rowOf n) = n := Fin.ext (by show n.val / 256 * 256 + n.val % 256 = n.val; omega)

/-- The first mixer's columns. -/
theorem arr6_at (n : Fin 32768) (j : Fin 2304) : ((dats m 0 c).arrAt 6 cfg0.N : Vec Ideal S32768x2304 .f32) (ix2 n j)
    = proj (xK m c n) (gK m c) (wK m c) ⟨j.val, by omega⟩ := by
  have e : out0_6 (iblk m c 0 (pt n)) (iblk m c 1 (pt n)) (iblk m c 2 (pt n)) (iblk m c 3 (pt n)) (iblk m c 4 (pt n)) (iblk m c 5 (pt n))
      = k0_pay2 (iblk m c 0 (pt n)) (iblk m c 1 (pt n)) (iblk m c 2 (pt n)) := by
    frame_out
  have hb := congrFun (blocks6 m c (pt n) (flush0_6 _)) (ix2 (rowOf n) j)
  rw [View.read_apply, flushed6, e] at hb
  obtain ⟨-, ⟨h0, h1⟩, -⟩ := index_tok (pt n)
  refine Eq.trans (congrArg ((dats m 0 c).arrAt 6 cfg0.N) (funext fun a => Fin.ext ?_)) (hb.trans ((pay2_at (iblk m c 0 (pt n)) (iblk m c 1 (pt n)) (iblk m c 2 (pt n)) (rowOf n) j).trans ?_))
  · match a with
    | ⟨0, _⟩ => show n.val = win0_6.index (pt n) 0 * 256 + 1 * (n.val % 256); rw [h0]; show n.val = n.val / 256 * 256 + 1 * (n.val % 256); omega
    | ⟨1, _⟩ => show j.val = win0_6.index (pt n) 1 * 2304 + 1 * j.val; omega
  unfold proj
  refine Finset.sum_congr rfl fun k _ => congrArg₂ (· * ·) ?_ ((congrFun (blk_ws m c (pt n)) (ix2 k j)).trans (V_ws m c k j))
  rw [h_at m c (pt n) (rowOf n) k, tok_pt]

/-- The second's. -/
theorem arr7_at (n : Fin 32768) (j : Fin 1024) : ((dats m 0 c).arrAt 7 cfg0.N : Vec Ideal S32768x1024 .f32) (ix2 n j)
    = proj (xK m c n) (gK m c) (wK m c) ⟨2320 + j.val, by omega⟩ := by
  have e : out0_7 (iblk m c 0 (pt n)) (iblk m c 1 (pt n)) (iblk m c 2 (pt n)) (iblk m c 3 (pt n)) (iblk m c 4 (pt n)) (iblk m c 5 (pt n))
      = k0_pay3 (iblk m c 0 (pt n)) (iblk m c 1 (pt n)) (iblk m c 3 (pt n)) := by
    frame_out
  have hb := congrFun (blocks7 m c (pt n) (flush0_7 _)) (ix2 (rowOf n) j)
  rw [View.read_apply, flushed7, e] at hb
  obtain ⟨-, -, ⟨h0, h1⟩, -⟩ := index_tok (pt n)
  refine Eq.trans (congrArg ((dats m 0 c).arrAt 7 cfg0.N) (funext fun a => Fin.ext ?_)) (hb.trans ((pay3_at (iblk m c 0 (pt n)) (iblk m c 1 (pt n)) (iblk m c 3 (pt n)) (rowOf n) j).trans ?_))
  · match a with
    | ⟨0, _⟩ => show n.val = win0_7.index (pt n) 0 * 256 + 1 * (n.val % 256); rw [h0]; show n.val = n.val / 256 * 256 + 1 * (n.val % 256); omega
    | ⟨1, _⟩ => show j.val = win0_7.index (pt n) 1 * 1024 + 1 * j.val; omega
  unfold proj
  refine Finset.sum_congr rfl fun k _ => congrArg₂ (· * ·) ?_ ((congrFun (blk_wm m c (pt n)) (ix2 k j)).trans (V_wm m c k j))
  rw [h_at m c (pt n) (rowOf n) k, tok_pt]

/-- The third's. -/
theorem arr8_at (n : Fin 32768) (j : Fin 1792) : ((dats m 0 c).arrAt 8 cfg0.N : Vec Ideal S32768x1792 .f32) (ix2 n j)
    = proj (xK m c n) (gK m c) (wK m c) ⟨3352 + j.val, by omega⟩ := by
  have e : out0_8 (iblk m c 0 (pt n)) (iblk m c 1 (pt n)) (iblk m c 2 (pt n)) (iblk m c 3 (pt n)) (iblk m c 4 (pt n)) (iblk m c 5 (pt n))
      = k0_pay4 (iblk m c 0 (pt n)) (iblk m c 1 (pt n)) (iblk m c 4 (pt n)) := by
    frame_out
  have hb := congrFun (blocks8 m c (pt n) (flush0_8 _)) (ix2 (rowOf n) j)
  rw [View.read_apply, flushed8, e] at hb
  obtain ⟨-, -, -, ⟨h0, h1⟩, -⟩ := index_tok (pt n)
  refine Eq.trans (congrArg ((dats m 0 c).arrAt 8 cfg0.N) (funext fun a => Fin.ext ?_)) (hb.trans ((pay4_at (iblk m c 0 (pt n)) (iblk m c 1 (pt n)) (iblk m c 4 (pt n)) (rowOf n) j).trans ?_))
  · match a with
    | ⟨0, _⟩ => show n.val = win0_8.index (pt n) 0 * 256 + 1 * (n.val % 256); rw [h0]; show n.val = n.val / 256 * 256 + 1 * (n.val % 256); omega
    | ⟨1, _⟩ => show j.val = win0_8.index (pt n) 1 * 1792 + 1 * j.val; omega
  unfold proj
  refine Finset.sum_congr rfl fun k _ => congrArg₂ (· * ·) ?_ ((congrFun (blk_wr m c (pt n)) (ix2 k j)).trans (V_wr m c k j))
  rw [h_at m c (pt n) (rowOf n) k, tok_pt]

/-- The few columns. -/
theorem arr9_at (n : Fin 32768) (j : Fin 128) : ((dats m 0 c).arrAt 9 cfg0.N : Vec Ideal S32768x128 .f32) (ix2 n j)
    = small (xK m c n) (gK m c) (wK m c) j := by
  have e : out0_9 (iblk m c 0 (pt n)) (iblk m c 1 (pt n)) (iblk m c 2 (pt n)) (iblk m c 3 (pt n)) (iblk m c 4 (pt n)) (iblk m c 5 (pt n))
      = k0_pay5 (iblk m c 0 (pt n)) (iblk m c 1 (pt n)) (iblk m c 5 (pt n)) := by
    frame_out
  have hb := congrFun (blocks9 m c (pt n) (flush0_9 _)) (ix2 (rowOf n) j)
  rw [View.read_apply, flushed9, e] at hb
  obtain ⟨-, -, -, -, h0, h1⟩ := index_tok (pt n)
  refine Eq.trans (congrArg ((dats m 0 c).arrAt 9 cfg0.N) (funext fun a => Fin.ext ?_)) (hb.trans ((pay5_at (iblk m c 0 (pt n)) (iblk m c 1 (pt n)) (iblk m c 5 (pt n)) (rowOf n) j).trans ?_))
  · match a with
    | ⟨0, _⟩ => show n.val = win0_9.index (pt n) 0 * 256 + 1 * (n.val % 256); rw [h0]; show n.val = n.val / 256 * 256 + 1 * (n.val % 256); omega
    | ⟨1, _⟩ => show j.val = win0_9.index (pt n) 1 * 128 + 1 * j.val; omega
  rw [← small_eq]
  refine Finset.sum_congr rfl fun k _ => congrArg₂ (· * ·) ?_ ((congrFun (blk_sm m c (pt n)) (ix2 k j)).trans (V_sm m c k j))
  rw [h_at m c (pt n) (rowOf n) k, tok_pt]

end Cert.InprojIdeal.Value
-- ==== Proof.InpRef.lean ====
/-
  The input projection reference's results.
-/
module

public import proofs.«01_k».proof.Proof.Gen.InprojRefIdeal.Run
public import proofs.«01_k».proof.Proof.Dense
public import Idealize.ShloMosaic.Lib.Pointwise

@[expose] public section
set_option maxRecDepth 16384
noncomputable section
open Idealize.ShloMosaic Idealize.ShloMosaic.TcCoe Idealize.SL.Sem
namespace Cert.InprojRefIdeal.Value
open Cert.InprojRefIdeal Cert.InprojRefIdeal.Gen Cert.Dense

/-- A projected column of the reference. -/
def col (x : Vec Ideal S32768x1024 .f32) (g : Vec Ideal S1024 .f32) (w : Vec Ideal S1024x5144 .f32) (n : Fin 32768) (j : Fin 5144) : EReal :=
  proj (fun r => x (ix2 n r)) (fun r => g (ix1 r)) (fun k j => w (ix2 k j)) j

/-- The reference's four result arrays. -/
def res0 (x : Vec Ideal S32768x1024 .f32) (g : Vec Ideal S1024 .f32) (w : Vec Ideal S1024x5144 .f32) : Vec Ideal S32768x2304 .f32 := fun i =>
  col x g w (i 0) ⟨(i 1).val, Nat.lt_trans (i 1).isLt (show 2304 < 5144 by omega)⟩
def res1 (x : Vec Ideal S32768x1024 .f32) (g : Vec Ideal S1024 .f32) (w : Vec Ideal S1024x5144 .f32) : Vec Ideal S32768x1024 .f32 := fun i =>
  col x g w (i 0) ⟨2320 + (i 1).val, by have : (i 1).val < 1024 := (i 1).isLt; omega⟩
def res2 (x : Vec Ideal S32768x1024 .f32) (g : Vec Ideal S1024 .f32) (w : Vec Ideal S1024x5144 .f32) : Vec Ideal S32768x1792 .f32 := fun i =>
  col x g w (i 0) ⟨3352 + (i 1).val, by have : (i 1).val < 1792 := (i 1).isLt; omega⟩
def res3 (x : Vec Ideal S32768x1024 .f32) (g : Vec Ideal S1024 .f32) (w : Vec Ideal S1024x5144 .f32) : Vec Ideal S32768x128 .f32 := fun i =>
  small (fun r => x (ix2 (i 0) r)) (fun r => g (ix1 r)) (fun k j => w (ix2 k j)) (i 1)

/-- The reference run leaves those arrays, and its arguments. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = res0 (m ((c.tc : Thread nD τ).loc main_arg0)) (m ((c.tc : Thread nD τ).loc main_arg1)) (m ((c.tc : Thread nD τ).loc main_arg2))
      ∧ r.2.mem ((c.tc : Thread nD τ).loc main_v19) = res1 (m ((c.tc : Thread nD τ).loc main_arg0)) (m ((c.tc : Thread nD τ).loc main_arg1)) (m ((c.tc : Thread nD τ).loc main_arg2))
      ∧ r.2.mem ((c.tc : Thread nD τ).loc main_v16) = res2 (m ((c.tc : Thread nD τ).loc main_arg0)) (m ((c.tc : Thread nD τ).loc main_arg1)) (m ((c.tc : Thread nD τ).loc main_arg2))
      ∧ r.2.mem ((c.tc : Thread nD τ).loc main_v22) = res3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2.1.trans ?_, (h c).2.2.2.2⟩) (run m ρ)
  all_goals
    clear h
    generalize (m ((c.tc : Thread nD τ).loc main_arg0)) = x
    generalize (m ((c.tc : Thread nD τ).loc main_arg1)) = g
    generalize (m ((c.tc : Thread nD τ).loc main_arg2)) = w
    funext i
  · obtain ⟨n, j, rfl⟩ : ∃ (n : Fin 32768) (j : Fin 2304), i = ix2 n j := ⟨i 0, i 1, ValueIdx.eq_ix2 i⟩
    pointwise
    rfl
  · obtain ⟨n, j, rfl⟩ : ∃ (n : Fin 32768) (j : Fin 1024), i = ix2 n j := ⟨i 0, i 1, ValueIdx.eq_ix2 i⟩
    pointwise
    rfl
  · obtain ⟨n, j, rfl⟩ : ∃ (n : Fin 32768) (j : Fin 1792), i = ix2 n j := ⟨i 0, i 1, ValueIdx.eq_ix2 i⟩
    pointwise
    rfl
  · obtain ⟨n, j, rfl⟩ : ∃ (n : Fin 32768) (j : Fin 128), i = ix2 n j := ⟨i 0, i 1, ValueIdx.eq_ix2 i⟩
    pointwise
    show _ = small _ _ _ j
    unfold small
    by_cases h : j.val < 16
    · rw [dif_pos (show j.val < 24 by omega), dif_pos h, if_pos h]
      rfl
    rw [if_neg h]
    by_cases h' : j.val < 24
    · rw [dif_pos h', dif_neg h, if_pos h']
      refine Finset.sum_congr rfl fun k _ => congrArg₂ (· * ·) rfl ?_
      exact congrArg (fun q => w (ix2 k q)) (Fin.ext (by show 2320 + (1024 + (j.val - 16)) = 3328 + j.val; omega))
    · rw [dif_neg h', if_neg h']
      show (((0#32 : BitVec 32).toInt : ℝ) : EReal) = 0
      simp

end Cert.InprojRefIdeal.Value
-- ==== Proof.OutpK.lean ====
/-
  The output projection's call: its result array, one token at a time.
-/
module

public import proofs.«01_k».proof.Proof.Gen.OutprojIdeal.Value
public import proofs.«01_k».proof.Proof.Dense
public import Idealize.ShloMosaic.Lib.Pointwise
public import Idealize.ShloMosaic.Lib.Pipeline.ValueKit.Acc
public import Idealize.ShloMosaic.Lib.StableHlo.ReadAt

@[expose] public section
set_option maxRecDepth 16384
noncomputable section
open Idealize.ShloMosaic Idealize.ShloMosaic.TcCoe Idealize.SL.Sem
namespace Cert.OutprojIdeal.Value
open Cert.OutprojIdeal Cert.OutprojIdeal.Gen Cert.Dense

/-- The output block, at an index. -/
theorem pay1_at (x ys : Vec Ideal S512x1024 .f32) (ws : Vec Ideal S1024x1024 .bf16) (ym : Vec Ideal S512x512 .f32) (wm : Vec Ideal S512x1024 .bf16)
    (yr : Vec Ideal S512x512 .f32) (wr : Vec Ideal S512x1024 .bf16) (l : Fin 512) (j : Fin 1024) :
    k0_pay1 x ys ws ym wm yr wr (ix2 l j) = x (ix2 l j) + (∑ k : Fin 1024, ys (ix2 l k) * ws (ix2 k j))
      + (∑ k : Fin 512, ym (ix2 l k) * wm (ix2 k j)) + ∑ k : Fin 512, yr (ix2 l k) * wr (ix2 k j) := by
  unfold k0_pay1
  pointwise

variable (m : (ℓ : Loc nD τ sig) → Buf (Elt Ideal) ℓ) (c : Dev nD)

/-- The call's tokens, the mixers' results, and the weights. -/
def xK (n : Fin 32768) (j : Fin 1024) : EReal := (m ((c : Thread nD τ).loc main_arg0) : Vec Ideal S32768x1024 .f32) (ix2 n j)
def ysK (n : Fin 32768) (j : Fin 1024) : EReal := (m ((c : Thread nD τ).loc main_arg1) : Vec Ideal S32768x1024 .f32) (ix2 n j)
def ymK (n : Fin 32768) (j : Fin 512) : EReal := (m ((c : Thread nD τ).loc main_arg2) : Vec Ideal S32768x512 .f32) (ix2 n j)
def yrK (n : Fin 32768) (j : Fin 512) : EReal := (m ((c : Thread nD τ).loc main_arg3) : Vec Ideal S32768x512 .f32) (ix2 n j)
def wK (k : Fin 2048) (j : Fin 1024) : EReal := (m ((c : Thread nD τ).loc main_arg4) : Vec Ideal S2048x1024 .f32) (ix2 k j)

/-- The rows of the weights that meet the first mixer's channels. -/
theorem V_ws (k : Fin 1024) (j : Fin 1024) : (V m c main_v1 : Vec Ideal S1024x1024 .bf16) (ix2 k j) = wK m c ⟨k.val, by omega⟩ j := by
  unfold V
  after_reads_at
  rfl

/-- Those that meet the second's. -/
theorem V_wm (k : Fin 512) (j : Fin 1024) : (V m c main_v3 : Vec Ideal S512x1024 .bf16) (ix2 k j) = wK m c ⟨1024 + k.val, by omega⟩ j := by
  unfold V
  after_reads_at
  rfl

/-- Those that meet the third's. -/
theorem V_wr (k : Fin 512) (j : Fin 1024) : (V m c main_v5 : Vec Ideal S512x1024 .bf16) (ix2 k j) = wK m c ⟨1536 + k.val, by omega⟩ j := by
  unfold V
  after_reads_at
  rfl

/-- Every token window is at the point's row block. -/
theorem index_tok : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_7.index t (0 : Fin 2) = t.val ∧ win0_7.index t (1 : Fin 2) = 0) := by
  decide +kernel

variable (t : Fin cfg0.N)

/-- A row of the point's block is a token. -/
def tok (l : Fin 512) : Fin 32768 := ⟨t.val * 512 + l.val, by have : t.val < 64 := t.isLt; omega⟩

/-- The point's tokens. -/
theorem blk_x (l : Fin 512) (j : Fin 1024) : (iblk m c 0 t : Vec Ideal S512x1024 .f32) (ix2 l j) = xK m c (tok t l) j := by
  unfold xK
  rw [← V_main_arg0 m c]
  obtain ⟨⟨h0, h1⟩, -⟩ := index_tok t
  unfold iblk
  rw [View.read_apply]
  show V m c main_arg0 _ = V m c main_arg0 _
  refine congrArg (V m c main_arg0) ?_
  funext a
  apply Fin.ext
  match a with
  | ⟨0, _⟩ => show win0_0.index t 0 * 512 + 1 * l.val = t.val * 512 + l.val; omega
  | ⟨1, _⟩ => show win0_0.index t 1 * 1024 + 1 * j.val = j.val; omega

/-- The first mixer's results at them. -/
theorem blk_ys (l : Fin 512) (j : Fin 1024) : (iblk m c 1 t : Vec Ideal S512x1024 .f32) (ix2 l j) = ysK m c (tok t l) j := by
  unfold ysK
  rw [← V_main_arg1 m c]
  obtain ⟨-, ⟨h0, h1⟩, -⟩ := index_tok t
  unfold iblk
  rw [View.read_apply]
  show V m c main_arg1 _ = V m c main_arg1 _
  refine congrArg (V m c main_arg1) ?_
  funext a
  apply Fin.ext
  match a with
  | ⟨0, _⟩ => show win0_1.index t 0 * 512 + 1 * l.val = t.val * 512 + l.val; omega
  | ⟨1, _⟩ => show win0_1.index t 1 * 1024 + 1 * j.val = j.val; omega

/-- The second's. -/
theorem blk_ym (l : Fin 512) (j : Fin 512) : (iblk m c 2 t : Vec Ideal S512x512 .f32) (ix2 l j) = ymK m c (tok t l) j := by
  unfold ymK
  rw [← V_main_arg2 m c]
  obtain ⟨-, -, ⟨h0, h1⟩, -⟩ := index_tok t
  unfold iblk
  rw [View.read_apply]
  show V m c main_arg2 _ = V m c main_arg2 _
  refine congrArg (V m c main_arg2) ?_
  funext a
  apply Fin.ext
  match a with
  | ⟨0, _⟩ => show win0_2.index t 0 * 512 + 1 * l.val = t.val * 512 + l.val; omega
  | ⟨1, _⟩ => show win0_2.index t 1 * 512 + 1 * j.val = j.val; omega

/-- The third's. -/
theorem blk_yr (l : Fin 512) (j : Fin 512) : (iblk m c 3 t : Vec Ideal S512x512 .f32) (ix2 l j) = yrK m c (tok t l) j := by
  unfold yrK
  rw [← V_main_arg3 m c]
  obtain ⟨-, -, -, ⟨h0, h1⟩, -⟩ := index_tok t
  unfold iblk
  rw [View.read_apply]
  show V m c main_arg3 _ = V m c main_arg3 _
  refine congrArg (V m c main_arg3) ?_
  funext a
  apply Fin.ext
  match a with
  | ⟨0, _⟩ => show win0_3.index t 0 * 512 + 1 * l.val = t.val * 512 + l.val; omega
  | ⟨1, _⟩ => show win0_3.index t 1 * 512 + 1 * j.val = j.val; omega

/-- The weights' parts are one window each. -/
theorem blk_ws : (iblk m c 4 t : Vec Ideal S1024x1024 .bf16) = V m c main_v1 := by
  funext i
  unfold iblk
  rw [View.read_apply]
  exact congrArg (V m c main_v1) (funext fun a => Fin.ext (Pipeline.Window.rect_emb_val_of_index_zero win0_4 t a (by match a with | ⟨0, _⟩ => rfl | ⟨1, _⟩ => rfl) i))

theorem blk_wm : (iblk m c 5 t : Vec Ideal S512x1024 .bf16) = V m c main_v3 := by
  funext i
  unfold iblk
  rw [View.read_apply]
  exact congrArg (V m c main_v3) (funext fun a => Fin.ext (Pipeline.Window.rect_emb_val_of_index_zero win0_5 t a (by match a with | ⟨0, _⟩ => rfl | ⟨1, _⟩ => rfl) i))

theorem blk_wr : (iblk m c 6 t : Vec Ideal S512x1024 .bf16) = V m c main_v5 := by
  funext i
  unfold iblk
  rw [View.read_apply]
  exact congrArg (V m c main_v5) (funext fun a => Fin.ext (Pipeline.Window.rect_emb_val_of_index_zero win0_6 t a (by match a with | ⟨0, _⟩ => rfl | ⟨1, _⟩ => rfl) i))

/-- What a point writes back. -/
theorem flushed_at (l : Fin 512) (j : Fin 1024) : ((dats m 0 c).flushed 7 t : Vec Ideal S512x1024 .f32) (ix2 l j)
    = outp (xK m c (tok t l)) (ysK m c (tok t l)) (ymK m c (tok t l)) (yrK m c (tok t l)) (wK m c) j := by
  have e : out0_7 (iblk m c 0 t) (iblk m c 1 t) (iblk m c 2 t) (iblk m c 3 t) (iblk m c 4 t) (iblk m c 5 t) (iblk m c 6 t)
      = k0_pay1 (iblk m c 0 t) (iblk m c 1 t) (iblk m c 4 t) (iblk m c 2 t) (iblk m c 5 t) (iblk m c 3 t) (iblk m c 6 t) := by
    frame_out
  rw [flushed7, e]
  refine (pay1_at (iblk m c 0 t) (iblk m c 1 t) (iblk m c 4 t) (iblk m c 2 t) (iblk m c 5 t) (iblk m c 3 t) (iblk m c 6 t) l j).trans ?_
  rw [blk_ws, blk_wm, blk_wr]
  unfold outp
  refine congrArg₂ (· + ·) (congrArg₂ (· + ·) (congrArg₂ (· + ·) (blk_x m c t l j) ?_) ?_) ?_
  · exact Finset.sum_congr rfl fun k _ => congrArg₂ (· * ·) (blk_ys m c t l k) (V_ws m c k j)
  · exact Finset.sum_congr rfl fun k _ => congrArg₂ (· * ·) (blk_ym m c t l k) (V_wm m c k j)
  · exact Finset.sum_congr rfl fun k _ => congrArg₂ (· * ·) (blk_yr m c t l k) (V_wr m c k j)

/-- The result array of the call, at an index. -/
theorem arr_at (n : Fin 32768) (j : Fin 1024) : ((dats m 0 c).arrAt 7 cfg0.N : Vec Ideal S32768x1024 .f32) (ix2 n j)
    = outp (xK m c n) (ysK m c n) (ymK m c n) (yrK m c n) (wK m c) j := by
  have ht : n.val / 512 < cfg0.N := by rw [show cfg0.N = 64 from N_0]; omega
  have hb := congrFun (blocks7 m c ⟨n.val / 512, ht⟩ (flush0_7 _)) (ix2 (⟨n.val % 512, Nat.mod_lt _ (by omega)⟩ : Fin 512) j)
  rw [View.read_apply] at hb
  have hn : tok ⟨n.val / 512, ht⟩ ⟨n.val % 512, Nat.mod_lt _ (by omega)⟩ = n := Fin.ext (by show n.val / 512 * 512 + n.val % 512 = n.val; omega)
  have hf := flushed_at m c ⟨n.val / 512, ht⟩ ⟨n.val % 512, Nat.mod_lt _ (by omega)⟩ j
  rw [hn] at hf
  refine Eq.trans ?_ (hb.trans hf)
  obtain ⟨-, -, -, -, h0, h1⟩ := index_tok ⟨n.val / 512, ht⟩
  refine congrArg ((dats m 0 c).arrAt 7 cfg0.N) (funext fun a => Fin.ext ?_)
  match a with
  | ⟨0, _⟩ => show n.val = win0_7.index ⟨n.val / 512, ht⟩ 0 * 512 + 1 * (n.val % 512); rw [h0]; show n.val = n.val / 512 * 512 + 1 * (n.val % 512); omega
  | ⟨1, _⟩ => show j.val = win0_7.index ⟨n.val / 512, ht⟩ 1 * 1024 + 1 * j.val; omega

end Cert.OutprojIdeal.Value
-- ==== Proof.OutpR.lean ====
/-
  The output projection reference's result.
-/
module

public import proofs.«01_k».proof.Proof.Gen.OutprojRefIdeal.Run
public import proofs.«01_k».proof.Proof.Dense
public import Idealize.ShloMosaic.Lib.Pointwise

@[expose] public section
set_option maxRecDepth 16384
noncomputable section
open Idealize.ShloMosaic Idealize.ShloMosaic.TcCoe Idealize.SL.Sem
namespace Cert.OutprojRefIdeal.Value
open Cert.OutprojRefIdeal Cert.OutprojRefIdeal.Gen Cert.Dense

/-- The result array of the reference. -/
def res (x ys : Vec Ideal S32768x1024 .f32) (ym yr : Vec Ideal S32768x512 .f32) (w : Vec Ideal S2048x1024 .f32) :
    Vec Ideal S32768x1024 .f32 := fun i =>
  outp (fun r => x (ix2 (i 0) r)) (fun r => ys (ix2 (i 0) r)) (fun r => ym (ix2 (i 0) r)) (fun r => yr (ix2 (i 0) r)) (fun k j => w (ix2 k j)) (i 1)

/-- The reference run leaves that array, and its arguments. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run m ρ)
  generalize (m ((c.tc : Thread nD τ).loc main_arg0)) = x
  generalize (m ((c.tc : Thread nD τ).loc main_arg1)) = ys
  generalize (m ((c.tc : Thread nD τ).loc main_arg2)) = ym
  generalize (m ((c.tc : Thread nD τ).loc main_arg3)) = yr
  generalize (m ((c.tc : Thread nD τ).loc main_arg4)) = w
  funext i
  obtain ⟨n, j, rfl⟩ : ∃ (n : Fin 32768) (j : Fin 1024), i = ix2 n j := ⟨i 0, i 1, ValueIdx.eq_ix2 i⟩
  show _ = outp (fun r => x (ix2 n r)) (fun r => ys (ix2 n r)) (fun r => ym (ix2 n r)) (fun r => yr (ix2 n r)) (fun k j => w (ix2 k j)) j
  unfold outp
  pointwise
  rw [sum_mixers, add_assoc, add_assoc]
  refine congrArg₂ (fun a b : EReal => a + b) rfl (congrArg₂ (fun a b : EReal => a + b) ?_ (congrArg₂ (fun a b : EReal => a + b) ?_ ?_))
  · refine Finset.sum_congr rfl fun k _ => congrArg (· * _) ?_
    rw [dif_pos (show k.val < 1024 from k.isLt)]
  · refine Finset.sum_congr rfl fun k _ => congrArg (· * _) ?_
    rw [dif_neg (show ¬1024 + k.val < 1024 by omega), dif_pos (show 1024 + k.val - 1024 < 512 by omega)]
    exact congrArg (fun q => ym (ix2 n q)) (Fin.ext (by show 1024 + k.val - 1024 = k.val; omega))
  · refine Finset.sum_congr rfl fun k _ => congrArg (· * _) ?_
    rw [dif_neg (show ¬1536 + k.val < 1024 by omega), dif_neg (show ¬1536 + k.val - 1024 < 512 by omega)]
    exact congrArg (fun q => yr (ix2 n q)) (Fin.ext (by show 1536 + k.val - 1024 - 512 = k.val; omega))

end Cert.OutprojRefIdeal.Value
-- ==== Proof.Calls.lean ====
/-
  The feed-forward calls and the two projections: each computes what its reference does, and each reference leaves its
  arguments and semaphores as it found them.
-/
module

public import proofs.«01_k».proof.Defs
public import proofs.«01_k».proof.Proof.Gen.Ffn
public import proofs.«01_k».proof.Proof.Gen.FfnIdeal.Value
public import proofs.«01_k».proof.Proof.Gen.FfnRefIdeal.Run
public import proofs.«01_k».proof.Proof.Gen.Last
public import proofs.«01_k».proof.Proof.Gen.LastIdeal.Value
public import proofs.«01_k».proof.Proof.Gen.LastRefIdeal.Run
public import proofs.«01_k».proof.Proof.Gen.Inproj
public import proofs.«01_k».proof.Proof.Gen.InprojIdeal.Value
public import proofs.«01_k».proof.Proof.Gen.InprojRefIdeal.Run
public import proofs.«01_k».proof.Proof.Gen.Outproj
public import proofs.«01_k».proof.Proof.Gen.OutprojIdeal.Value
public import proofs.«01_k».proof.Proof.Gen.OutprojRefIdeal.Run
public import proofs.«01_k».proof.Proof.FfnFold
public import proofs.«01_k».proof.Proof.FfnRef
public import proofs.«01_k».proof.Proof.LastFold
public import proofs.«01_k».proof.Proof.LastRef
public import proofs.«01_k».proof.Proof.InpArr
public import proofs.«01_k».proof.Proof.InpRef
public import proofs.«01_k».proof.Proof.OutpK
public import proofs.«01_k».proof.Proof.OutpR
public import Idealize.ShloMosaic.Adequacy
public import Idealize.ShloMosaic.Init

@[expose] public section
noncomputable section
open Idealize.ShloMosaic Idealize.SL.Sem
namespace Cert.Proof

/-- An array of rows is given by its entries. -/
theorem ext_rows {a b : ℕ} {f g : (⟨2, ![a, b]⟩ : Shape).Idx → EReal} (h : ∀ (n : Fin a) (j : Fin b), f (ix2 n j) = g (ix2 n j)) : f = g :=
  funext fun i => by rw [ValueIdx.eq_ix2 i]; exact h _ _

/-- The feed-forward reference runs, leaves its arguments as they were, and ends with every semaphore at zero. -/
theorem frame_ffnRef : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run_res m ρ)

/-- So does the last one's. -/
theorem frame_lastRef : Cert.quiescent_LastRefIdeal := fun m ρ _ =>
  (θ_run Cert.LastRefIdeal.defs _ _).mono (fun r h => ⟨fun c => (h c).2, sem_eq_zero_of_no_sems (by decide) r.2⟩) (Cert.LastRefIdeal.Value.run_res m ρ)

/-- So does the input projection's. -/
theorem frame_inprojRef : Cert.quiescent_InprojRefIdeal := fun m ρ _ =>
  (θ_run Cert.InprojRefIdeal.defs _ _).mono (fun r h => ⟨fun c => (h c).2.2.2.2, sem_eq_zero_of_no_sems (by decide) r.2⟩) (Cert.InprojRefIdeal.Value.run_res m ρ)

/-- So does the output projection's. -/
theorem frame_outprojRef : Cert.quiescent_OutprojRefIdeal := fun m ρ _ =>
  (θ_run Cert.OutprojRefIdeal.defs _ _).mono (fun r h => ⟨fun c => (h c).2, sem_eq_zero_of_no_sems (by decide) r.2⟩) (Cert.OutprojRefIdeal.Value.run_res m ρ)

/-- A feed-forward call computes what its reference does. -/
theorem algebraic_ffn : Cert.algebraic_FfnIdeal_FfnRefIdeal := by
  intro m g m' g' _ hargs
  refine ⟨Cert.FfnIdeal.Value.G6 m, Cert.FfnIdeal.Value.run m g, ?_⟩
  refine (θ_run Cert.FfnRefIdeal.defs _ _).mono (fun r h c => ?_) (Cert.FfnRefIdeal.Value.run_res m' g')
  obtain ⟨h0, h1, h2, h3, -⟩ := hargs c
  refine ⟨(h c).1.trans ?_, (h c).2⟩
  rw [h0, h1, h2, h3]
  refine ext_rows (a := 32768) (b := 1024) fun n j => (Eq.trans ?_ (Cert.FfnIdeal.Value.G6_at m c n j).symm)
  have e : Cert.FfnIdeal.Value.xK m c n.val = fun r => (m ((c.tc : Thread Cert.FfnIdeal.nD Cert.FfnIdeal.τ).loc Cert.FfnIdeal.main_arg0) : Vec Ideal Cert.FfnIdeal.S32768x1024 .f32) (ix2 n r) :=
    funext fun r => congrArg (fun q => (m ((c.tc : Thread Cert.FfnIdeal.nD Cert.FfnIdeal.τ).loc Cert.FfnIdeal.main_arg0) : Vec Ideal Cert.FfnIdeal.S32768x1024 .f32) (ix2 q r)) (Fin.ext (Nat.mod_eq_of_lt n.isLt))
  rw [e]
  rfl

/-- The last feed-forward call, with the norm after it, computes what its reference does. -/
theorem algebraic_last : Cert.algebraic_LastIdeal_LastRefIdeal := by
  intro m g m' g' _ hargs
  refine ⟨Cert.LastIdeal.Value.G6 m, Cert.LastIdeal.Value.run m g, ?_⟩
  refine (θ_run Cert.LastRefIdeal.defs _ _).mono (fun r h c => ?_) (Cert.LastRefIdeal.Value.run_res m' g')
  obtain ⟨h0, h1, h2, h3, h4⟩ := hargs c
  refine ⟨(h c).1.trans ?_, (h c).2⟩
  rw [h0, h1, h2, h3, h4]
  refine ext_rows (a := 32768) (b := 1024) fun n j => (Eq.trans ?_ (Cert.LastIdeal.Value.G6_at m c n j).symm)
  have e : Cert.LastIdeal.Value.xK m c n.val = fun r => (m ((c.tc : Thread Cert.LastIdeal.nD Cert.LastIdeal.τ).loc Cert.LastIdeal.main_arg0) : Vec Ideal Cert.LastIdeal.S32768x1024 .f32) (ix2 n r) :=
    funext fun r => congrArg (fun q => (m ((c.tc : Thread Cert.LastIdeal.nD Cert.LastIdeal.τ).loc Cert.LastIdeal.main_arg0) : Vec Ideal Cert.LastIdeal.S32768x1024 .f32) (ix2 q r)) (Fin.ext (Nat.mod_eq_of_lt n.isLt))
  rw [e]
  rfl

/-- The input projection computes what its reference does, in all four results. -/
theorem algebraic_inproj : Cert.algebraic_InprojIdeal_InprojRefIdeal := by
  intro m g m' g' _ hargs
  refine ⟨fun c => (Cert.InprojIdeal.Gen.dats m 0 c).arrAt 6 Cert.InprojIdeal.cfg0.N, fun c => (Cert.InprojIdeal.Gen.dats m 0 c).arrAt 7 Cert.InprojIdeal.cfg0.N,
    fun c => (Cert.InprojIdeal.Gen.dats m 0 c).arrAt 8 Cert.InprojIdeal.cfg0.N, fun c => (Cert.InprojIdeal.Gen.dats m 0 c).arrAt 9 Cert.InprojIdeal.cfg0.N,
    Cert.InprojIdeal.Value.run_blocks m g, ?_⟩
  refine (θ_run Cert.InprojRefIdeal.defs _ _).mono (fun r h c => ?_) (Cert.InprojRefIdeal.Value.run_res m' g')
  obtain ⟨h0, h1, h2⟩ := hargs c
  refine ⟨(h c).1.trans ?_, (h c).2.1.trans ?_, (h c).2.2.1.trans ?_, (h c).2.2.2.1.trans ?_, (h c).2.2.2.2⟩ <;> rw [h0, h1, h2]
  · exact ext_rows (a := 32768) (b := 2304) fun n j => (Cert.InprojIdeal.Value.arr6_at m c n j).symm
  · exact ext_rows (a := 32768) (b := 1024) fun n j => (Cert.InprojIdeal.Value.arr7_at m c n j).symm
  · exact ext_rows (a := 32768) (b := 1792) fun n j => (Cert.InprojIdeal.Value.arr8_at m c n j).symm
  · exact ext_rows (a := 32768) (b := 128) fun n j => (Cert.InprojIdeal.Value.arr9_at m c n j).symm

/-- The output projection computes what its reference does. -/
theorem algebraic_outproj : Cert.algebraic_OutprojIdeal_OutprojRefIdeal := by
  intro m g m' g' _ hargs
  refine ⟨fun c => (Cert.OutprojIdeal.Gen.dats m 0 c).arrAt 7 Cert.OutprojIdeal.cfg0.N, Cert.OutprojIdeal.Value.run_blocks m g, ?_⟩
  refine (θ_run Cert.OutprojRefIdeal.defs _ _).mono (fun r h c => ?_) (Cert.OutprojRefIdeal.Value.run_res m' g')
  obtain ⟨h0, h1, h2, h3, h4⟩ := hargs c
  refine ⟨(h c).1.trans ?_, (h c).2⟩
  rw [h0, h1, h2, h3, h4]
  exact ext_rows (a := 32768) (b := 1024) fun n j => (Cert.OutprojIdeal.Value.arr_at m c n j).symm

end Cert.Proof
-- ==== Proof.MHost.lean ====
module

public import proofs.«01_k».proof.Proof.Gen.MlstmIdeal.Value
public import proofs.«01_k».proof.Proof.Mask
public import Idealize.ShloMosaic.Lib.Pointwise
public import Idealize.ShloMosaic.Lib.StableHlo.ReadAt
public import Idealize.ShloMosaic.Lib.Tactic.WordOmega
public import Idealize.ShloMosaic.Lib.Routing.OpsPair
public import Idealize.ShloMosaic.Lib.Routing.OpsSet

@[expose] public section
set_option maxRecDepth 16384
noncomputable section
open Idealize.ShloMosaic Idealize.ShloMosaic.TcCoe Idealize.SL.Sem
namespace Cert.MlstmIdeal.Value
open Cert.MlstmIdeal Cert.MlstmIdeal.Gen

variable (m : (ℓ : Loc nD τ sig) → Buf (Elt Ideal) ℓ) (c : Dev nD)

/-- The triangle of ones the kernel's running sums are products with. -/
theorem V_tril (l r : Fin 128) : (V m c main_v1 : Vec Ideal S128x128 .f32) (ix2 l r) = (if r ≤ l then 1 else 0 : EReal) := by
  unfold V
  after_reads_at
  have hl := l.isLt
  have hr := r.isLt
  by_cases h : r ≤ l
  · have hv : r.val ≤ l.val := h
    rw [if_pos h, show IntOp.cmpi CmpIPredicate.sge (IntOp.addi (BitVec.ofNat 32 l.val) 0#32) (BitVec.ofNat 32 r.val) = 1#1 by word_omega]
    rfl
  · have hv : ¬ r.val ≤ l.val := h
    rw [if_neg h, show IntOp.cmpi CmpIPredicate.sge (IntOp.addi (BitVec.ofNat 32 l.val) 0#32) (BitVec.ofNat 32 r.val) = 0#1 by word_omega]
    rfl

/-- The convolution's bias, as a row. -/
theorem V_cb (j : Fin 512) : (V m c main_v2 : Vec Ideal S1x512 .f32) (ix2 0 j) = (m ((c : Thread nD τ).loc main_arg3) : Vec Ideal S512 .f32) (ix1 j) := by
  unfold V
  after_reads_at

/-- The heads' query weights. -/
theorem V_wq (h : Fin 4) (d e : Fin 128) : (V m c main_v3 : Vec Ideal S4x128x128 .bf16) (ix3 h d e) = (m ((c : Thread nD τ).loc main_arg4) : Vec Ideal S4x128x128 .f32) (ix3 h d e) := by
  unfold V
  after_reads_at

/-- The heads' key weights. -/
theorem V_wk (h : Fin 4) (d e : Fin 128) : (V m c main_v4 : Vec Ideal S4x128x128 .bf16) (ix3 h d e) = (m ((c : Thread nD τ).loc main_arg5) : Vec Ideal S4x128x128 .f32) (ix3 h d e) := by
  unfold V
  after_reads_at

/-- The heads' value weights. -/
theorem V_wv (h : Fin 4) (d e : Fin 128) : (V m c main_v5 : Vec Ideal S4x128x128 .bf16) (ix3 h d e) = (m ((c : Thread nD τ).loc main_arg6) : Vec Ideal S4x128x128 .f32) (ix3 h d e) := by
  unfold V
  after_reads_at

/-- Eight values written from lane 16 of a row of 128 are found there. -/
theorem scatter_lane (x : S1x128.Idx → EReal) (idx : IVec S2 32) (h0 : idx (ix1 0) = 0#32) (h1 : idx (ix1 1) = 16#32) (u : S8.Idx → EReal) (h : Fin 8) :
    Host.scatter scatter_S1x128_S2_S8_0_0_01_0 (fun _ b => b) x idx u (ix2 0 ⟨16 + h.val, by omega⟩) = u (ix1 h) := by
  have hs : ∀ (k : S8.Idx), scatter_S1x128_S2_S8_0_0_01_0.start k idx 0 = 0 ∧ scatter_S1x128_S2_S8_0_0_01_0.start k idx 1 = 16 := by
    intro k
    constructor
    · refine (congrArg (fun j => (idx j).toInt) (a₂ := ix1 0) (funext fun a => ?_)).trans ((congrArg BitVec.toInt h0).trans rfl)
      match a with
      | ⟨0, _⟩ => rfl
    · refine (congrArg (fun j => (idx j).toInt) (a₂ := ix1 1) (funext fun a => ?_)).trans ((congrArg BitVec.toInt h1).trans rfl)
      match a with
      | ⟨0, _⟩ => rfl
  have hw : ∀ (k : S8.Idx), scatter_S1x128_S2_S8_0_0_01_0.window k 0 = 0 ∧ scatter_S1x128_S2_S8_0_0_01_0.window k 1 = (k 0).val :=
    fun k => ⟨rfl, rfl⟩
  refine Routing.scatter_set_hit _ x idx u _ _ (fun k hk => ?_) (ix1 h) ?_
  · have := (Routing.resultIdx?_eq_some _ _ _ _).1 hk 1
    rw [(hs k).2, (hw k).2] at this
    have e : k = ix1 h := by
      funext a
      match a with
      | ⟨0, _⟩ => exact Fin.ext (by have t : (16 : ℤ) + ((k 0).val : ℤ) = ((16 + h.val : ℕ) : ℤ) := this; show (k 0).val = h.val; omega)
    rw [e]
  · refine (Routing.resultIdx?_eq_some _ _ _ _).2 fun a => ?_
    match a with
    | ⟨0, _⟩ => exact (congrArg (fun z : ℤ => z + _) (hs (ix1 h)).1).trans (congrArg (fun n : ℕ => (0 : ℤ) + (n : ℤ)) (hw (ix1 h)).1)
    | ⟨1, _⟩ => exact (congrArg (fun z : ℤ => z + _) (hs (ix1 h)).2).trans ((congrArg (fun n : ℕ => (16 : ℤ) + (n : ℤ)) (hw (ix1 h)).2).trans (by show (16 : ℤ) + (h.val : ℤ) = ((16 + h.val : ℕ) : ℤ); omega))

/-- A pair of words, the first of the two. -/
theorem pair_fst (a b : IVec S1 32) (x : BitVec 32) (ha : ∀ k, a k = x) :
    concatenate S2 0 [⟨S1, a⟩, ⟨S1, b⟩] concatenates_S1_S1_S2_d0 (ix1 0) = x := by
  pointwise
  exact ha _

/-- The second. -/
theorem pair_snd (a b : IVec S1 32) (x : BitVec 32) (hb : ∀ k, b k = x) :
    concatenate S2 0 [⟨S1, a⟩, ⟨S1, b⟩] concatenates_S1_S1_S2_d0 (ix1 1) = x := by
  pointwise
  exact hb _

/-- The padded gate bias. -/
theorem V_gb (h : Fin 8) : (V m c main_v10 : Vec Ideal S1x128 .f32) (ix2 0 ⟨16 + h.val, by omega⟩) = (m ((c : Thread nD τ).loc main_arg7) : Vec Ideal S8 .f32) (ix1 h) := by
  unfold V
  after_reads_simp
  refine scatter_lane _ _ (pair_fst _ _ _ (fun k => ?_)) (pair_snd _ _ _ (fun k => ?_)) _ h
  all_goals
    after_reads_simp
    rfl

/-- The norm's weights, as a row. -/
theorem V_ng (q : Fin 512) : (V m c main_v11 : Vec Ideal S1x512 .f32) (ix2 0 q) = (m ((c : Thread nD τ).loc main_arg8) : Vec Ideal S512 .f32) (ix1 q) := by
  unfold V
  after_reads_at

end Cert.MlstmIdeal.Value
-- ==== Proof.MSpec.lean ====
/-
  The matrix-memory mixer, one chunk of 128 tokens of one sequence at a time, written over the extended reals. One head
  of a chunk is given by its queries, keys and values, the running sums of its log forget gates and its log input gates;
  what it carries from chunk to chunk is a matrix, a vector and a running maximum of log weights.
-/
module

public import proofs.«01_k».proof.Proof.Spec
public import Idealize.ShloMosaic.Lib.Pointwise

@[expose] public section

noncomputable section

open Idealize.ShloMosaic

namespace Cert.Ml

open Cert.Ssd (gate softplus tIx)

/-- One head's tokens in a chunk: queries, keys, values, running sums of log forget gates, log input gates. -/
structure Tok where
  q : Fin 128 → Fin 128 → EReal
  k : Fin 128 → Fin 128 → EReal
  v : Fin 128 → Fin 128 → EReal
  b : Fin 128 → EReal
  i : Fin 128 → EReal

/-- What one head carries from chunk to chunk: the matrix (by key entry, then value entry), the sum of keys, and the
    largest log weight so far. -/
structure St where
  C : Fin 128 → Fin 128 → EReal
  N : Fin 128 → EReal
  M : EReal

/-- Nothing carried: a sequence's start. -/
def St.zero : St := ⟨fun _ _ => 0, fun _ => 0, 0⟩

variable (T : Tok) (S : St)

/-- The log weight token `r` has at token `l`: none comes from a later token. -/
def dlog (l r : Fin 128) : EReal := if r ≤ l then T.b l - T.b r + T.i r else ⊥

/-- The largest log weight seen at token `l`. -/
def mx (l : Fin 128) : EReal := max (T.b l + S.M) (Finset.fold max ⊥ (fun r => dlog T l r) Finset.univ)

/-- The weighted products of token `l`'s query with the chunk's keys. -/
def qk (l r : Fin 128) : EReal := (∑ e : Fin 128, T.q l e * T.k r e) * Ideal.exp (dlog T l r - mx T S l)

/-- The weight at token `l` of what was carried into the chunk. -/
def wOld (l : Fin 128) : EReal := Ideal.exp (T.b l + S.M - mx T S l)

/-- The weighted values. -/
def num (l d : Fin 128) : EReal :=
  (∑ r : Fin 128, qk T S l r * T.v r d) + (∑ e : Fin 128, T.q l e * S.C e d) * wOld T S l

/-- The weights' sum. -/
def den (l : Fin 128) : EReal := (∑ r : Fin 128, qk T S l r) + (∑ e : Fin 128, T.q l e * S.N e) * wOld T S l

/-- One head's gated output. -/
def hd (o : Fin 128 → Fin 128 → EReal) (l d : Fin 128) : EReal :=
  Ideal.div (num T S l d) (max (FloatOps.absf (F := Ideal) (φ := .f32) (den T S l)) (Ideal.exp (0 - mx T S l)))
    * Ideal.logistic (o l d)

/-- The same normalised over the head's 128 lanes and scaled. -/
def res (o : Fin 128 → Fin 128 → EReal) (ng : Fin 128 → EReal) (l d : Fin 128) : EReal :=
  hd T S o l d
    * Ideal.rsqrt (Ideal.div (∑ e : Fin 128, hd T S o l e * hd T S o l e) (Ideal.ofBits FTy.f32 1124073472#32)
        + Ideal.ofBits FTy.f32 897988541#32)
    * ng d

/-- The log weight token `r` has at the chunk's end. -/
def endLog (r : Fin 128) : EReal := T.b 127 - T.b r + T.i r

/-- The largest of them. -/
def mLoc : EReal := Finset.fold max ⊥ (fun r => endLog T r) Finset.univ

/-- The largest log weight leaving the chunk. -/
def mNew : EReal := max (T.b 127 + S.M) (mLoc T)

/-- A key entry weighted as at the chunk's end. -/
def kw (r e : Fin 128) : EReal := T.k r e * Ideal.exp (endLog T r - mLoc T)

/-- What a chunk leaves for the next. -/
def next : St where
  C e d := S.C e d * Ideal.exp (T.b 127 + S.M - mNew T S) + (∑ r : Fin 128, kw T r e * T.v r d) * Ideal.exp (mLoc T - mNew T S)
  N e := S.N e * Ideal.exp (T.b 127 + S.M - mNew T S) + (∑ r : Fin 128, kw T r e) * Ideal.exp (mLoc T - mNew T S)
  M := mNew T S

/-- The head of a lane. -/
def hOf (q : Fin 512) : Fin 4 := ⟨q.val / 128, by omega⟩

/-- The lane's place in its head. -/
def dOf (q : Fin 512) : Fin 128 := ⟨q.val % 128, by omega⟩

/-- The lane of a place in a head. -/
def qOf (h : Fin 4) (d : Fin 128) : Fin 512 := ⟨h.val * 128 + d.val, by omega⟩

/-- The head of a lane given by its head's first lane. -/
theorem hOf_add (o : ℕ) (p : Fin 128) (h : o + p.val < 512) (ho : o % 128 = 0) :
    hOf ⟨o + p.val, h⟩ = ⟨o / 128, by omega⟩ := Fin.ext (by simp only [hOf]; omega)

/-- The place of a lane given by its head's first lane. -/
theorem dOf_add (o : ℕ) (p : Fin 128) (h : o + p.val < 512) (ho : o % 128 = 0) : dOf ⟨o + p.val, h⟩ = p :=
  Fin.ext (by simp only [dOf]; omega)

/-- The arrays a call is given: the projected inputs and their small columns, the convolution's weights and bias, the
    heads' query, key and value weights, the gates' bias and the norm's weights. -/
structure Data where
  u : Fin 2 → Fin 16384 → Fin 1024 → EReal
  sm : Fin 2 → Fin 16384 → Fin 128 → EReal
  w : Fin 4 → Fin 512 → EReal
  cb : Fin 512 → EReal
  wq : Fin 4 → Fin 128 → Fin 128 → EReal
  wk : Fin 4 → Fin 128 → Fin 128 → EReal
  wv : Fin 4 → Fin 128 → Fin 128 → EReal
  gb : Fin 8 → EReal
  ng : Fin 512 → EReal

namespace Data
variable (D : Data)

/-- The channels' input `3 - k` steps before step `t`, zero before the sequence's start. -/
def lag (b : Fin 2) (t : Fin 16384) (k : ℕ) (j : Fin 512) : EReal :=
  if t.val + k < 3 then 0 else D.u b ⟨(t.val + k - 3) % 16384, Nat.mod_lt _ (by omega)⟩ ⟨j.val, by omega⟩

/-- The causal convolution over four steps, with its bias. -/
def conv (b : Fin 2) (t : Fin 16384) (j : Fin 512) : EReal :=
  D.cb j + D.u b t ⟨j.val, by omega⟩ * D.w 3 j + D.lag b t 0 j * D.w 0 j + D.lag b t 1 j * D.w 1 j
    + D.lag b t 2 j * D.w 2 j

/-- The gated channels of chunk `c`. -/
def xc (b : Fin 2) (c : ℕ) (l : Fin 128) (j : Fin 512) : EReal := gate (D.conv b (tIx c l) j)

/-- The eight gates of chunk `c`: the heads' input gates, then their forget gates. -/
def g (b : Fin 2) (c : ℕ) (l : Fin 128) (h : Fin 8) : EReal := D.sm b (tIx c l) ⟨16 + h.val, by omega⟩ + D.gb h

/-- The logarithm of the forget gate. -/
def lf (b : Fin 2) (c : ℕ) (l : Fin 128) (h : Fin 4) : EReal := 0 - softplus (0 - D.g b c l ⟨4 + h.val, by omega⟩)

/-- One head's tokens in chunk `c`. -/
def tok (b : Fin 2) (c : ℕ) (h : Fin 4) : Tok where
  q l e := ∑ d : Fin 128, D.xc b c l (qOf h d) * D.wq h d e
  k l e := (∑ d : Fin 128, D.xc b c l (qOf h d) * D.wk h d e) * Ideal.ofBits FTy.f32 1035273459#32
  v l e := ∑ d : Fin 128, D.u b (tIx c l) ⟨(qOf h d).val, by omega⟩ * D.wv h d e
  b l := ∑ r : Fin 128, if r ≤ l then D.lf b c r h else 0
  i l := D.g b c l ⟨h.val, by omega⟩

/-- What enters chunk `c`. -/
def st (b : Fin 2) : ℕ → Fin 4 → St
  | 0 => fun _ => St.zero
  | c + 1 => fun h => next (D.tok b c h) (st b c h)

/-- The result at step `l` of chunk `c`. -/
def out (b : Fin 2) (c : ℕ) (l : Fin 128) (q : Fin 512) : EReal :=
  res (D.tok b c (hOf q)) (D.st b c (hOf q)) (fun l d => D.u b (tIx c l) ⟨512 + (qOf (hOf q) d).val, by omega⟩)
    (fun d => D.ng (qOf (hOf q) d)) l (dOf q)

end Data

end Cert.Ml

end

end
-- ==== Proof.MDefs.lean ====
module

public import proofs.«01_k».proof.Proof.Gen.MlstmIdeal.Value
public import proofs.«01_k».proof.Proof.MSpec
public import proofs.«01_k».proof.Proof.Mask
public import Idealize.ShloMosaic.Lib.Pointwise
public import Idealize.ShloMosaic.Lib.Pipeline.ReadBack
public import Idealize.ShloMosaic.Lib.Pipeline.ValueKit.Tiles
public import Idealize.ShloMosaic.Lib.WritesUnit

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32)

/-- The channels of the chunk as they arrive, before the convolution: the first 512 columns of its block. -/
def curK : FVec Ideal S128x512 .f32 :=
  k0_pay8 (View.ld x0 (Rect.unit ![0, 0, 0] S1x128x512.size inb_S1x128x1024_S1x128x512_0_0_0))

/-- The chunk's channels after the convolution and the gate, from the three shifted windows `e5`, `e6`, `e7` of the
    extended block and the block itself. -/
def xbK (e5 e6 e7 : FVec Ideal S128x512 .f32) : FVec Ideal S128x512 .f32 :=
  k0_pay11 (k0_pay9 (View.ld x0 (Rect.unit ![0, 0, 0] S1x128x512.size inb_S1x128x1024_S1x128x512_0_0_0))
      (View.ld x3 (Rect.unit ![0, 0] S1x512.size inb_S1x512_S1x512_0_0))
      (View.ld x2 (Rect.unit ![3, 0] S1x512.size inb_S4x512_S1x512_3_0)) e5
      (View.ld x2 (Rect.unit ![0, 0] S1x512.size inb_S4x512_S1x512_0_0)) e6
      (View.ld x2 (Rect.unit ![1, 0] S1x512.size inb_S4x512_S1x512_1_0)))
    e7 (View.ld x2 (Rect.unit ![2, 0] S1x512.size inb_S4x512_S1x512_2_0))

/-- The gates. -/
def gK : FVec Ideal S128x128 .f32 :=
  k0_pay12 (View.ld x1 (Rect.unit ![0, 0, 0] S1x128x128.size inb_S1x128x128_S1x128x128_0_0_0))
    (View.ld x7 (Rect.unit ![0, 0] S1x128.size inb_S1x128_S1x128_0_0))

/-- The running sums of the log forget gates. -/
def bK : FVec Ideal S128x128 .f32 :=
  k0_pay13 (View.ld x1 (Rect.unit ![0, 0, 0] S1x128x128.size inb_S1x128x128_S1x128x128_0_0_0))
    (View.ld x7 (Rect.unit ![0, 0] S1x128.size inb_S1x128_S1x128_0_0))
    (View.ld x9 (Rect.unit ![0, 0] S128x128.size inb_S128x128_S128x128_0_0))

/-- The causal mask, the masked weight already read as `⊥`. -/
theorem mask_bot (l r : Fin 128) (a : EReal) :
    Scalar.select (IntOp.cmpi CmpIPredicate.sge (BitVec.ofNat 32 l.val) (BitVec.ofNat 32 r.val)) a ⊥
      = if r ≤ l then a else ⊥ := by
  rw [← mask_eq, neg_inf_f32]

/-- One head's tokens, from the gated channels `XB`, the gates `G` and the running sums `B`. -/
def tokK (XB : FVec Ideal S128x512 .f32) (G B : FVec Ideal S128x128 .f32) (h : Fin 4) : Tok where
  q l e := ∑ d : Fin 128, XB (ix2 l (qOf h d)) * x4 (ix3 h d e)
  k l e := (∑ d : Fin 128, XB (ix2 l (qOf h d)) * x5 (ix3 h d e)) * Ideal.ofBits FTy.f32 1035273459#32
  v l e := ∑ d : Fin 128, x0 (ix3 0 l ⟨(qOf h d).val, by omega⟩) * x6 (ix3 h d e)
  b l := B (ix2 l ⟨20 + h.val, by omega⟩)
  i l := G (ix2 l ⟨16 + h.val, by omega⟩)

/-- What the three state buffers hold of a head. -/
def stK (s1 : Vec Ideal S4x128x128 .f32) (s2 s3 : Vec Ideal S8x128 .f32) (h : Fin 4) : St where
  C e d := s1 (ix3 h e d)
  N e := s2 (ix2 ⟨h.val, by omega⟩ e)
  M := s3 (ix2 ⟨h.val, by omega⟩ 0)

/-- The output gate's columns of a head: in the last 512 of the block. -/
def oK (h : Fin 4) (l d : Fin 128) : EReal := x0 (ix3 0 l ⟨512 + (qOf h d).val, by omega⟩)

/-- The norm's weights of a head. -/
def nK (h : Fin 4) (d : Fin 128) : EReal := x8 (ix2 0 (qOf h d))

/-- The output block of a chunk, from its heads' tokens and states. -/
def outArr (T : Fin 4 → Tok) (S : Fin 4 → St) : Vec Ideal S1x128x512 .f32 := fun i =>
  res (T (hOf (i 2))) (S (hOf (i 2))) (oK x0 (hOf (i 2))) (nK x8 (hOf (i 2))) (i 1) (dOf (i 2))

/-- The output block at an index. -/
theorem outArr_at (T : Fin 4 → Tok) (S : Fin 4 → St) (a : Fin 1) (l : Fin 128) (q : Fin 512) :
    outArr x0 x8 T S (ix3 a l q) = res (T (hOf q)) (S (hOf q)) (oK x0 (hOf q)) (nK x8 (hOf q)) l (dOf q) := rfl

/-- The matrices the heads leave, laid out as the kernel's buffer. -/
def matArr (T : Fin 4 → Tok) (S : Fin 4 → St) : Vec Ideal S4x128x128 .f32 := fun i => (next (T (i 0)) (S (i 0))).C (i 1) (i 2)

/-- Those matrices at an index. -/
theorem matArr_at (T : Fin 4 → Tok) (S : Fin 4 → St) (h : Fin 4) (e d : Fin 128) :
    matArr T S (ix3 h e d) = (next (T h) (S h)).C e d := rfl

/-- A head's lanes of the output block, at their place there. -/
theorem emb_head (o : ℕ) (inb) (h : o + 128 ≤ 512) (a : Fin 1) (l : Fin 128) (p : Fin 128) :
    (Rect.unit (s := S1x128x512) ![0, 0, o] ![1, 128, 128] inb).emb (ix3 a l p) = ix3 0 l ⟨o + p.val, by omega⟩ := by
  idx_ext

/-- A head's matrix in its buffer. -/
theorem emb_mat (o : ℕ) (inb) (h : o < 4) (a : Fin 1) (e d : Fin 128) :
    (Rect.unit (s := S4x128x128) ![o, 0, 0] ![1, 128, 128] inb).emb (ix3 a e d) = ix3 ⟨o, h⟩ e d := by
  idx_ext

section reads
variable {κ : Kind} {sp : Space}

/-- A head's matrix is not touched by what is stored of another head. -/
theorem mat_skip (v : View sig κ sp S4x128x128 .f32) (f : v.ty.Contents (Elt Ideal)) (o o' : ℕ) (hne : o ≠ o') (inb inb' w L) :
    v.readAt (Elt Ideal) (Rect.unit (s := S4x128x128) ![o, 0, 0] ![1, 128, 128] inb).toLoadRect
        (v.writes (Elt Ideal) f (⟨Rect.unit (s := S4x128x128) ![o', 0, 0] ![1, 128, 128] inb', w⟩ :: L))
      = v.readAt (Elt Ideal) (Rect.unit (s := S4x128x128) ![o, 0, 0] ![1, 128, 128] inb).toLoadRect (v.writes (Elt Ideal) f L) := by
  funext y
  rw [View.readAt_apply, View.readAt_apply]
  refine View.read_writes_cons_unit_of_not_mem v f inb' w L _ rfl 0 ?_
  have h0 : (y 0).val = 0 := by have : (y 0).val < 1 := (y 0).isLt; omega
  show o + 1 * (y 0).val < o' ∨ o' + 1 ≤ o + 1 * (y 0).val
  omega

/-- A row of the small states is not touched by what is stored in another row. -/
theorem row_skip (v : View sig κ sp S8x128 .f32) (f : v.ty.Contents (Elt Ideal)) (o o' n : ℕ) (hne : o ≠ o') (inb inb' w L) :
    v.readAt (Elt Ideal) (Rect.unit (s := S8x128) ![o, 0] ![1, n] inb).toLoadRect
        (v.writes (Elt Ideal) f (⟨Rect.unit (s := S8x128) ![o', 0] ![1, 128] inb', w⟩ :: L))
      = v.readAt (Elt Ideal) (Rect.unit (s := S8x128) ![o, 0] ![1, n] inb).toLoadRect (v.writes (Elt Ideal) f L) := by
  funext y
  rw [View.readAt_apply, View.readAt_apply]
  refine View.read_writes_cons_unit_of_not_mem v f inb' w L _ rfl 0 ?_
  have h0 : (y 0).val = 0 := by have : (y 0).val < 1 := (y 0).isLt; omega
  show o + 1 * (y 0).val < o' ∨ o' + 1 ≤ o + 1 * (y 0).val
  omega

/-- A matrix of the whole buffer stored at once. -/
theorem mat_fill (v : View sig κ sp S4x128x128 .f32) (f : v.ty.Contents (Elt Ideal)) (o : ℕ) (inb inb') (w : Vec Ideal S4x128x128 .f32) (L) :
    v.readAt (Elt Ideal) (Rect.unit (s := S4x128x128) ![o, 0, 0] ![1, 128, 128] inb).toLoadRect
        (v.writes (Elt Ideal) f (⟨Rect.unit (s := S4x128x128) ![0, 0, 0] ![4, 128, 128] inb', w⟩ :: L))
      = View.ld w (Rect.unit (s := S4x128x128) ![o, 0, 0] ![1, 128, 128] inb) := by
  funext y
  rw [View.readAt_apply]
  refine (View.read_writes_cons_unit_of_mem v f inb' w L _ _ rfl fun a => ?_).trans rfl
  match a with
  | ⟨0, _⟩ => exact (Nat.zero_add _).symm
  | ⟨1, _⟩ => exact (Nat.zero_add _).symm
  | ⟨2, _⟩ => exact (Nat.zero_add _).symm

/-- A row of the small states stored whole. -/
theorem row_fill (v : View sig κ sp S8x128 .f32) (f : v.ty.Contents (Elt Ideal)) (o n : ℕ) (inb inb') (w : Vec Ideal S8x128 .f32) (L) :
    v.readAt (Elt Ideal) (Rect.unit (s := S8x128) ![o, 0] ![1, n] inb).toLoadRect
        (v.writes (Elt Ideal) f (⟨Rect.unit (s := S8x128) ![0, 0] ![8, 128] inb', w⟩ :: L))
      = View.ld w (Rect.unit (s := S8x128) ![o, 0] ![1, n] inb) := by
  funext y
  rw [View.readAt_apply]
  refine (View.read_writes_cons_unit_of_mem v f inb' w L _ _ rfl fun a => ?_).trans rfl
  match a with
  | ⟨0, _⟩ => exact (Nat.zero_add _).symm
  | ⟨1, _⟩ => exact (Nat.zero_add _).symm

/-- An entry of a stored row is read from it. -/
theorem row_hit (v : View sig κ sp S8x128 .f32) (f : v.ty.Contents (Elt Ideal)) (o : ℕ) (inb w L) (y : Fin 8) (j : Fin 128) (hy : y.val = o) :
    v.read (Elt Ideal) (v.writes (Elt Ideal) f (⟨Rect.unit (s := S8x128) ![o, 0] ![1, 128] inb, w⟩ :: L)) (ix2 y j) = w (ix2 0 j) :=
  View.read_writes_cons_unit_of_mem v f inb w L (ix2 y j) (ix2 0 j) rfl fun a => by
    match a with
    | ⟨0, _⟩ => exact hy
    | ⟨1, _⟩ => exact (Nat.zero_add _).symm

/-- An entry of another row is read from what was stored before. -/
theorem row_miss (v : View sig κ sp S8x128 .f32) (f : v.ty.Contents (Elt Ideal)) (o : ℕ) (inb w L) (y : Fin 8) (j : Fin 128) (hy : y.val ≠ o) :
    v.read (Elt Ideal) (v.writes (Elt Ideal) f (⟨Rect.unit (s := S8x128) ![o, 0] ![1, 128] inb, w⟩ :: L)) (ix2 y j)
      = v.read (Elt Ideal) (v.writes (Elt Ideal) f L) (ix2 y j) :=
  View.read_writes_cons_unit_of_not_mem v f inb w L (ix2 y j) rfl 0 (by show y.val < o ∨ o + 1 ≤ y.val; omega)

end reads

end Cert.MlstmIdeal.Value

end

end
-- ==== Proof.MBlk.lean ====
module

public import proofs.«01_k».proof.Proof.Gen.MlstmIdeal.Value
public import proofs.«01_k».proof.Proof.MHost
public import proofs.«01_k».proof.Proof.MDefs

@[expose] public section
set_option maxRecDepth 16384
noncomputable section
open Idealize.ShloMosaic Idealize.ShloMosaic.TcCoe Idealize.SL.Sem
namespace Cert.MlstmIdeal.Value
open Cert.MlstmIdeal Cert.MlstmIdeal.Gen Cert.Ml
open Cert.Ssd (tIx)

variable (m : (ℓ : Loc nD τ sig) → Buf (Elt Ideal) ℓ) (c : Dev nD)

/-- The batch entry and the chunk of a grid point. -/
theorem index_u : ∀ t : Fin cfg0.N, win0_0.index t (0 : Fin 3) = t.val / 128 ∧ win0_0.index t (1 : Fin 3) = t.val % 128 ∧ win0_0.index t (2 : Fin 3) = 0 := by
  decide +kernel

/-- The same for the small columns. -/
theorem index_sm : ∀ t : Fin cfg0.N, win0_1.index t (0 : Fin 3) = t.val / 128 ∧ win0_1.index t (1 : Fin 3) = t.val % 128 ∧ win0_1.index t (2 : Fin 3) = 0 := by
  decide +kernel

/-- The point's rows of the projected inputs. -/
theorem iblk_u (t : Fin cfg0.N) (l : Fin 128) (j : Fin 1024) :
    (iblk m c 0 t : Vec Ideal S1x128x1024 .f32) (ix3 0 l j)
      = (m ((c : Thread nD τ).loc main_arg0) : Vec Ideal S2x16384x1024 .f32) (ix3 ⟨t.val / 128, by have : t.val < 256 := t.isLt; omega⟩ ⟨t.val % 128 * 128 + l.val, by omega⟩ j) := by
  rw [← V_main_arg0 m c]
  obtain ⟨h0, h1, h2⟩ := index_u t
  unfold iblk
  rw [View.read_apply]
  show V m c main_arg0 _ = V m c main_arg0 _
  refine congrArg (V m c main_arg0) ?_
  funext a
  apply Fin.ext
  match a with
  | ⟨0, _⟩ => show win0_0.index t 0 * 1 + 1 * 0 = t.val / 128; omega
  | ⟨1, _⟩ => show win0_0.index t 1 * 128 + 1 * l.val = t.val % 128 * 128 + l.val; omega
  | ⟨2, _⟩ => show win0_0.index t 2 * 1024 + 1 * j.val = j.val; omega

/-- The point's rows of the small columns. -/
theorem iblk_sm (t : Fin cfg0.N) (l : Fin 128) (j : Fin 128) :
    (iblk m c 1 t : Vec Ideal S1x128x128 .f32) (ix3 0 l j)
      = (m ((c : Thread nD τ).loc main_arg1) : Vec Ideal S2x16384x128 .f32) (ix3 ⟨t.val / 128, by have : t.val < 256 := t.isLt; omega⟩ ⟨t.val % 128 * 128 + l.val, by omega⟩ j) := by
  rw [← V_main_arg1 m c]
  obtain ⟨h0, h1, h2⟩ := index_sm t
  unfold iblk
  rw [View.read_apply]
  show V m c main_arg1 _ = V m c main_arg1 _
  refine congrArg (V m c main_arg1) ?_
  funext a
  apply Fin.ext
  match a with
  | ⟨0, _⟩ => show win0_1.index t 0 * 1 + 1 * 0 = t.val / 128; omega
  | ⟨1, _⟩ => show win0_1.index t 1 * 128 + 1 * l.val = t.val % 128 * 128 + l.val; omega
  | ⟨2, _⟩ => show win0_1.index t 2 * 128 + 1 * j.val = j.val; omega

/-- The convolution's weights are one window. -/
theorem iblk_w (t : Fin cfg0.N) : (iblk m c 2 t : Vec Ideal S4x512 .f32) = V m c main_arg2 := by
  funext i
  unfold iblk
  rw [View.read_apply]
  exact congrArg (V m c main_arg2) (funext fun a => Fin.ext (Pipeline.Window.rect_emb_val_of_index_zero win0_2 t a (by match a with | ⟨0, _⟩ => rfl | ⟨1, _⟩ => rfl) i))

/-- So is its bias. -/
theorem iblk_cb (t : Fin cfg0.N) : (iblk m c 3 t : Vec Ideal S1x512 .f32) = V m c main_v2 := by
  funext i
  unfold iblk
  rw [View.read_apply]
  exact congrArg (V m c main_v2) (funext fun a => Fin.ext (Pipeline.Window.rect_emb_val_of_index_zero win0_3 t a (by match a with | ⟨0, _⟩ => rfl | ⟨1, _⟩ => rfl) i))

/-- So are the query weights. -/
theorem iblk_wq (t : Fin cfg0.N) : (iblk m c 4 t : Vec Ideal S4x128x128 .bf16) = V m c main_v3 := by
  funext i
  unfold iblk
  rw [View.read_apply]
  exact congrArg (V m c main_v3) (funext fun a => Fin.ext (Pipeline.Window.rect_emb_val_of_index_zero win0_4 t a (by match a with | ⟨0, _⟩ => rfl | ⟨1, _⟩ => rfl | ⟨2, _⟩ => rfl) i))

/-- So are the key weights. -/
theorem iblk_wk (t : Fin cfg0.N) : (iblk m c 5 t : Vec Ideal S4x128x128 .bf16) = V m c main_v4 := by
  funext i
  unfold iblk
  rw [View.read_apply]
  exact congrArg (V m c main_v4) (funext fun a => Fin.ext (Pipeline.Window.rect_emb_val_of_index_zero win0_5 t a (by match a with | ⟨0, _⟩ => rfl | ⟨1, _⟩ => rfl | ⟨2, _⟩ => rfl) i))

/-- So are the value weights. -/
theorem iblk_wv (t : Fin cfg0.N) : (iblk m c 6 t : Vec Ideal S4x128x128 .bf16) = V m c main_v5 := by
  funext i
  unfold iblk
  rw [View.read_apply]
  exact congrArg (V m c main_v5) (funext fun a => Fin.ext (Pipeline.Window.rect_emb_val_of_index_zero win0_6 t a (by match a with | ⟨0, _⟩ => rfl | ⟨1, _⟩ => rfl | ⟨2, _⟩ => rfl) i))

/-- So is the padded gates' bias. -/
theorem iblk_gb (t : Fin cfg0.N) : (iblk m c 7 t : Vec Ideal S1x128 .f32) = V m c main_v10 := by
  funext i
  unfold iblk
  rw [View.read_apply]
  exact congrArg (V m c main_v10) (funext fun a => Fin.ext (Pipeline.Window.rect_emb_val_of_index_zero win0_7 t a (by match a with | ⟨0, _⟩ => rfl | ⟨1, _⟩ => rfl) i))

/-- So are the norm's weights. -/
theorem iblk_ng (t : Fin cfg0.N) : (iblk m c 8 t : Vec Ideal S1x512 .f32) = V m c main_v11 := by
  funext i
  unfold iblk
  rw [View.read_apply]
  exact congrArg (V m c main_v11) (funext fun a => Fin.ext (Pipeline.Window.rect_emb_val_of_index_zero win0_8 t a (by match a with | ⟨0, _⟩ => rfl | ⟨1, _⟩ => rfl) i))

/-- So is the triangle of ones. -/
theorem iblk_tril (t : Fin cfg0.N) : (iblk m c 9 t : Vec Ideal S128x128 .f32) = V m c main_v1 := by
  funext i
  unfold iblk
  rw [View.read_apply]
  exact congrArg (V m c main_v1) (funext fun a => Fin.ext (Pipeline.Window.rect_emb_val_of_index_zero win0_9 t a (by match a with | ⟨0, _⟩ => rfl | ⟨1, _⟩ => rfl) i))

/-- The call's arrays as the layer's data. -/
def dataK : Data where
  u b t j := (m ((c : Thread nD τ).loc main_arg0) : Vec Ideal S2x16384x1024 .f32) (ix3 b t j)
  sm b t j := (m ((c : Thread nD τ).loc main_arg1) : Vec Ideal S2x16384x128 .f32) (ix3 b t j)
  w k j := (m ((c : Thread nD τ).loc main_arg2) : Vec Ideal S4x512 .f32) (ix2 k j)
  cb j := (m ((c : Thread nD τ).loc main_arg3) : Vec Ideal S512 .f32) (ix1 j)
  wq h d e := (m ((c : Thread nD τ).loc main_arg4) : Vec Ideal S4x128x128 .f32) (ix3 h d e)
  wk h d e := (m ((c : Thread nD τ).loc main_arg5) : Vec Ideal S4x128x128 .f32) (ix3 h d e)
  wv h d e := (m ((c : Thread nD τ).loc main_arg6) : Vec Ideal S4x128x128 .f32) (ix3 h d e)
  gb h := (m ((c : Thread nD τ).loc main_arg7) : Vec Ideal S8 .f32) (ix1 h)
  ng q := (m ((c : Thread nD τ).loc main_arg8) : Vec Ideal S512 .f32) (ix1 q)

/-- The batch entry of a point. -/
def bOf (t : Fin cfg0.N) : Fin 2 := ⟨t.val / 128, by have : t.val < 256 := t.isLt; omega⟩

/-- The chunk of a point. -/
def cOf (t : Fin cfg0.N) : ℕ := t.val % 128

/-- The projected inputs of a point. -/
theorem u_at (t : Fin cfg0.N) (l : Fin 128) (j : Fin 1024) :
    (iblk m c 0 t : Vec Ideal S1x128x1024 .f32) (ix3 0 l j) = (dataK m c).u (bOf t) (tIx (cOf t) l) j := by
  rw [iblk_u]
  refine congrArg (fun r => (m ((c : Thread nD τ).loc main_arg0) : Vec Ideal S2x16384x1024 .f32) (ix3 _ r j)) (Fin.ext ?_)
  show t.val % 128 * 128 + l.val = (t.val % 128 * 128 + l.val) % 16384
  omega

/-- The small columns of a point. -/
theorem sm_at (t : Fin cfg0.N) (l : Fin 128) (j : Fin 128) :
    (iblk m c 1 t : Vec Ideal S1x128x128 .f32) (ix3 0 l j) = (dataK m c).sm (bOf t) (tIx (cOf t) l) j := by
  rw [iblk_sm]
  refine congrArg (fun r => (m ((c : Thread nD τ).loc main_arg1) : Vec Ideal S2x16384x128 .f32) (ix3 _ r j)) (Fin.ext ?_)
  show t.val % 128 * 128 + l.val = (t.val % 128 * 128 + l.val) % 16384
  omega

/-- The convolution's weights of a point. -/
theorem w_at (t : Fin cfg0.N) (k : Fin 4) (j : Fin 512) : (iblk m c 2 t : Vec Ideal S4x512 .f32) (ix2 k j) = (dataK m c).w k j := by
  rw [iblk_w, V_main_arg2]; rfl

/-- The convolution's bias of a point. -/
theorem cb_at (t : Fin cfg0.N) (j : Fin 512) : (iblk m c 3 t : Vec Ideal S1x512 .f32) (ix2 0 j) = (dataK m c).cb j := by
  rw [iblk_cb, V_cb]; rfl

/-- The query weights of a point. -/
theorem wq_at (t : Fin cfg0.N) (h : Fin 4) (d e : Fin 128) : (iblk m c 4 t : Vec Ideal S4x128x128 .bf16) (ix3 h d e) = (dataK m c).wq h d e := by
  rw [iblk_wq, V_wq]; rfl

/-- The key weights of a point. -/
theorem wk_at (t : Fin cfg0.N) (h : Fin 4) (d e : Fin 128) : (iblk m c 5 t : Vec Ideal S4x128x128 .bf16) (ix3 h d e) = (dataK m c).wk h d e := by
  rw [iblk_wk, V_wk]; rfl

/-- The value weights of a point. -/
theorem wv_at (t : Fin cfg0.N) (h : Fin 4) (d e : Fin 128) : (iblk m c 6 t : Vec Ideal S4x128x128 .bf16) (ix3 h d e) = (dataK m c).wv h d e := by
  rw [iblk_wv, V_wv]; rfl

/-- The gates' bias of a point. -/
theorem gb_at (t : Fin cfg0.N) (h : Fin 8) : (iblk m c 7 t : Vec Ideal S1x128 .f32) (ix2 0 ⟨16 + h.val, by omega⟩) = (dataK m c).gb h := by
  rw [iblk_gb, V_gb]; rfl

/-- The norm's weights of a point. -/
theorem ng_at (t : Fin cfg0.N) (q : Fin 512) : (iblk m c 8 t : Vec Ideal S1x512 .f32) (ix2 0 q) = (dataK m c).ng q := by
  rw [iblk_ng, V_ng]; rfl

/-- The triangle of ones of a point. -/
theorem tril_at (t : Fin cfg0.N) (l r : Fin 128) : (iblk m c 9 t : Vec Ideal S128x128 .f32) (ix2 l r) = (if r ≤ l then 1 else 0 : EReal) := by
  rw [iblk_tril, V_tril]

end Cert.MlstmIdeal.Value
-- ==== Proof.MWin.lean ====
module

public import proofs.«01_k».proof.Proof.Gen.MlstmIdeal.Value
public import proofs.«01_k».proof.Proof.MDefs
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- The window of the extended block starting at row `o`, at a point that is not a sequence's first: the block itself below
    the eight rows the point before left. -/
def winB (o : ℕ) (h : ∀ a, (![o, 0] : Fin 2 → ℕ) a + S128x512.size a ≤ S136x512.size a) : FVec Ideal S128x512 .f32 :=
  (View.readAt (Elt Ideal) arg13.view (Rect.unit (s := S136x512) ![o, 0] S128x512.size h).toLoadRect
    (arg13.view.writes (Elt Ideal) (harg13.unread xs0)
      [⟨Rect.unit ![8, 0] S128x512.size inb_S136x512_S128x512_8_0, curK x0⟩]) :)

/-- The same window at a sequence's first point: the block below eight rows of zeros. -/
def winA (o : ℕ) (h : ∀ a, (![o, 0] : Fin 2 → ℕ) a + S128x512.size a ≤ S136x512.size a) : FVec Ideal S128x512 .f32 :=
  (arg13.view.readCov (Val := Elt Ideal) [⟨Rect.unit ![8, 0] S128x512.size inb_S136x512_S128x512_8_0, curK x0⟩,
      ⟨Rect.unit ![0, 0] S8x512.size inb_S136x512_S8x512_0_0, k0_pay7 (F := Ideal)⟩]
    (Rect.unit (s := S136x512) ![o, 0] S128x512.size h).toLoadRect :)

/-- The gated channels at a point that is not a sequence's first. -/
abbrev xbKB : FVec Ideal S128x512 .f32 := xbK x0 x2 x3 (winB arg13 harg13 x0 xs0 5 inb_S136x512_S128x512_5_0)
  (winB arg13 harg13 x0 xs0 6 inb_S136x512_S128x512_6_0) (winB arg13 harg13 x0 xs0 7 inb_S136x512_S128x512_7_0)

/-- The gated channels at a sequence's first point. -/
abbrev xbKA : FVec Ideal S128x512 .f32 := xbK x0 x2 x3 (winA arg13 x0 5 inb_S136x512_S128x512_5_0)
  (winA arg13 x0 6 inb_S136x512_S128x512_6_0) (winA arg13 x0 7 inb_S136x512_S128x512_7_0)

end Cert.MlstmIdeal.Value

end

end
-- ==== Proof.MHalo.lean ====
module

public import proofs.«01_k».proof.Proof.Gen.MlstmIdeal.Value
public import proofs.«01_k».proof.Proof.MWin
public import Idealize.ShloMosaic.Lib.Pointwise
public import Idealize.ShloMosaic.Lib.WritesUnit
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- The arriving channels, at an index. -/
theorem curK_at (l : Fin 128) (j : Fin 512) : curK x0 (ix2 l j) = x0 (ix3 0 l ⟨j.val, by omega⟩) := by
  unfold curK
  unfold_payloads
  pointwise

section rows
variable {κ : Kind} {sp : Space} (v : View sig κ sp S136x512 .f32) (f : v.ty.Contents (Elt Ideal))

/-- A row inside the last stored rows is read from them. -/
theorem rd_hit (o R : ℕ) (inb : ∀ a, (![o, 0] : Fin 2 → ℕ) a + (![R, 512] : Fin 2 → ℕ) a ≤ S136x512.size a) (w) (L) (y : Fin 136) (r : Fin R)
    (j : Fin 512) (hy : y.val = o + r.val) :
    v.read (Elt Ideal) (v.writes (Elt Ideal) f (⟨Rect.unit (s := S136x512) ![o, 0] ![R, 512] inb, w⟩ :: L)) (ix2 y j) = w (ix2 r j) :=
  View.read_writes_cons_unit_of_mem v f inb w L (ix2 y j) (ix2 r j) rfl fun a => by
    match a with
    | ⟨0, _⟩ => exact hy
    | ⟨1, _⟩ => exact (Nat.zero_add _).symm

/-- A row outside them is read from what was stored before. -/
theorem rd_miss (o R : ℕ) (inb : ∀ a, (![o, 0] : Fin 2 → ℕ) a + (![R, 512] : Fin 2 → ℕ) a ≤ S136x512.size a) (w) (L) (y : Fin 136)
    (j : Fin 512) (hy : y.val < o ∨ o + R ≤ y.val) :
    v.read (Elt Ideal) (v.writes (Elt Ideal) f (⟨Rect.unit (s := S136x512) ![o, 0] ![R, 512] inb, w⟩ :: L)) (ix2 y j)
      = v.read (Elt Ideal) (v.writes (Elt Ideal) f L) (ix2 y j) :=
  View.read_writes_cons_unit_of_not_mem v f inb w L (ix2 y j) rfl 0 hy
end rows

/-- A window of the extended block at an index: below row eight it is what the point before left, else the block. -/
theorem winB_at (o : ℕ) (h) (ho : o < 9) (l : Fin 128) (j : Fin 512) :
    winB arg13 harg13 x0 xs0 o h (ix2 l j)
      = if hl : o + l.val < 8 then xs0 (ix2 ⟨o + l.val, by omega⟩ j)
        else x0 (ix3 0 ⟨o + l.val - 8, by omega⟩ ⟨j.val, by omega⟩) := by
  unfold winB
  rw [View.readAt_apply]
  rw [show (Rect.unit (s := S136x512) ![o, 0] S128x512.size h).toLoadRect.idx (ix2 l j) = ix2 ⟨o + l.val, by omega⟩ j from by idx_ext]
  split_ifs with hl
  · refine (rd_miss _ _ 8 128 _ _ _ _ _ (Or.inl hl)).trans ?_
    rw [View.writes_nil, harg13.read_unread]
  · refine (rd_hit _ _ 8 128 _ _ _ _ ⟨o + l.val - 8, by omega⟩ _ (by show o + l.val = 8 + (o + l.val - 8); omega)).trans ?_
    rw [curK_at]

/-- The same window at a sequence's first point: zero below row eight. -/
theorem winA_at (o : ℕ) (h) (ho : o < 9) (l : Fin 128) (j : Fin 512) :
    winA arg13 x0 o h (ix2 l j)
      = if hl : o + l.val < 8 then 0
        else x0 (ix3 0 ⟨o + l.val - 8, by omega⟩ ⟨j.val, by omega⟩) := by
  unfold winA
  unfold View.readCov
  rw [View.readAt_apply]
  rw [show (Rect.unit (s := S136x512) ![o, 0] S128x512.size h).toLoadRect.idx (ix2 l j) = ix2 ⟨o + l.val, by omega⟩ j from by idx_ext]
  split_ifs with hl
  · refine (rd_miss _ _ 8 128 _ _ _ _ _ (Or.inl hl)).trans ((rd_hit _ _ 0 8 _ _ _ _ ⟨o + l.val, hl⟩ _ (Nat.zero_add _).symm).trans ?_)
    unfold_payloads
    pointwise
  · refine (rd_hit _ _ 8 128 _ _ _ _ ⟨o + l.val - 8, by omega⟩ _ (by show o + l.val = 8 + (o + l.val - 8); omega)).trans ?_
    rw [curK_at]

/-- The eight rows a point leaves for the next: the last eight of its block. -/
theorem sout0_A_0_at (hc0 : cond0_0 i) (hc1 : cond0_1 i) (r : Fin 136) (hr : r.val < 8) (j : Fin 512) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 (ix2 r j) = x0 (ix3 0 ⟨120 + r.val, by omega⟩ ⟨j.val, by omega⟩) := by
  unfold sout0_A_0 kernelRun0_A
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread]
  refine (rd_hit _ _ 0 8 _ _ _ _ ⟨r.val, hr⟩ _ (Nat.zero_add _).symm).trans ?_
  unfold_payloads
  pointwise

/-- So does a later point. -/
theorem sout0_B_0_at (hc0 : ¬cond0_0 i) (hc1 : ¬cond0_1 i) (r : Fin 136) (hr : r.val < 8) (j : Fin 512) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 (ix2 r j) = x0 (ix3 0 ⟨120 + r.val, by omega⟩ ⟨j.val, by omega⟩) := by
  unfold sout0_B_0 kernelRun0_B
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread]
  refine (rd_hit _ _ 0 8 _ _ _ _ ⟨r.val, hr⟩ _ (Nat.zero_add _).symm).trans ?_
  unfold_payloads
  pointwise

/-- The gated channels at an index. -/
theorem xbK_at (e5 e6 e7 : FVec Ideal S128x512 .f32) (l : Fin 128) (j : Fin 512) :
    xbK x0 x2 x3 e5 e6 e7 (ix2 l j)
      = gate (x3 (ix2 0 j) + x0 (ix3 0 l ⟨j.val, by omega⟩) * x2 (ix2 3 j) + e5 (ix2 l j) * x2 (ix2 0 j)
          + e6 (ix2 l j) * x2 (ix2 1 j) + e7 (ix2 l j) * x2 (ix2 2 j)) := by
  unfold xbK
  unfold_payloads
  pointwise [gate]

/-- A gate at an index. -/
theorem gK_at (l : Fin 128) (h : Fin 128) : gK x1 x7 (ix2 l h) = x1 (ix3 0 l h) + x7 (ix2 0 h) := by
  unfold gK
  unfold_payloads
  pointwise

/-- A running sum of log forget gates at an index, as the product with the triangle of ones computes it. -/
theorem bK_at (l : Fin 128) (h : Fin 128) :
    bK x1 x7 x9 (ix2 l h) = ∑ r : Fin 128, x9 (ix2 l r) * (0 - softplus (0 - (x1 (ix3 0 r h) + x7 (ix2 0 h)))) := by
  unfold bK
  unfold_payloads
  pointwise [softplus]

end Cert.MlstmIdeal.Value

end

end
-- ==== Proof.MChunk.lean ====
module

public import proofs.«01_k».proof.Proof.MBlk
public import proofs.«01_k».proof.Proof.MHalo
public import proofs.«01_k».proof.Proof.MDefs

@[expose] public section
set_option maxRecDepth 16384
noncomputable section
open Idealize.ShloMosaic Idealize.ShloMosaic.TcCoe Idealize.SL.Sem
namespace Cert.MlstmIdeal.Value
open Cert.MlstmIdeal Cert.MlstmIdeal.Gen Cert.Ml
open Cert.Ssd (gate softplus tIx)

variable (m : (ℓ : Loc nD τ sig) → Buf (Elt Ideal) ℓ) (c : Dev nD) (t : Fin cfg0.N)
  (arg13 : Memref sig .tc .vmem S136x512 .f32) (harg13 : arg13.IsWhole)

/-- The gates of a point's chunk. -/
theorem g_at (l : Fin 128) (h : Fin 8) :
    gK (iblk m c 1 t) (iblk m c 7 t) (ix2 l ⟨16 + h.val, by omega⟩) = (dataK m c).g (bOf t) (cOf t) l h := by
  rw [gK_at, sm_at, gb_at]; rfl

/-- The running sums of a point's chunk. -/
theorem b_at (l : Fin 128) (h : Fin 4) (hl : 20 + h.val < 128) :
    bK (iblk m c 1 t) (iblk m c 7 t) (iblk m c 9 t) (ix2 l ⟨20 + h.val, hl⟩) = ((dataK m c).tok (bOf t) (cOf t) h).b l := by
  rw [bK_at]
  show _ = ∑ r : Fin 128, if r ≤ l then (dataK m c).lf (bOf t) (cOf t) r h else 0
  refine Finset.sum_congr rfl fun r _ => ?_
  have e : (⟨20 + h.val, hl⟩ : Fin 128) = ⟨16 + (⟨4 + h.val, by omega⟩ : Fin 8).val, by show 16 + (4 + h.val) < 128; omega⟩ := Fin.ext (by show 20 + h.val = 16 + (4 + h.val); omega)
  rw [tril_at, e, sm_at, gb_at]
  split_ifs
  · exact one_mul _
  · exact zero_mul _

/-- The rows before a point's chunk, as a window of the extended block reads them, are the convolution's delayed inputs. -/
theorem lag_of (D : Data) (b : Fin 2) (ci : ℕ) (hci : ci < 128) (k : ℕ) (hk : k < 3) (l : Fin 128) (j : Fin 512) (e : EReal)
    (h0 : 5 + k + l.val < 8 → ci = 0 → e = 0)
    (h1 : (h : 5 + k + l.val < 8) → ci ≠ 0 → e = D.u b (tIx (ci - 1) ⟨120 + (5 + k + l.val), by omega⟩) ⟨j.val, by omega⟩)
    (h2 : (h : ¬5 + k + l.val < 8) → e = D.u b (tIx ci ⟨5 + k + l.val - 8, by omega⟩) ⟨j.val, by omega⟩) :
    e = D.lag b (tIx ci l) k j := by
  have hv : (tIx ci l).val = ci * 128 + l.val := Nat.mod_eq_of_lt (by omega)
  unfold Data.lag
  by_cases hl : 5 + k + l.val < 8
  · by_cases hc : ci = 0
    · rw [if_pos (by omega), h0 hl hc]
    · rw [if_neg (by omega), h1 hl hc]
      refine congrArg (fun r => D.u b r _) (Fin.ext ?_)
      show ((ci - 1) * 128 + (120 + (5 + k + l.val))) % 16384 = ((tIx ci l).val + k - 3) % 16384
      omega
  · rw [if_neg (by omega), h2 hl]
    refine congrArg (fun r => D.u b r _) (Fin.ext ?_)
    show (ci * 128 + (5 + k + l.val - 8)) % 16384 = ((tIx ci l).val + k - 3) % 16384
    omega

/-- A sequence has 128 chunks. -/
theorem cOf_lt : cOf t < 128 := Nat.mod_lt _ (by omega)

/-- The gated channels of a sequence's first chunk. -/
theorem xb_at_A (hc : cOf t = 0) (l : Fin 128) (j : Fin 512) :
    xbKA arg13 (iblk m c 0 t) (iblk m c 2 t) (iblk m c 3 t) (ix2 l j) = (dataK m c).xc (bOf t) (cOf t) l j := by
  have key : ∀ o k (ho : o = 5 + k) (hk : k < 3) hi, winA arg13 (iblk m c 0 t) o hi (ix2 l j) = (dataK m c).lag (bOf t) (tIx (cOf t) l) k j := by
    intro o k ho hk hi
    subst ho
    refine lag_of _ _ _ (cOf_lt t) k hk l j _ (fun h _ => ?_) (fun _ h => absurd hc h) (fun h => ?_)
    · rw [winA_at _ _ _ _ (by omega), dif_pos h]
    · rw [winA_at _ _ _ _ (by omega), dif_neg h, u_at]
  unfold xbKA
  rw [xbK_at, u_at, w_at, w_at, w_at, w_at, cb_at]
  rw [key 5 0 rfl (by omega), key 6 1 rfl (by omega), key 7 2 rfl (by omega)]
  rw [Data.xc, Data.conv]

/-- The gated channels of a later chunk, over the rows the point before left. -/
theorem xb_at_B (hc : cOf t ≠ 0) (xs0 : Vec Ideal S136x512 .f32)
    (hx : ∀ (r : Fin 136) (hr : r.val < 8) (j : Fin 512), xs0 (ix2 r j) = (dataK m c).u (bOf t) (tIx (cOf t - 1) ⟨120 + r.val, by omega⟩) ⟨j.val, by omega⟩)
    (l : Fin 128) (j : Fin 512) :
    xbKB arg13 harg13 (iblk m c 0 t) (iblk m c 2 t) (iblk m c 3 t) xs0 (ix2 l j) = (dataK m c).xc (bOf t) (cOf t) l j := by
  have key : ∀ o k (ho : o = 5 + k) (hk : k < 3) hi, winB arg13 harg13 (iblk m c 0 t) xs0 o hi (ix2 l j) = (dataK m c).lag (bOf t) (tIx (cOf t) l) k j := by
    intro o k ho hk hi
    subst ho
    refine lag_of _ _ _ (cOf_lt t) k hk l j _ (fun _ h => absurd h hc) (fun h _ => ?_) (fun h => ?_)
    · rw [winB_at _ _ _ _ _ _ (by omega), dif_pos h]; exact hx _ h _
    · rw [winB_at _ _ _ _ _ _ (by omega), dif_neg h, u_at]
  unfold xbKB
  rw [xbK_at, u_at, w_at, w_at, w_at, w_at, cb_at]
  rw [key 5 0 rfl (by omega), key 6 1 rfl (by omega), key 7 2 rfl (by omega)]
  rw [Data.xc, Data.conv]

/-- A chunk's tokens, from what its arrays hold at each index. -/
theorem tokK_of (x0 : Vec Ideal S1x128x1024 .f32) (x4 x5 x6 : Vec Ideal S4x128x128 .bf16) (XB : FVec Ideal S128x512 .f32) (G B : FVec Ideal S128x128 .f32)
    (D : Data) (b : Fin 2) (ci : ℕ) (hX : ∀ l j, XB (ix2 l j) = D.xc b ci l j) (hu : ∀ l j, x0 (ix3 0 l j) = D.u b (tIx ci l) j)
    (h4 : ∀ h d e, x4 (ix3 h d e) = D.wq h d e) (h5 : ∀ h d e, x5 (ix3 h d e) = D.wk h d e) (h6 : ∀ h d e, x6 (ix3 h d e) = D.wv h d e)
    (hB : ∀ l (h : Fin 4) hl, B (ix2 l ⟨20 + h.val, hl⟩) = (D.tok b ci h).b l) (hG : ∀ l (h : Fin 8), G (ix2 l ⟨16 + h.val, by omega⟩) = D.g b ci l h) :
    tokK x0 x4 x5 x6 XB G B = D.tok b ci := by
  funext h
  unfold tokK Data.tok
  simp only [hX, hu, h4, h5, h6, hB]
  congr 1
  funext l
  exact hG l ⟨h.val, by omega⟩

/-- A head's tokens in a point's chunk are the layer's. -/
theorem tok_of (XB : FVec Ideal S128x512 .f32) (hX : ∀ l j, XB (ix2 l j) = (dataK m c).xc (bOf t) (cOf t) l j) :
    tokK (iblk m c 0 t) (iblk m c 4 t) (iblk m c 5 t) (iblk m c 6 t) XB (gK (iblk m c 1 t) (iblk m c 7 t)) (bK (iblk m c 1 t) (iblk m c 7 t) (iblk m c 9 t))
      = (dataK m c).tok (bOf t) (cOf t) :=
  tokK_of _ _ _ _ _ _ _ _ _ _ hX (u_at m c t) (wq_at m c t) (wk_at m c t) (wv_at m c t) (fun l h _ => b_at m c t l h _) (g_at m c t)

end Cert.MlstmIdeal.Value
-- ==== Proof.MMaxA.lean ====
module

public import proofs.«01_k».proof.Proof.Gen.MlstmIdeal.Value
public import proofs.«01_k».proof.Proof.MWin
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- The largest log weights a sequence's first point leaves. -/
theorem sout0_A_3_at (hc0 : cond0_0 i) (hc1 : cond0_1 i) (h : Fin 4) (e : Fin 128) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 (ix2 ⟨h.val, by omega⟩ e)
      = (next ((tokK x0 x4 x5 x6 (xbKA arg13 x0 x2 x3) (gK x1 x7) (bK x1 x7 x9)) h) ((fun _ => St.zero) h)).M := by
  unfold sout0_A_3 kernelRun0_A
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread]
  simp (config := {failIfUnchanged := false}) only [k0_pay14, k0_pay15, k0_pay17]
  generalize hB : k0_pay13 (F := Ideal) _ _ _ = B
  generalize hG : k0_pay12 (F := Ideal) _ _ = G
  have e2 : gK x1 x7 = G := hG
  have e3 : bK x1 x7 x9 = B := hB
  rw [e2, e3]
  clear hG hB e2 e3
  simp (config := {failIfUnchanged := false, decide := true}) only [View.readCov, mat_skip, row_skip, mat_fill, row_fill]
  fin_cases h
  all_goals
    simp (config := {decide := true}) only [row_hit, row_miss, ne_eq, not_false_eq_true]
    unfold_payloads
    pointwise [hOf_add, dOf_add, qOf, tokK, stK, St.zero, dlog, mx, qk, wOld, num, den, hd, res, endLog, mLoc, mNew, kw, next, mask_eq, neg_inf_f32]

end Cert.MlstmIdeal.Value

end

end
-- ==== Proof.MMaxB.lean ====
module

public import proofs.«01_k».proof.Proof.Gen.MlstmIdeal.Value
public import proofs.«01_k».proof.Proof.MWin
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- The largest log weights a point that is not a sequence's first leaves. -/
theorem sout0_B_3_at (hc0 : ¬cond0_0 i) (hc1 : ¬cond0_1 i) (h : Fin 4) (e : Fin 128) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 (ix2 ⟨h.val, by omega⟩ e)
      = (next ((tokK x0 x4 x5 x6 (xbKB arg13 harg13 x0 x2 x3 xs0) (gK x1 x7) (bK x1 x7 x9)) h) ((stK xs1 xs2 xs3) h)).M := by
  unfold sout0_B_3 kernelRun0_B
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread]
  simp (config := {failIfUnchanged := false}) only [k0_pay14, k0_pay15, k0_pay17]
  generalize hB : k0_pay13 (F := Ideal) _ _ _ = B
  generalize hG : k0_pay12 (F := Ideal) _ _ = G
  have e2 : gK x1 x7 = G := hG
  have e3 : bK x1 x7 x9 = B := hB
  rw [e2, e3]
  clear hG hB e2 e3
  simp (config := {failIfUnchanged := false, decide := true}) only [mat_skip, row_skip, View.writes_nil, harg14.read_unread, harg15.read_unread, harg16.read_unread, View.readAt_eq_ld]
  fin_cases h
  all_goals
    simp (config := {decide := true}) only [row_hit, row_miss, ne_eq, not_false_eq_true]
    unfold_payloads
    pointwise [hOf_add, dOf_add, qOf, tokK, stK, St.zero, dlog, mx, qk, wOld, num, den, hd, res, endLog, mLoc, mNew, kw, next, mask_eq, neg_inf_f32]

end Cert.MlstmIdeal.Value

end

end
-- ==== Proof.MVecA.lean ====
module

public import proofs.«01_k».proof.Proof.Gen.MlstmIdeal.Value
public import proofs.«01_k».proof.Proof.MWin
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- The sums of keys a sequence's first point leaves. -/
theorem sout0_A_2_at (hc0 : cond0_0 i) (hc1 : cond0_1 i) (h : Fin 4) (e : Fin 128) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 (ix2 ⟨h.val, by omega⟩ e)
      = (next ((tokK x0 x4 x5 x6 (xbKA arg13 x0 x2 x3) (gK x1 x7) (bK x1 x7 x9)) h) ((fun _ => St.zero) h)).N e := by
  unfold sout0_A_2 kernelRun0_A
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread]
  simp (config := {failIfUnchanged := false}) only [k0_pay14, k0_pay15, k0_pay17]
  generalize hB : k0_pay13 (F := Ideal) _ _ _ = B
  generalize hG : k0_pay12 (F := Ideal) _ _ = G
  generalize hXB : k0_pay11 (F := Ideal) _ _ _ = XB
  have e1 : xbKA arg13 x0 x2 x3 = XB := hXB
  have e2 : gK x1 x7 = G := hG
  have e3 : bK x1 x7 x9 = B := hB
  rw [e1, e2, e3]
  clear hXB hG hB e1 e2 e3
  simp (config := {failIfUnchanged := false, decide := true}) only [View.readCov, mat_skip, row_skip, mat_fill, row_fill]
  fin_cases h
  all_goals
    simp (config := {decide := true}) only [row_hit, row_miss, ne_eq, not_false_eq_true]
    unfold_payloads
    pointwise [hOf_add, dOf_add, qOf, tokK, stK, St.zero, dlog, mx, qk, wOld, num, den, hd, res, endLog, mLoc, mNew, kw, next, mask_eq, neg_inf_f32]

end Cert.MlstmIdeal.Value

end

end
-- ==== Proof.MVecB.lean ====
module

public import proofs.«01_k».proof.Proof.Gen.MlstmIdeal.Value
public import proofs.«01_k».proof.Proof.MWin
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- The sums of keys a point that is not a sequence's first leaves. -/
theorem sout0_B_2_at (hc0 : ¬cond0_0 i) (hc1 : ¬cond0_1 i) (h : Fin 4) (e : Fin 128) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 (ix2 ⟨h.val, by omega⟩ e)
      = (next ((tokK x0 x4 x5 x6 (xbKB arg13 harg13 x0 x2 x3 xs0) (gK x1 x7) (bK x1 x7 x9)) h) ((stK xs1 xs2 xs3) h)).N e := by
  unfold sout0_B_2 kernelRun0_B
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread]
  simp (config := {failIfUnchanged := false}) only [k0_pay14, k0_pay15, k0_pay17]
  generalize hB : k0_pay13 (F := Ideal) _ _ _ = B
  generalize hG : k0_pay12 (F := Ideal) _ _ = G
  generalize hXB : k0_pay11 (F := Ideal) _ _ _ = XB
  have e1 : xbKB arg13 harg13 x0 x2 x3 xs0 = XB := hXB
  have e2 : gK x1 x7 = G := hG
  have e3 : bK x1 x7 x9 = B := hB
  rw [e1, e2, e3]
  clear hXB hG hB e1 e2 e3
  simp (config := {failIfUnchanged := false, decide := true}) only [mat_skip, row_skip, View.writes_nil, harg14.read_unread, harg15.read_unread, harg16.read_unread, View.readAt_eq_ld]
  fin_cases h
  all_goals
    simp (config := {decide := true}) only [row_hit, row_miss, ne_eq, not_false_eq_true]
    unfold_payloads
    pointwise [hOf_add, dOf_add, qOf, tokK, stK, St.zero, dlog, mx, qk, wOld, num, den, hd, res, endLog, mLoc, mNew, kw, next, mask_eq, neg_inf_f32]

end Cert.MlstmIdeal.Value

end

end
-- ==== Proof.MMatA.lean ====
module

public import proofs.«01_k».proof.Proof.Gen.MlstmIdeal.Value
public import proofs.«01_k».proof.Proof.MWin
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- The matrices a sequence's first point leaves. -/
theorem sout0_A_1_at (hc0 : cond0_0 i) (hc1 : cond0_1 i) (h : Fin 4) (e d : Fin 128) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 (ix3 h e d)
      = (next ((tokK x0 x4 x5 x6 (xbKA arg13 x0 x2 x3) (gK x1 x7) (bK x1 x7 x9)) h) ((fun _ => St.zero) h)).C e d := by
  suffices hs : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = matArr (tokK x0 x4 x5 x6 (xbKA arg13 x0 x2 x3) (gK x1 x7) (bK x1 x7 x9)) (fun _ => St.zero) by rw [hs]; rfl
  unfold sout0_A_1
  rw [View.read_writes_junk_eq_canon]
  unfold kernelRun0_A
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread]
  simp (config := {failIfUnchanged := false}) only [k0_pay14, k0_pay15, k0_pay17]
  generalize hB : k0_pay13 (F := Ideal) _ _ _ = B
  generalize hG : k0_pay12 (F := Ideal) _ _ = G
  generalize hXB : k0_pay11 (F := Ideal) _ _ _ = XB
  have e1 : xbKA arg13 x0 x2 x3 = XB := hXB
  have e2 : gK x1 x7 = G := hG
  have e3 : bK x1 x7 x9 = B := hB
  rw [e1, e2, e3]
  clear hXB hG hB e1 e2 e3
  simp (config := {failIfUnchanged := false, decide := true}) only [View.readCov, mat_skip, row_skip, mat_fill, row_fill]
  funext y
  refine View.canon_append_of_piecesOf (s := S4x128x128) _ _ [_, _, _, _] ⟨fun x => ?_, fun x => ?_, fun x => ?_, fun x => ?_, trivial⟩ y ?_
  rotate_left 4
  · exact View.cover_of_tiledL _ ![1, 128, 128] (by sl_kernel_rfl) y
  all_goals
    dsimp only
    idx_vars x
    rw [emb_mat _ _ (by decide), matArr_at]
    unfold_payloads
    pointwise [hOf_add, dOf_add, qOf, tokK, stK, St.zero, dlog, mx, qk, wOld, num, den, hd, res, endLog, mLoc, mNew, kw, next, mask_eq, neg_inf_f32]

end Cert.MlstmIdeal.Value

end

end
-- ==== Proof.MMatB.lean ====
module

public import proofs.«01_k».proof.Proof.Gen.MlstmIdeal.Value
public import proofs.«01_k».proof.Proof.MWin
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- The matrices a point that is not a sequence's first leaves. -/
theorem sout0_B_1_at (hc0 : ¬cond0_0 i) (hc1 : ¬cond0_1 i) (h : Fin 4) (e d : Fin 128) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 (ix3 h e d)
      = (next ((tokK x0 x4 x5 x6 (xbKB arg13 harg13 x0 x2 x3 xs0) (gK x1 x7) (bK x1 x7 x9)) h) ((stK xs1 xs2 xs3) h)).C e d := by
  suffices hs : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = matArr (tokK x0 x4 x5 x6 (xbKB arg13 harg13 x0 x2 x3 xs0) (gK x1 x7) (bK x1 x7 x9)) (stK xs1 xs2 xs3) by rw [hs]; rfl
  unfold sout0_B_1
  rw [View.read_writes_junk_eq_canon]
  funext y
  have hcov := scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 y
  revert hcov
  unfold kernelRun0_B
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread]
  simp (config := {failIfUnchanged := false}) only [k0_pay14, k0_pay15, k0_pay17]
  generalize hB : k0_pay13 (F := Ideal) _ _ _ = B
  generalize hG : k0_pay12 (F := Ideal) _ _ = G
  generalize hXB : k0_pay11 (F := Ideal) _ _ _ = XB
  have e1 : xbKB arg13 harg13 x0 x2 x3 xs0 = XB := hXB
  have e2 : gK x1 x7 = G := hG
  have e3 : bK x1 x7 x9 = B := hB
  rw [e1, e2, e3]
  clear hXB hG hB e1 e2 e3
  simp (config := {failIfUnchanged := false, decide := true}) only [mat_skip, row_skip, View.writes_nil, harg14.read_unread, harg15.read_unread, harg16.read_unread, View.readAt_eq_ld]
  intro hcov
  refine View.canon_apply_of_pieces _ _ (View.PiecesOf.mem ?_) y hcov
  clear hcov
  refine ⟨fun x => ?_, fun x => ?_, fun x => ?_, fun x => ?_, trivial⟩
  all_goals
    dsimp only
    idx_vars x
    rw [emb_mat _ _ (by decide), matArr_at]
    unfold_payloads
    pointwise [hOf_add, dOf_add, qOf, tokK, stK, St.zero, dlog, mx, qk, wOld, num, den, hd, res, endLog, mLoc, mNew, kw, next, mask_eq, neg_inf_f32]

end Cert.MlstmIdeal.Value

end

end
-- ==== Proof.MOutA.lean ====
module

public import proofs.«01_k».proof.Proof.Gen.MlstmIdeal.Value
public import proofs.«01_k».proof.Proof.MWin
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- What a sequence's first point leaves in the output block. -/
theorem out0_A_10_eq (hc0 : cond0_0 i) (hc1 : cond0_1 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
      = outArr x0 x8 (tokK x0 x4 x5 x6 (xbKA arg13 x0 x2 x3) (gK x1 x7) (bK x1 x7 x9)) (fun _ => St.zero) := by
  unfold out0_A_10
  rw [View.read_writes_junk_eq_canon]
  unfold kernelRun0_A
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread]
  simp (config := {failIfUnchanged := false}) only [k0_pay14, k0_pay15, k0_pay17]
  generalize hB : k0_pay13 (F := Ideal) _ _ _ = B
  generalize hG : k0_pay12 (F := Ideal) _ _ = G
  generalize hXB : k0_pay11 (F := Ideal) _ _ _ = XB
  have e1 : xbKA arg13 x0 x2 x3 = XB := hXB
  have e2 : gK x1 x7 = G := hG
  have e3 : bK x1 x7 x9 = B := hB
  rw [e1, e2, e3]
  clear hXB hG hB e1 e2 e3
  simp (config := {failIfUnchanged := false, decide := true}) only [View.readCov, mat_skip, row_skip, mat_fill, row_fill]
  funext y
  refine View.canon_apply_of_pieces _ _ (View.PiecesOf.mem ?_) y ?_
  rotate_left 1
  · exact View.cover_of_tiledL _ ![1, 128, 128] (by sl_kernel_rfl) y
  refine ⟨fun x => ?_, fun x => ?_, fun x => ?_, fun x => ?_, trivial⟩
  all_goals
    dsimp only
    idx_vars x
    rw [emb_head _ _ (by decide), outArr_at, hOf_add _ _ _ (by rfl), dOf_add _ _ _ (by rfl)]
    simp only [Nat.reduceDiv]
    unfold_payloads
    pointwise [hOf_add, dOf_add, qOf, tokK, stK, St.zero, dlog, mx, qk, wOld, num, den, hd, res, oK, nK, endLog, mLoc, mNew, kw, next, mask_bot, neg_inf_f32]

end Cert.MlstmIdeal.Value

end

end
-- ==== Proof.MOutB.lean ====
module

public import proofs.«01_k».proof.Proof.Gen.MlstmIdeal.Value
public import proofs.«01_k».proof.Proof.MWin
public import Idealize.ShloMosaic.Lib.Pointwise
public import Idealize.ShloMosaic.Lib.Pipeline.ReadBack
public import Idealize.ShloMosaic.Lib.Pipeline.ValueKit.Tiles

@[expose] public section
set_option maxRecDepth 16384
noncomputable section
open Idealize.ShloMosaic Idealize.ShloMosaic.TcCoe Idealize.SL.Sem
open Idealize.ShloMosaic.Pipeline (Dat)
namespace Cert.MlstmIdeal.Value
open Cert.MlstmIdeal Cert.MlstmIdeal.Gen Cert.Ml
open Cert.Ssd (gate softplus tIx mask_eq neg_inf_f32)

variable (c : Dev nD) (i : grid0.Coords) (arg2 : Memref sig .tc .vmem S1x128x1024 .f32) (harg2 : arg2.IsWhole) (arg3 : Memref sig .tc .vmem S1x128x128 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S4x128x128 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S128x128 .f32) (harg11 : arg11.IsWhole) (arg12 : Memref sig .tc .vmem S1x128x512 .f32) (harg12 : arg12.IsWhole) (arg13 : Memref sig .tc .vmem S136x512 .f32) (harg13 : arg13.IsWhole) (arg14 : Memref sig .tc .vmem S4x128x128 .f32) (harg14 : arg14.IsWhole) (arg15 : Memref sig .tc .vmem S8x128 .f32) (harg15 : arg15.IsWhole) (arg16 : Memref sig .tc .vmem S8x128 .f32) (harg16 : arg16.IsWhole)
    (x0 : Vec Ideal S1x128x1024 .f32) (x1 : Vec Ideal S1x128x128 .f32) (x2 : Vec Ideal S4x512 .f32) (x3 : Vec Ideal S1x512 .f32) (x4 : Vec Ideal S4x128x128 .bf16) (x5 : Vec Ideal S4x128x128 .bf16) (x6 : Vec Ideal S4x128x128 .bf16) (x7 : Vec Ideal S1x128 .f32) (x8 : Vec Ideal S1x512 .f32) (x9 : Vec Ideal S128x128 .f32) (xs0 : Vec Ideal S136x512 .f32) (xs1 : Vec Ideal S4x128x128 .f32) (xs2 : Vec Ideal S8x128 .f32) (xs3 : Vec Ideal S8x128 .f32)

/-- What a point that is not a sequence's first leaves in the output block. -/
theorem out0_B_10_eq (hc0 : ¬cond0_0 i) (hc1 : ¬cond0_1 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = outArr x0 x8 (tokK x0 x4 x5 x6 (xbKB arg13 harg13 x0 x2 x3 xs0) (gK x1 x7) (bK x1 x7 x9)) (stK xs1 xs2 xs3) := by
  unfold out0_B_10
  rw [View.read_writes_junk_eq_canon]
  unfold kernelRun0_B
  dsimp only
  sl_unfold_words
  simp (config := {failIfUnchanged := false}) only [View.readAt_eq_ld, harg2.read_unread, harg3.read_unread, harg4.read_unread, harg5.read_unread, harg6.read_unread, harg7.read_unread, harg8.read_unread, harg9.read_unread, harg10.read_unread, harg11.read_unread]
  simp (config := {failIfUnchanged := false}) only [k0_pay14, k0_pay15, k0_pay17]
  generalize hB : k0_pay13 (F := Ideal) _ _ _ = B
  generalize hG : k0_pay12 (F := Ideal) _ _ = G
  generalize hXB : k0_pay11 (F := Ideal) _ _ _ = XB
  have e1 : xbKB arg13 harg13 x0 x2 x3 xs0 = XB := hXB
  have e2 : gK x1 x7 = G := hG
  have e3 : bK x1 x7 x9 = B := hB
  rw [e1, e2, e3]
  clear hXB hG hB e1 e2 e3
  simp (config := {failIfUnchanged := false, decide := true}) only [mat_skip, row_skip, View.writes_nil, harg14.read_unread, harg15.read_unread, harg16.read_unread, View.readAt_eq_ld]
  funext y
  refine View.canon_apply_of_pieces _ _ (View.PiecesOf.mem ?_) y ?_
  rotate_left 1
  · exact View.cover_of_tiledL _ ![1, 128, 128] (by sl_kernel_rfl) y
  refine ⟨fun x => ?_, fun x => ?_, fun x => ?_, fun x => ?_, trivial⟩
  all_goals
    dsimp only
    idx_vars x
    rw [emb_head _ _ (by decide), outArr_at, hOf_add _ _ _ (by rfl), dOf_add _ _ _ (by rfl)]
    simp only [Nat.reduceDiv]
    unfold_payloads
    pointwise [hOf_add, dOf_add, qOf, tokK, stK, St.zero, dlog, mx, qk, wOld, num, den, hd, res, oK, nK, endLog, mLoc, mNew, kw, next, mask_bot, neg_inf_f32]

end Cert.MlstmIdeal.Value

end

end
-- ==== Proof.MFold.lean ====
module

public import proofs.«01_k».proof.Proof.MChunk
public import proofs.«01_k».proof.Proof.MMaxA
public import proofs.«01_k».proof.Proof.MMaxB
public import proofs.«01_k».proof.Proof.MVecA
public import proofs.«01_k».proof.Proof.MVecB
public import proofs.«01_k».proof.Proof.MMatA
public import proofs.«01_k».proof.Proof.MMatB
public import proofs.«01_k».proof.Proof.MOutA
public import proofs.«01_k».proof.Proof.MOutB

@[expose] public section
set_option maxRecDepth 16384
noncomputable section
open Idealize.ShloMosaic Idealize.ShloMosaic.TcCoe Idealize.SL.Sem
namespace Cert.MlstmIdeal.Value
open Cert.MlstmIdeal Cert.MlstmIdeal.Gen Cert.Ml
open Cert.Ssd (tIx)

variable (m : (ℓ : Loc nD τ sig) → Buf (Elt Ideal) ℓ) (c : Dev nD)

/-- The output block of a chunk holds the layer's results. -/
theorem out_of (t : Fin cfg0.N) (T : Fin 4 → Tok) (S : Fin 4 → St) (hT : T = (dataK m c).tok (bOf t) (cOf t)) (hS : S = (dataK m c).st (bOf t) (cOf t))
    (l : Fin 128) (q : Fin 512) :
    outArr (iblk m c 0 t) (iblk m c 8 t) T S (ix3 0 l q) = (dataK m c).out (bOf t) (cOf t) l q := by
  subst hT hS
  rw [outArr_at]
  have e1 : oK (iblk m c 0 t) (hOf q) = fun l d => (dataK m c).u (bOf t) (tIx (cOf t) l) ⟨512 + (qOf (hOf q) d).val, by omega⟩ :=
    funext fun l => funext fun d => u_at m c t l _
  have e2 : nK (iblk m c 8 t) (hOf q) = fun d => (dataK m c).ng (qOf (hOf q) d) := funext fun d => ng_at m c t _
  rw [e1, e2]
  rfl

/-- What a point's carried values are: its chunk's results, the last eight rows of its block, and what each head carries
    out of its chunk. -/
structure Good (t : Fin cfg0.N) (acc : Vec Ideal S1x128x512 .f32 × Vec Ideal S136x512 .f32 × Vec Ideal S4x128x128 .f32 × Vec Ideal S8x128 .f32 × Vec Ideal S8x128 .f32) : Prop where
  out : ∀ l q, acc.1 (ix3 0 l q) = (dataK m c).out (bOf t) (cOf t) l q
  halo : ∀ (r : Fin 136) (hr : r.val < 8) (j : Fin 512),
    acc.2.1 (ix2 r j) = (dataK m c).u (bOf t) (tIx (cOf t) ⟨120 + r.val, by omega⟩) ⟨j.val, by omega⟩
  state : stK acc.2.2.1 acc.2.2.2.1 acc.2.2.2.2 = (dataK m c).st (bOf t) (cOf t + 1)

/-- What the three state buffers hold of the heads, from what they hold at each index. -/
theorem stK_of (s1 : Vec Ideal S4x128x128 .f32) (s2 s3 : Vec Ideal S8x128 .f32) (S : Fin 4 → St)
    (h1 : ∀ (h : Fin 4) (e d : Fin 128), s1 (ix3 h e d) = (S h).C e d) (h2 : ∀ (h : Fin 4) (e : Fin 128), s2 (ix2 ⟨h.val, by omega⟩ e) = (S h).N e)
    (h3 : ∀ (h : Fin 4) (e : Fin 128), s3 (ix2 ⟨h.val, by omega⟩ e) = (S h).M) : stK s1 s2 s3 = S := by
  funext h
  have e1 : (fun e d => s1 (ix3 h e d)) = (S h).C := funext fun e => funext fun d => h1 h e d
  have e2 : (fun e => s2 (ix2 ⟨h.val, by omega⟩ e)) = (S h).N := funext fun e => h2 h e
  unfold stK
  rw [e1, e2, h3]

/-- A sequence's first point leaves them, whatever was carried. -/
theorem good_A (t : Fin cfg0.N) (acc) (h : t.val % 128 = 0) : Good m c t (stAt0 m c t.val t.isLt acc) := by
  have hc : cOf t = 0 := h
  have hT := tok_of m c t _ (xb_at_A m c t scM0_0 hc)
  have hS : (fun _ => St.zero) = (dataK m c).st (bOf t) (cOf t) := by rw [hc]; rfl
  rw [stAt0_A m c t acc h h]
  refine ⟨fun l q => ?_, fun r hr j => ?_, ?_⟩
  · dsimp only
    rw [out0_A_10_eq]
    exact out_of m c t _ _ hT hS l q
  · dsimp only
    rw [sout0_A_0_at (hr := hr), u_at]
  · dsimp only
    refine stK_of _ _ _ _ (fun h e d => ?_) (fun h e => ?_) (fun h e => ?_)
    · rw [sout0_A_1_at, hT, hS]
      rfl
    · rw [sout0_A_2_at, hT, hS]
      rfl
    · rw [sout0_A_3_at, hT, hS]
      rfl

/-- A later point leaves them where the point before did. -/
theorem good_B (t t' : Fin cfg0.N) (acc) (h : ¬t.val % 128 = 0) (ht : t.val = t'.val + 1) (hg : Good m c t' acc) :
    Good m c t (stAt0 m c t.val t.isLt acc) := by
  have hc : cOf t ≠ 0 := h
  have hb : bOf t' = bOf t := Fin.ext (by show t'.val / 128 = t.val / 128; omega)
  have hc' : cOf t' = cOf t - 1 := by show t'.val % 128 = t.val % 128 - 1; omega
  have hS : stK acc.2.2.1 acc.2.2.2.1 acc.2.2.2.2 = (dataK m c).st (bOf t) (cOf t) := by
    rw [hg.state, hb, hc', Nat.sub_add_cancel (Nat.one_le_iff_ne_zero.2 hc)]
  have hx : ∀ (r : Fin 136) (hr : r.val < 8) (j : Fin 512),
      acc.2.1 (ix2 r j) = (dataK m c).u (bOf t) (tIx (cOf t - 1) ⟨120 + r.val, by omega⟩) ⟨j.val, by omega⟩ := by
    intro r hr j
    rw [hg.halo r hr j, hb, hc']
  have hT := tok_of m c t _ (xb_at_B m c t scM0_0 (Memref.isWhole_whole _) hc _ hx)
  rw [stAt0_B m c t acc h h]
  refine ⟨fun l q => ?_, fun r hr j => ?_, ?_⟩
  · dsimp only
    rw [out0_B_10_eq]
    exact out_of m c t _ _ hT hS l q
  · dsimp only
    rw [sout0_B_0_at (hr := hr), u_at]
  · dsimp only
    refine stK_of _ _ _ _ (fun h e d => ?_) (fun h e => ?_) (fun h e => ?_)
    · rw [sout0_B_1_at, hT, hS]
      rfl
    · rw [sout0_B_2_at, hT, hS]
      rfl
    · rw [sout0_B_3_at, hT, hS]
      rfl

/-- So every point leaves them. -/
theorem good_all : ∀ (n : ℕ) (hn : n < cfg0.N), Good m c ⟨n, hn⟩ (outsAt0 m c n hn)
  | 0, hn => by
    rw [outsAt0_zero]
    exact good_A m c ⟨0, hn⟩ _ rfl
  | n + 1, hn => by
    rw [outsAt0_succ]
    by_cases h : (n + 1) % 128 = 0
    · exact good_A m c ⟨n + 1, hn⟩ _ h
    · exact good_B m c ⟨n + 1, hn⟩ ⟨n, Nat.lt_of_succ_lt hn⟩ _ h rfl (good_all n _)

/-- The result array of the call, at an index. -/
theorem G10_at (b : Fin 2) (t : Fin 16384) (q : Fin 512) :
    (G10 m c : Vec Ideal S2x16384x512 .f32) (ix3 b t q)
      = (dataK m c).out b (t.val / 128) ⟨t.val % 128, Nat.mod_lt _ (by omega)⟩ q := by
  have hp : pt10Of (ix3 b t q) = b.val * 128 + t.val / 128 := by
    show 128 * (b.val / 1 - 0) + 1 * (t.val / 128 - 0) + 1 * (q.val / 512 - 0) = _
    omega
  have hlt : pt10Of (ix3 b t q) < cfg0.N := by
    rw [hp, show cfg0.N = 256 from N_0]
    omega
  unfold G10
  rw [dif_pos hlt, ← outsAt0_sweep m c _ hlt]
  have hl : loc10Of (ix3 b t q) = ix3 0 ⟨t.val % 128, Nat.mod_lt _ (by omega)⟩ q := by
    funext a
    match a with
    | ⟨0, _⟩ => exact Fin.ext (Nat.mod_one _)
    | ⟨1, _⟩ => rfl
    | ⟨2, _⟩ => exact Fin.ext (Nat.mod_eq_of_lt q.isLt)
  rw [hl, (good_all m c _ hlt).out]
  have hb : bOf ⟨pt10Of (ix3 b t q), hlt⟩ = b := Fin.ext (by show pt10Of (ix3 b t q) / 128 = b.val; rw [hp]; omega)
  have hc : cOf ⟨pt10Of (ix3 b t q), hlt⟩ = t.val / 128 := by show pt10Of (ix3 b t q) % 128 = _; rw [hp]; omega
  rw [hb, hc]

end Cert.MlstmIdeal.Value
-- ==== Proof.NKeep.lean ====
module

public import proofs.«01_k».proof.Proof.Gen.MlstmRefIdeal.Run
public import proofs.«01_k».proof.Proof.Mask
public import proofs.«01_k».proof.Proof.MSpec
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

variable (V : Valuation τ sig (Elt Ideal))

/-- The arguments of the call. -/
abbrev argRefs : List (Ref sig .tc) := [main_arg0, main_arg1, main_arg2, main_arg3, main_arg4, main_arg5, main_arg6, main_arg7, main_arg8]

/-- What lies before the loop and is read, or must be found unchanged, after it. -/
abbrev keptRefs : List (Ref sig .tc) := main_v59 :: main_v60 :: main_v61 :: main_v62 :: main_v63 :: main_v75 :: main_v76 :: argRefs

/-- The buffers the stretch after the loop writes. -/
abbrev hostOps0_13_W : List (Ref sig .tc) := [main_v104, main_v105, main_v106, main_v107, main_v108, main_v109, main_v110, main_v111, main_v112, main_v113, main_v114, main_v115, main_v116, main_v117, main_v118, main_v119, main_v120, main_v121, main_v122, main_v123, main_v124, main_v125, main_v126, main_v127, main_cst_13, main_v128, main_v129, main_v130, main_v131, main_v132, main_v133, main_v134, main_v135, main_v136, main_v137, main_v138, main_v139, main_v140, main_v141, main_v142, main_v143, main_v144, main_cst_14, main_v145, main_v146, main_cst_15, main_v147, main_v148, main_cst_16, main_v149, main_v150, main_v151, main_v152, main_v153, main_v154, main_v155, main_v156, main_v157]
/-- It writes no other. -/
theorem hostOps0_13_writes : (hostOps0_13 : List (HloOp τ sig (Elt Ideal))).Forall fun op => op.writes ⊆ (hostOps0_13_W.map (Proc.devRef (τ := τ) .tc)).toFinset :=
  StableHlo.forall_writes_sub_of_map rfl

/-! What the buffers hold after each of the stretches before the loop: `e k` after the `k`-th, from `V`. -/

def e0 : Valuation τ sig (Elt Ideal) := after hostOps0 V
def e1 : Valuation τ sig (Elt Ideal) := after hostOps0_1 (e0 V)
def e2 : Valuation τ sig (Elt Ideal) := after hostOps0_2 (e1 V)
def e3 : Valuation τ sig (Elt Ideal) := after hostOps0_3 (e2 V)
def e4 : Valuation τ sig (Elt Ideal) := after hostOps0_4 (e3 V)
def e5 : Valuation τ sig (Elt Ideal) := after hostOps0_5 (e4 V)
def e6 : Valuation τ sig (Elt Ideal) := after hostOps0_6 (e5 V)
def e7 : Valuation τ sig (Elt Ideal) := after hostOps0_7 (e6 V)
def e8 : Valuation τ sig (Elt Ideal) := after hostOps0_8 (e7 V)
def e9 : Valuation τ sig (Elt Ideal) := after hostOps0_9 (e8 V)
def e10 : Valuation τ sig (Elt Ideal) := after hostOps0_10 (e9 V)
def e11 : Valuation τ sig (Elt Ideal) := after hostOps0_11 (e10 V)
def e12 : Valuation τ sig (Elt Ideal) := after hostOps0_12 (e11 V)

theorem e0_keep (r : Ref sig .tc) (h : r ∉ hostOps0_W) : e0 V (Proc.devRef .tc r) = V (Proc.devRef .tc r) := after_of_writes_sub hostOps0 _ hostOps0_writes h
theorem e1_keep (r : Ref sig .tc) (h : r ∉ hostOps0_1_W) : e1 V (Proc.devRef .tc r) = e0 V (Proc.devRef .tc r) := after_of_writes_sub hostOps0_1 _ hostOps0_1_writes h
theorem e2_keep (r : Ref sig .tc) (h : r ∉ hostOps0_2_W) : e2 V (Proc.devRef .tc r) = e1 V (Proc.devRef .tc r) := after_of_writes_sub hostOps0_2 _ hostOps0_2_writes h
theorem e3_keep (r : Ref sig .tc) (h : r ∉ hostOps0_3_W) : e3 V (Proc.devRef .tc r) = e2 V (Proc.devRef .tc r) := after_of_writes_sub hostOps0_3 _ hostOps0_3_writes h
theorem e4_keep (r : Ref sig .tc) (h : r ∉ hostOps0_4_W) : e4 V (Proc.devRef .tc r) = e3 V (Proc.devRef .tc r) := after_of_writes_sub hostOps0_4 _ hostOps0_4_writes h
theorem e5_keep (r : Ref sig .tc) (h : r ∉ hostOps0_5_W) : e5 V (Proc.devRef .tc r) = e4 V (Proc.devRef .tc r) := after_of_writes_sub hostOps0_5 _ hostOps0_5_writes h
theorem e6_keep (r : Ref sig .tc) (h : r ∉ hostOps0_6_W) : e6 V (Proc.devRef .tc r) = e5 V (Proc.devRef .tc r) := after_of_writes_sub hostOps0_6 _ hostOps0_6_writes h
theorem e7_keep (r : Ref sig .tc) (h : r ∉ hostOps0_7_W) : e7 V (Proc.devRef .tc r) = e6 V (Proc.devRef .tc r) := after_of_writes_sub hostOps0_7 _ hostOps0_7_writes h
theorem e8_keep (r : Ref sig .tc) (h : r ∉ hostOps0_8_W) : e8 V (Proc.devRef .tc r) = e7 V (Proc.devRef .tc r) := after_of_writes_sub hostOps0_8 _ hostOps0_8_writes h
theorem e9_keep (r : Ref sig .tc) (h : r ∉ hostOps0_9_W) : e9 V (Proc.devRef .tc r) = e8 V (Proc.devRef .tc r) := after_of_writes_sub hostOps0_9 _ hostOps0_9_writes h
theorem e10_keep (r : Ref sig .tc) (h : r ∉ hostOps0_10_W) : e10 V (Proc.devRef .tc r) = e9 V (Proc.devRef .tc r) := after_of_writes_sub hostOps0_10 _ hostOps0_10_writes h
theorem e11_keep (r : Ref sig .tc) (h : r ∉ hostOps0_11_W) : e11 V (Proc.devRef .tc r) = e10 V (Proc.devRef .tc r) := after_of_writes_sub hostOps0_11 _ hostOps0_11_writes h
theorem e12_keep (r : Ref sig .tc) (h : r ∉ hostOps0_12_W) : e12 V (Proc.devRef .tc r) = e11 V (Proc.devRef .tc r) := after_of_writes_sub hostOps0_12 _ hostOps0_12_writes h

/-! No stretch before the loop writes an argument. -/

theorem e0_arg (r : Ref sig .tc) (h : r ∈ argRefs) : e0 V (Proc.devRef .tc r) = V (Proc.devRef .tc r) :=
  e0_keep V r ((by decide +kernel : ∀ r ∈ argRefs, r ∉ hostOps0_W) r h)
theorem e1_arg (r : Ref sig .tc) (h : r ∈ argRefs) : e1 V (Proc.devRef .tc r) = V (Proc.devRef .tc r) :=
  (e1_keep V r ((by decide +kernel : ∀ r ∈ argRefs, r ∉ hostOps0_1_W) r h)).trans (e0_arg V r h)
theorem e2_arg (r : Ref sig .tc) (h : r ∈ argRefs) : e2 V (Proc.devRef .tc r) = V (Proc.devRef .tc r) :=
  (e2_keep V r ((by decide +kernel : ∀ r ∈ argRefs, r ∉ hostOps0_2_W) r h)).trans (e1_arg V r h)
theorem e3_arg (r : Ref sig .tc) (h : r ∈ argRefs) : e3 V (Proc.devRef .tc r) = V (Proc.devRef .tc r) :=
  (e3_keep V r ((by decide +kernel : ∀ r ∈ argRefs, r ∉ hostOps0_3_W) r h)).trans (e2_arg V r h)
theorem e4_arg (r : Ref sig .tc) (h : r ∈ argRefs) : e4 V (Proc.devRef .tc r) = V (Proc.devRef .tc r) :=
  (e4_keep V r ((by decide +kernel : ∀ r ∈ argRefs, r ∉ hostOps0_4_W) r h)).trans (e3_arg V r h)
theorem e5_arg (r : Ref sig .tc) (h : r ∈ argRefs) : e5 V (Proc.devRef .tc r) = V (Proc.devRef .tc r) :=
  (e5_keep V r ((by decide +kernel : ∀ r ∈ argRefs, r ∉ hostOps0_5_W) r h)).trans (e4_arg V r h)
theorem e6_arg (r : Ref sig .tc) (h : r ∈ argRefs) : e6 V (Proc.devRef .tc r) = V (Proc.devRef .tc r) :=
  (e6_keep V r ((by decide +kernel : ∀ r ∈ argRefs, r ∉ hostOps0_6_W) r h)).trans (e5_arg V r h)
theorem e7_arg (r : Ref sig .tc) (h : r ∈ argRefs) : e7 V (Proc.devRef .tc r) = V (Proc.devRef .tc r) :=
  (e7_keep V r ((by decide +kernel : ∀ r ∈ argRefs, r ∉ hostOps0_7_W) r h)).trans (e6_arg V r h)
theorem e8_arg (r : Ref sig .tc) (h : r ∈ argRefs) : e8 V (Proc.devRef .tc r) = V (Proc.devRef .tc r) :=
  (e8_keep V r ((by decide +kernel : ∀ r ∈ argRefs, r ∉ hostOps0_8_W) r h)).trans (e7_arg V r h)
theorem e9_arg (r : Ref sig .tc) (h : r ∈ argRefs) : e9 V (Proc.devRef .tc r) = V (Proc.devRef .tc r) :=
  (e9_keep V r ((by decide +kernel : ∀ r ∈ argRefs, r ∉ hostOps0_9_W) r h)).trans (e8_arg V r h)
theorem e10_arg (r : Ref sig .tc) (h : r ∈ argRefs) : e10 V (Proc.devRef .tc r) = V (Proc.devRef .tc r) :=
  (e10_keep V r ((by decide +kernel : ∀ r ∈ argRefs, r ∉ hostOps0_10_W) r h)).trans (e9_arg V r h)
theorem e11_arg (r : Ref sig .tc) (h : r ∈ argRefs) : e11 V (Proc.devRef .tc r) = V (Proc.devRef .tc r) :=
  (e11_keep V r ((by decide +kernel : ∀ r ∈ argRefs, r ∉ hostOps0_11_W) r h)).trans (e10_arg V r h)
theorem e12_arg (r : Ref sig .tc) (h : r ∈ argRefs) : e12 V (Proc.devRef .tc r) = V (Proc.devRef .tc r) :=
  (e12_keep V r ((by decide +kernel : ∀ r ∈ argRefs, r ∉ hostOps0_12_W) r h)).trans (e11_arg V r h)

/-- One trip leaves what is kept: neither the condition nor the body writes it. -/
theorem trip_keep (r : Ref sig .tc) (h : r ∈ keptRefs) : afterL bodyI (after condOps V) (Proc.devRef .tc r) = V (Proc.devRef .tc r) := by
  simp only [afterL_cons, afterL_nil]
  rw [after_of_writes_sub while0Ops0_8 _ while0Ops0_8_writes ((by decide +kernel : ∀ r ∈ keptRefs, r ∉ while0Ops0_8_W) r h),
    after_of_writes_sub while0Ops0_7 _ while0Ops0_7_writes ((by decide +kernel : ∀ r ∈ keptRefs, r ∉ while0Ops0_7_W) r h),
    after_of_writes_sub while0Ops0_6 _ while0Ops0_6_writes ((by decide +kernel : ∀ r ∈ keptRefs, r ∉ while0Ops0_6_W) r h),
    after_of_writes_sub while0Ops0_5 _ while0Ops0_5_writes ((by decide +kernel : ∀ r ∈ keptRefs, r ∉ while0Ops0_5_W) r h),
    after_of_writes_sub while0Ops0_4 _ while0Ops0_4_writes ((by decide +kernel : ∀ r ∈ keptRefs, r ∉ while0Ops0_4_W) r h),
    after_of_writes_sub while0Ops0_3 _ while0Ops0_3_writes ((by decide +kernel : ∀ r ∈ keptRefs, r ∉ while0Ops0_3_W) r h),
    after_of_writes_sub while0Ops0_2 _ while0Ops0_2_writes ((by decide +kernel : ∀ r ∈ keptRefs, r ∉ while0Ops0_2_W) r h),
    after_of_writes_sub while0Ops0_1 _ while0Ops0_1_writes ((by decide +kernel : ∀ r ∈ keptRefs, r ∉ while0Ops0_1_W) r h),
    after_of_writes_sub while0Ops0 _ while0Ops0_writes ((by decide +kernel : ∀ r ∈ keptRefs, r ∉ while0Ops0_W) r h),
    after_of_writes_sub condOps _ condOps_writes ((by decide +kernel : ∀ r ∈ keptRefs, r ∉ condOps_W) r h)]

variable (m : (ℓ : Loc nD τ sig) → Buf (Elt Ideal) ℓ)

/-- What the buffers of a device hold at the launch. -/
abbrev launch (c : Dev nD) : Valuation τ sig (Elt Ideal) := fun b => m (c, b)

/-- The loop is entered with what the stretches before it leave. -/
theorem entry_eq (c : Dev nD) : entryContents preI m c = e12 (launch m c) := rfl

/-- Any number of trips leave it. -/
theorem atK_keep (c : Dev nD) (r : Ref sig .tc) (h : r ∈ keptRefs) :
    ∀ k, atK m k c (Proc.devRef .tc r) = e12 (launch m c) (Proc.devRef .tc r)
  | 0 => congrFun (entry_eq m c) _
  | k + 1 => (trip_keep (atK m k c) r h).trans (atK_keep c r h k)

/-- What the buffers hold after the loop. -/
def pf (c : Dev nD) : Valuation τ sig (Elt Ideal) := after condOps (atK m 128 c)

/-- The run ends with what the stretch after the loop leaves. -/
theorem final_eq (c : Dev nD) : finalContents condOps preI bodyI postI 128 m c = after hostOps0_13 (pf m c) := rfl

/-- What is kept is found after the loop. -/
theorem pf_keep (c : Dev nD) (r : Ref sig .tc) (h : r ∈ keptRefs) : pf m c (Proc.devRef .tc r) = e12 (launch m c) (Proc.devRef .tc r) :=
  (after_of_writes_sub condOps _ condOps_writes ((by decide +kernel : ∀ r ∈ keptRefs, r ∉ condOps_W) r h)).trans (atK_keep m c r h 128)

/-- The whole run leaves an argument as it was at the launch. -/
theorem final_arg (c : Dev nD) (r : Ref sig .tc) (h : r ∈ argRefs) :
    finalContents condOps preI bodyI postI 128 m c (Proc.devRef .tc r) = m ((c.tc : Thread nD τ).loc r) := by
  rw [final_eq, after_of_writes_sub hostOps0_13 _ hostOps0_13_writes ((by decide +kernel : ∀ r ∈ argRefs, r ∉ hostOps0_13_W) r h),
    pf_keep m c r ((by decide +kernel : ∀ r ∈ argRefs, r ∈ keptRefs) r h), e12_arg _ r h]

end Cert.MlstmRefIdeal.Value
-- ==== Proof.NHead.lean ====
module

public import proofs.«01_k».proof.Proof.Gen.MlstmRefIdeal.Run
public import proofs.«01_k».proof.Proof.Mask
public import proofs.«01_k».proof.Proof.MSpec
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

variable (V : Valuation τ sig (Elt Ideal))

/-- Step `l` of chunk `k`. -/
def kl (k l : Fin 128) : Fin 16384 := ⟨k.val * 128 + l.val, by omega⟩

/-- The same, as steps are counted everywhere. -/
theorem kl_eq (k l : Fin 128) : kl k l = tIx k.val l := Fin.ext (by simp only [kl, tIx]; omega)

/-- The channels that the convolution reads. -/
theorem s0_v0 (D : Data) (hu : ∀ b t j, (V (Proc.devRef .tc main_arg0) : Vec Ideal S2x16384x1024 .f32) (ix3 b t j) = D.u b t j)
    (b : Fin 2) (t : Fin 16384) (q : Fin 512) :
    (after hostOps0 V (Proc.devRef .tc main_v0) : Vec Ideal S2x16384x512 .f32) (ix3 b t q) = D.u b t ⟨q.val, by omega⟩ := by
  after_reads_at
  exact hu _ _ _

/-- The output gate's input. -/
theorem s0_v1 (D : Data) (hu : ∀ b t j, (V (Proc.devRef .tc main_arg0) : Vec Ideal S2x16384x1024 .f32) (ix3 b t j) = D.u b t j)
    (b : Fin 2) (t : Fin 16384) (q : Fin 512) :
    (after hostOps0 V (Proc.devRef .tc main_v1) : Vec Ideal S2x16384x512 .f32) (ix3 b t q) = D.u b t ⟨512 + q.val, by omega⟩ := by
  after_reads_at
  exact hu _ _ _

/-- The gates' inputs. -/
theorem s0_v2 (D : Data) (hs : ∀ b t j, (V (Proc.devRef .tc main_arg1) : Vec Ideal S2x16384x128 .f32) (ix3 b t j) = D.sm b t j)
    (b : Fin 2) (t : Fin 16384) (h : Fin 8) :
    (after hostOps0 V (Proc.devRef .tc main_v2) : Vec Ideal S2x16384x8 .f32) (ix3 b t h) = D.sm b t ⟨16 + h.val, by omega⟩ := by
  after_reads_at
  exact hs _ _ _

/-- The padding's zero. -/
theorem s0_c : (after hostOps0 V (Proc.devRef .tc main_c) : IVec S_ 32) = constantI S_ 32 0#32 := by
  after_reads_simp

/-- The channels with three zero steps before them. -/
theorem s1_v3 (D : Data) (hu : ∀ b t q, (V (Proc.devRef .tc main_v0) : Vec Ideal S2x16384x512 .f32) (ix3 b t q) = D.u b t ⟨q.val, by omega⟩)
    (hc : (V (Proc.devRef .tc main_c) : IVec S_ 32) = constantI S_ 32 0#32) (b : Fin 2) (t : Fin 16387) (q : Fin 512) :
    (after hostOps0_1 V (Proc.devRef .tc main_v3) : Vec Ideal S2x16387x512 .f32) (ix3 b t q) =
      (if h : 3 ≤ t.val then D.u b ⟨t.val - 3, by omega⟩ ⟨q.val, by omega⟩ else 0 : EReal) := by
  after_reads_at
  by_cases h : 3 ≤ t.val
  · rw [dif_pos h, dif_pos ⟨h, by omega⟩]
    exact hu _ _ _
  · rw [dif_neg h, dif_neg fun hh => h hh.1, hc]
    show (((0#32 : BitVec 32).toInt : ℝ) : EReal) = 0
    simp

/-- The causal convolution. -/
theorem s2_v33 (D : Data) (hu : ∀ b t (q : Fin 512), (V (Proc.devRef .tc main_v3) : Vec Ideal S2x16387x512 .f32) (ix3 b t q) =
      (if h : 3 ≤ t.val then D.u b ⟨t.val - 3, by omega⟩ ⟨q.val, by omega⟩ else 0 : EReal))
    (hw : ∀ k j, (V (Proc.devRef .tc main_arg2) : Vec Ideal S4x512 .f32) (ix2 k j) = D.w k j)
    (hb : ∀ j, (V (Proc.devRef .tc main_arg3) : Vec Ideal S512 .f32) (ix1 j) = D.cb j)
    (b : Fin 2) (t : Fin 16384) (j : Fin 512) :
    (after hostOps0_2 V (Proc.devRef .tc main_v33) : Vec Ideal S2x16384x512 .f32) (ix3 b t j) = D.conv b t j := by
  have hl : ∀ (k : ℕ) (hk : k < 3), (V (Proc.devRef .tc main_v3) : Vec Ideal S2x16387x512 .f32) (ix3 b ⟨k + t.val, by omega⟩ j) = D.lag b t k j := by
    intro k hk
    rw [hu, Data.lag]
    by_cases h : t.val + k < 3
    · rw [if_pos h, dif_neg (by dsimp only; omega)]
    · rw [if_neg h, dif_pos (by dsimp only; omega)]
      exact congrArg (fun r => D.u b r _) (Fin.ext (by dsimp only; omega))
  after_reads_at
  have h0 := hl 0 (by omega)
  simp only [Nat.zero_add] at h0
  rw [h0, hl 1 (by omega), hl 2 (by omega), hu, dif_pos (by dsimp only; omega), hw, hw, hw, hw, hb, Data.conv,
    show (⟨3 + t.val - 3, by omega⟩ : Fin 16384) = t from Fin.ext (by dsimp only; omega)]
  generalize D.lag b t 0 j * D.w 0 j = A, D.lag b t 1 j * D.w 1 j = B, D.lag b t 2 j * D.w 2 j = C, D.u b t _ * D.w 3 j = E, D.cb j = F
  ac_rfl

/-- The gated channels. -/
theorem s3_v34 (x : Fin 2 → Fin 16384 → Fin 512 → EReal)
    (hx : ∀ b t j, (V (Proc.devRef .tc main_v33) : Vec Ideal S2x16384x512 .f32) (ix3 b t j) = x b t j)
    (b : Fin 2) (t : Fin 16384) (j : Fin 512) :
    (after hostOps0_3 V (Proc.devRef .tc main_v34) : Vec Ideal S2x16384x512 .f32) (ix3 b t j) = gate (x b t j) := by
  after_reads_at
  rw [hx]
  rfl

/-- The heads' queries. -/
theorem s4_v38 (x : Fin 2 → Fin 16384 → Fin 512 → EReal) (w : Fin 4 → Fin 128 → Fin 128 → EReal)
    (hx : ∀ b t j, (V (Proc.devRef .tc main_v34) : Vec Ideal S2x16384x512 .f32) (ix3 b t j) = x b t j)
    (hw : ∀ h d e, (V (Proc.devRef .tc main_arg4) : Vec Ideal S4x128x128 .f32) (ix3 h d e) = w h d e)
    (b : Fin 2) (t : Fin 16384) (h : Fin 4) (e : Fin 128) :
    (after hostOps0_4 V (Proc.devRef .tc main_v38) : Vec Ideal S2x16384x4x128 .f32) (ix4 b t h e) = ∑ d : Fin 128, w h d e * x b t (qOf h d) := by
  after_reads_at
  simp only [hx, hw, qOf]

/-- The heads' keys, scaled. -/
theorem s4_v42 (x : Fin 2 → Fin 16384 → Fin 512 → EReal) (w : Fin 4 → Fin 128 → Fin 128 → EReal)
    (hx : ∀ b t j, (V (Proc.devRef .tc main_v34) : Vec Ideal S2x16384x512 .f32) (ix3 b t j) = x b t j)
    (hw : ∀ h d e, (V (Proc.devRef .tc main_arg5) : Vec Ideal S4x128x128 .f32) (ix3 h d e) = w h d e)
    (b : Fin 2) (t : Fin 16384) (h : Fin 4) (e : Fin 128) :
    (after hostOps0_4 V (Proc.devRef .tc main_v42) : Vec Ideal S2x16384x4x128 .f32) (ix4 b t h e)
      = (∑ d : Fin 128, w h d e * x b t (qOf h d)) * Ideal.ofBits FTy.f32 1035273459#32 := by
  after_reads_at
  simp only [hx, hw, qOf]

/-- The heads' values. -/
theorem s4_v44 (x : Fin 2 → Fin 16384 → Fin 512 → EReal) (w : Fin 4 → Fin 128 → Fin 128 → EReal)
    (hx : ∀ b t j, (V (Proc.devRef .tc main_v0) : Vec Ideal S2x16384x512 .f32) (ix3 b t j) = x b t j)
    (hw : ∀ h d e, (V (Proc.devRef .tc main_arg6) : Vec Ideal S4x128x128 .f32) (ix3 h d e) = w h d e)
    (b : Fin 2) (t : Fin 16384) (h : Fin 4) (e : Fin 128) :
    (after hostOps0_4 V (Proc.devRef .tc main_v44) : Vec Ideal S2x16384x4x128 .f32) (ix4 b t h e) = ∑ d : Fin 128, w h d e * x b t (qOf h d) := by
  after_reads_at
  simp only [hx, hw, qOf]

/-- The input gates, by chunk. -/
theorem s4_v49 (D : Data) (hs : ∀ b t (h : Fin 8), (V (Proc.devRef .tc main_v2) : Vec Ideal S2x16384x8 .f32) (ix3 b t h) = D.sm b t ⟨16 + h.val, by omega⟩)
    (hb : ∀ h, (V (Proc.devRef .tc main_arg7) : Vec Ideal S8 .f32) (ix1 h) = D.gb h) (b : Fin 2) (k l : Fin 128) (h : Fin 4) :
    (after hostOps0_4 V (Proc.devRef .tc main_v49) : Vec Ideal S2x128x128x4 .f32) (ix4 b k l h)
      = D.sm b (kl k l) ⟨16 + h.val, by omega⟩ + D.gb ⟨h.val, by omega⟩ := by
  after_reads_at
  rw [hs, hb]
  rfl

/-- The forget gates. -/
theorem s4_v50 (D : Data) (hs : ∀ b t (h : Fin 8), (V (Proc.devRef .tc main_v2) : Vec Ideal S2x16384x8 .f32) (ix3 b t h) = D.sm b t ⟨16 + h.val, by omega⟩)
    (hb : ∀ h, (V (Proc.devRef .tc main_arg7) : Vec Ideal S8 .f32) (ix1 h) = D.gb h) (b : Fin 2) (t : Fin 16384) (h : Fin 4) :
    (after hostOps0_4 V (Proc.devRef .tc main_v50) : Vec Ideal S2x16384x4 .f32) (ix3 b t h)
      = D.sm b t ⟨16 + (4 + h.val), by omega⟩ + D.gb ⟨4 + h.val, by omega⟩ := by
  after_reads_at
  rw [hs, hb]

/-- Their logarithms; the test for a value that is not itself never holds. -/
theorem s5_v51 (x : Fin 2 → Fin 16384 → Fin 4 → EReal)
    (hx : ∀ b t j, (V (Proc.devRef .tc main_v50) : Vec Ideal S2x16384x4 .f32) (ix3 b t j) = x b t j) (b : Fin 2) (t : Fin 16384) (h : Fin 4) :
    (after hostOps0_5 V (Proc.devRef .tc main_v51) : Vec Ideal S2x16384x4 .f32) (ix3 b t h) = 0 - softplus (0 - x b t h) := by
  after_reads_at
  rw [if_neg (fun hne => hne rfl), hx, softplus, zero_sub, zero_sub, zero_sub]

end Cert.MlstmRefIdeal.Value
-- ==== Proof.NChunk.lean ====
module

public import proofs.«01_k».proof.Proof.Gen.MlstmRefIdeal.Run
public import proofs.«01_k».proof.Proof.Mask
public import proofs.«01_k».proof.Proof.MSpec
public import proofs.«01_k».proof.Proof.NHead
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

variable (V : Valuation τ sig (Elt Ideal))

/-- The log forget gates, by chunk. -/
theorem s6_v52 (x : Fin 2 → Fin 16384 → Fin 4 → EReal)
    (hx : ∀ b t j, (V (Proc.devRef .tc main_v51) : Vec Ideal S2x16384x4 .f32) (ix3 b t j) = x b t j) (b : Fin 2) (k l : Fin 128) (h : Fin 4) :
    (after hostOps0_6 V (Proc.devRef .tc main_v52) : Vec Ideal S2x128x128x4 .f32) (ix4 b k l h) = x b (kl k l) h := by
  after_reads_at
  exact hx _ _ _

/-- The output gates, by head. -/
theorem s6_v59 (x : Fin 2 → Fin 16384 → Fin 512 → EReal)
    (hx : ∀ b t j, (V (Proc.devRef .tc main_v1) : Vec Ideal S2x16384x512 .f32) (ix3 b t j) = x b t j) (b : Fin 2) (t : Fin 16384) (h : Fin 4) (e : Fin 128) :
    (after hostOps0_6 V (Proc.devRef .tc main_v59) : Vec Ideal S2x16384x4x128 .f32) (ix4 b t h e) = Ideal.logistic (x b t (qOf h e)) := by
  after_reads_at
  rw [hx]
  rfl

/-- The queries, by chunk. -/
theorem s6_v60 (x : Fin 2 → Fin 16384 → Fin 4 → Fin 128 → EReal)
    (hx : ∀ b t h e, (V (Proc.devRef .tc main_v38) : Vec Ideal S2x16384x4x128 .f32) (ix4 b t h e) = x b t h e) (b : Fin 2) (k l : Fin 128) (h : Fin 4) (e : Fin 128) :
    (after hostOps0_6 V (Proc.devRef .tc main_v60) : Vec Ideal S2x128x128x4x128 .f32) (ix5 b k l h e) = x b (kl k l) h e := by
  after_reads_at
  exact hx _ _ _ _

/-- The keys, by chunk. -/
theorem s6_v61 (x : Fin 2 → Fin 16384 → Fin 4 → Fin 128 → EReal)
    (hx : ∀ b t h e, (V (Proc.devRef .tc main_v42) : Vec Ideal S2x16384x4x128 .f32) (ix4 b t h e) = x b t h e) (b : Fin 2) (k l : Fin 128) (h : Fin 4) (e : Fin 128) :
    (after hostOps0_6 V (Proc.devRef .tc main_v61) : Vec Ideal S2x128x128x4x128 .f32) (ix5 b k l h e) = x b (kl k l) h e := by
  after_reads_at
  exact hx _ _ _ _

/-- The values, by chunk. -/
theorem s6_v62 (x : Fin 2 → Fin 16384 → Fin 4 → Fin 128 → EReal)
    (hx : ∀ b t h e, (V (Proc.devRef .tc main_v44) : Vec Ideal S2x16384x4x128 .f32) (ix4 b t h e) = x b t h e) (b : Fin 2) (k l : Fin 128) (h : Fin 4) (e : Fin 128) :
    (after hostOps0_6 V (Proc.devRef .tc main_v62) : Vec Ideal S2x128x128x4x128 .f32) (ix5 b k l h e) = x b (kl k l) h e := by
  after_reads_at
  exact hx _ _ _ _

/-- The log weights between a chunk's tokens, before the mask. -/
theorem s8_v71 (ac ig : Fin 2 → Fin 128 → Fin 128 → Fin 4 → EReal)
    (ha : ∀ b k l h, (V (Proc.devRef .tc main_v63) : Vec Ideal S2x128x128x4 .f32) (ix4 b k l h) = ac b k l h)
    (hi : ∀ b k l h, (V (Proc.devRef .tc main_v49) : Vec Ideal S2x128x128x4 .f32) (ix4 b k l h) = ig b k l h)
    (b : Fin 2) (k l r : Fin 128) (h : Fin 4) :
    (after hostOps0_8 V (Proc.devRef .tc main_v71) : Vec Ideal S2x128x128x128x4 .f32) (ix5 b k l r h) = ac b k l h - ac b k r h + ig b k r h := by
  after_reads_at
  rw [ha, ha, hi]

/-- A table of ones. -/
theorem s8_v72 (l r : Fin 128) :
    (after hostOps0_8 V (Proc.devRef .tc main_v72) : IVec S128x128 1) (ix2 l r) = 1#1 := by
  after_reads_at

/-- The causal mask, as a table of bits. -/
theorem s9_v73 (h1 : ∀ l r, (V (Proc.devRef .tc main_v72) : IVec S128x128 1) (ix2 l r) = 1#1) (l r : Fin 128) :
    (after hostOps0_9 V (Proc.devRef .tc main_v73) : IVec S128x128 1) (ix2 l r) = if r ≤ l then 1#1 else 0#1 := by
  after_reads_at
  rw [h1]
  have hl := l.isLt
  have hr := r.isLt
  by_cases h : r ≤ l
  · have hv : r.val ≤ l.val := h
    rw [if_pos h, show IntOp.cmpi CmpIPredicate.sge (IntOp.addi (BitVec.ofNat 32 l.val) 0#32) (BitVec.ofNat 32 r.val) = 1#1 by word_omega]
    rfl
  · have hv : ¬ r.val ≤ l.val := h
    rw [if_neg h, show IntOp.cmpi CmpIPredicate.sge (IntOp.addi (BitVec.ofNat 32 l.val) 0#32) (BitVec.ofNat 32 r.val) = 0#1 by word_omega]
    rfl

/-- The same table, with an axis for the heads. -/
theorem s10_v74 (hm : ∀ l r, (V (Proc.devRef .tc main_v73) : IVec S128x128 1) (ix2 l r) = if r ≤ l then 1#1 else 0#1) (l r : Fin 128) (a : Fin 1) :
    (after hostOps0_10 V (Proc.devRef .tc main_v74) : IVec S128x128x1 1) (ix3 l r a) = if r ≤ l then 1#1 else 0#1 := by
  after_reads_at
  exact hm _ _

/-- The mask's fill. -/
theorem s10_cst : (after hostOps0_10 V (Proc.devRef .tc main_cst_3) : Vec Ideal S_ .f32) ix0 = (⊥ : EReal) := by
  after_reads_at
  exact neg_inf_f32

/-- The log weights between a chunk's tokens, with later tokens cut off. -/
theorem s11_v75 (sg : Fin 2 → Fin 128 → Fin 128 → Fin 128 → Fin 4 → EReal)
    (hm : ∀ l r a, (V (Proc.devRef .tc main_v74) : IVec S128x128x1 1) (ix3 l r a) = if r ≤ l then 1#1 else 0#1)
    (hs : ∀ b k l r h, (V (Proc.devRef .tc main_v71) : Vec Ideal S2x128x128x128x4 .f32) (ix5 b k l r h) = sg b k l r h)
    (hc : (V (Proc.devRef .tc main_cst_3) : Vec Ideal S_ .f32) ix0 = (⊥ : EReal))
    (b : Fin 2) (k l r : Fin 128) (h : Fin 4) :
    (after hostOps0_11 V (Proc.devRef .tc main_v75) : Vec Ideal S2x128x128x128x4 .f32) (ix5 b k l r h) = if r ≤ l then sg b k l r h else ⊥ := by
  after_reads_at
  rw [id_eq, hm, hs, hc]
  split_ifs <;> rfl

end Cert.MlstmRefIdeal.Value
-- ==== Proof.NSum.lean ====
module

public import proofs.«01_k».proof.Proof.Gen.MlstmRefIdeal.Run
public import proofs.«01_k».proof.Proof.Mask
public import proofs.«01_k».proof.Proof.MSpec
public import Idealize.ShloMosaic.Lib.ValueIdxRank6
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

variable (V : Valuation τ sig (Elt Ideal))

/-- A window one element wide on every axis but the third, 128 there: its positions are counted by the third coordinate. -/
abbrev Win : Shape := ⟨4, ![1, 1, 128, 1]⟩

/-- It has 128 positions. -/
theorem win_numel : Win.numel = 128 := by decide

/-- The coordinates of its positions. -/
theorem win_at (n : Fin Win.numel) (a : Fin 4) : (Win.rowMajor.symm n a).val = if a = 2 then n.val else 0 := by
  have h : Win.rowMajor (Win.rowMajor.symm n) = n := Equiv.apply_symm_apply _ _
  obtain ⟨i, hi⟩ : ∃ i, Win.rowMajor.symm n = i := ⟨_, rfl⟩
  rw [hi] at h ⊢
  have h0 : (i 0).val < 1 := (i 0).isLt
  have h1 : (i 1).val < 1 := (i 1).isLt
  have h3 : (i 3).val < 1 := (i 3).isLt
  have e := congrArg Fin.val h
  rw [Shape.rowMajor_val_four] at e
  simp only [Matrix.cons_val] at e
  fin_cases a <;> simp <;> omega

/-- A fold of additions over all of a finite range is the sum. -/
theorem foldl_add_sum {N : ℕ} (f : Fin N → EReal) (z : EReal) : (List.finRange N).foldl (fun r n => r + f n) z = z + ∑ n, f n := by
  rw [← List.sum_ofFn, List.ofFn_eq_map]
  generalize List.finRange N = l
  induction l generalizing z with
  | nil => simp
  | cons a l ih => rw [List.foldl_cons, ih, List.map_cons, List.sum_cons, add_assoc]

/-- A running sum along the third axis, as it prints: the window of the 128 positions up to each one. -/
theorem cumsum_at (x : S2x128x128x4.Idx → EReal) (init : S_.Idx → EReal) (hz : init (Shape.Idx.first h_S_) = 0)
    (b : Fin 2) (k l : Fin 128) (h : Fin 4) :
    Host.reduceWindowAdd (F := Ideal) (φ := .f32) ![1, 1, 128, 1] ![1, 1, 1, 1] ![0, 0, 127, 0] ![0, 0, 0, 0] x init
      reduceWindows_S2x128x128x4_S2x128x128x4_w1s1p0_0_w1s1p0_0_w128s1p127_0_w1s1p0_0 h_S_ (ix4 b k l h)
      = ∑ r : Fin 128, if r ≤ l then x (ix4 b k r h) else 0 := by
  unfold Host.reduceWindowAdd
  rw [Ideal.hostReduceWindowAdd_def]
  unfold Ideal.hostReduceWindowAdd Host.reduceWindow
  dsimp only
  rw [hz, foldl_add_sum, zero_add]
  refine (Fintype.sum_equiv ((Equiv.addRight (127 - l)).trans (finCongr win_numel.symm)) _ _ (fun r => ?_)).symm
  obtain ⟨n, hn⟩ : ∃ n, ((Equiv.addRight (127 - l)).trans (finCongr win_numel.symm)) r = n := ⟨_, rfl⟩
  have hv : n.val = (r.val + (127 - l.val)) % 128 := by
    rw [← hn]
    simp only [Equiv.trans_apply, Equiv.coe_addRight, finCongr_apply, Fin.val_cast, Fin.val_add, Fin.val_sub]
    have : (127 : Fin 128).val = 127 := rfl
    omega
  rw [hn]
  have hw := win_at n
  by_cases hrl : r ≤ l
  · have h' : r.val ≤ l.val := hrl
    rw [if_pos hrl, dif_pos]
    · congr 1
      funext a
      refine Fin.ext ?_
      dsimp only
      rw [hw a]
      fin_cases a <;> simp <;> omega
    · intro a
      rw [hw a]
      fin_cases a <;> simp <;> omega
  · have h' : ¬ r.val ≤ l.val := hrl
    rw [if_neg hrl, dif_neg]
    intro hin
    have h2 := (hin 2).1
    rw [hw 2] at h2
    simp at h2
    omega

/-- The running sums of the log forget gates, within each chunk. -/
theorem s7_v63 (a : Fin 2 → Fin 128 → Fin 128 → Fin 4 → EReal)
    (ha : ∀ b k l h, (V (Proc.devRef .tc main_v52) : Vec Ideal S2x128x128x4 .f32) (ix4 b k l h) = a b k l h)
    (b : Fin 2) (k l : Fin 128) (h : Fin 4) :
    (after hostOps0_7 V (Proc.devRef .tc main_v63) : Vec Ideal S2x128x128x4 .f32) (ix4 b k l h) =
      ∑ r : Fin 128, if r ≤ l then a b k r h else 0 := by
  after_reads_at
  rw [cumsum_at]
  · simp only [ha]
  · simp [broadcastInDim, constant]

end Cert.MlstmRefIdeal.Value
-- ==== Proof.NPre.lean ====
module

public import proofs.«01_k».proof.Proof.Gen.MlstmRefIdeal.Run
public import proofs.«01_k».proof.Proof.Mask
public import proofs.«01_k».proof.Proof.MSpec
public import proofs.«01_k».proof.Proof.NKeep
public import proofs.«01_k».proof.Proof.NHead
public import proofs.«01_k».proof.Proof.NChunk
public import proofs.«01_k».proof.Proof.NSum
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

variable (V : Valuation τ sig (Elt Ideal))

/-- The arguments hold the arrays `D`. -/
structure Holds (D : Data) : Prop where
  u : ∀ b t j, (V (Proc.devRef .tc main_arg0) : Vec Ideal S2x16384x1024 .f32) (ix3 b t j) = D.u b t j
  sm : ∀ b t j, (V (Proc.devRef .tc main_arg1) : Vec Ideal S2x16384x128 .f32) (ix3 b t j) = D.sm b t j
  w : ∀ k j, (V (Proc.devRef .tc main_arg2) : Vec Ideal S4x512 .f32) (ix2 k j) = D.w k j
  cb : ∀ j, (V (Proc.devRef .tc main_arg3) : Vec Ideal S512 .f32) (ix1 j) = D.cb j
  wq : ∀ h d e, (V (Proc.devRef .tc main_arg4) : Vec Ideal S4x128x128 .f32) (ix3 h d e) = D.wq h d e
  wk : ∀ h d e, (V (Proc.devRef .tc main_arg5) : Vec Ideal S4x128x128 .f32) (ix3 h d e) = D.wk h d e
  wv : ∀ h d e, (V (Proc.devRef .tc main_arg6) : Vec Ideal S4x128x128 .f32) (ix3 h d e) = D.wv h d e
  gb : ∀ h, (V (Proc.devRef .tc main_arg7) : Vec Ideal S8 .f32) (ix1 h) = D.gb h
  ng : ∀ q, (V (Proc.devRef .tc main_arg8) : Vec Ideal S512 .f32) (ix1 q) = D.ng q

/-- The heads' tokens, by batch entry, chunk and head. -/
def tf (D : Data) (b : Fin 2) (k : Fin 128) (h : Fin 4) : Tok := D.tok b k h

variable {V} {D : Data} (H : Holds V D)
include H

/-- The convolution. -/
theorem e2_v33 (b : Fin 2) (t : Fin 16384) (j : Fin 512) :
    (e2 V (Proc.devRef .tc main_v33) : Vec Ideal S2x16384x512 .f32) (ix3 b t j) = D.conv b t j :=
  s2_v33 (e1 V) D (s1_v3 (e0 V) D (s0_v0 V D H.u) (s0_c V)) (fun k j => by rw [e1_arg V main_arg2 (by decide +kernel), H.w])
    (fun j => by rw [e1_arg V main_arg3 (by decide +kernel), H.cb]) b t j

/-- The gated channels. -/
theorem e3_v34 (b : Fin 2) (t : Fin 16384) (j : Fin 512) :
    (e3 V (Proc.devRef .tc main_v34) : Vec Ideal S2x16384x512 .f32) (ix3 b t j) = gate (D.conv b t j) :=
  s3_v34 (e2 V) _ (e2_v33 H) b t j

/-- The queries, by chunk. -/
theorem e6_v60 (b : Fin 2) (k l : Fin 128) (h : Fin 4) (e : Fin 128) :
    (e6 V (Proc.devRef .tc main_v60) : Vec Ideal S2x128x128x4x128 .f32) (ix5 b k l h e) = (tf D b k h).q l e := by
  refine (s6_v60 (e5 V) (fun b t h e => ∑ d : Fin 128, D.wq h d e * gate (D.conv b t (qOf h d))) (fun b t h e => by
    rw [e5_keep V main_v38 (by decide +kernel)]
    exact s4_v38 (e3 V) _ D.wq (e3_v34 H) (fun h d e => by rw [e3_arg V main_arg4 (by decide +kernel), H.wq]) b t h e) b k l h e).trans ?_
  rw [kl_eq]
  show _ = ∑ d : Fin 128, D.xc b k l (qOf h d) * D.wq h d e
  exact Finset.sum_congr rfl fun d _ => mul_comm _ _

/-- The keys, by chunk. -/
theorem e6_v61 (b : Fin 2) (k l : Fin 128) (h : Fin 4) (e : Fin 128) :
    (e6 V (Proc.devRef .tc main_v61) : Vec Ideal S2x128x128x4x128 .f32) (ix5 b k l h e) = (tf D b k h).k l e := by
  refine (s6_v61 (e5 V) (fun b t h e => (∑ d : Fin 128, D.wk h d e * gate (D.conv b t (qOf h d))) * Ideal.ofBits FTy.f32 1035273459#32) (fun b t h e => by
    rw [e5_keep V main_v42 (by decide +kernel)]
    exact s4_v42 (e3 V) _ D.wk (e3_v34 H) (fun h d e => by rw [e3_arg V main_arg5 (by decide +kernel), H.wk]) b t h e) b k l h e).trans ?_
  rw [kl_eq]
  show _ = (∑ d : Fin 128, D.xc b k l (qOf h d) * D.wk h d e) * Ideal.ofBits FTy.f32 1035273459#32
  exact congrArg (· * Ideal.ofBits FTy.f32 1035273459#32) (Finset.sum_congr rfl fun d _ => mul_comm _ _)

/-- The values, by chunk. -/
theorem e6_v62 (b : Fin 2) (k l : Fin 128) (h : Fin 4) (e : Fin 128) :
    (e6 V (Proc.devRef .tc main_v62) : Vec Ideal S2x128x128x4x128 .f32) (ix5 b k l h e) = (tf D b k h).v l e := by
  refine (s6_v62 (e5 V) (fun b t h e => ∑ d : Fin 128, D.wv h d e * D.u b t ⟨(qOf h d).val, by omega⟩) (fun b t h e => by
    rw [e5_keep V main_v44 (by decide +kernel)]
    exact s4_v44 (e3 V) (fun b t j => D.u b t ⟨j.val, by omega⟩) D.wv (fun b t j => by
      rw [e3_keep V main_v0 (by decide +kernel), e2_keep V main_v0 (by decide +kernel), e1_keep V main_v0 (by decide +kernel)]
      exact s0_v0 V D H.u b t j) (fun h d e => by rw [e3_arg V main_arg6 (by decide +kernel), H.wv]) b t h e) b k l h e).trans ?_
  rw [kl_eq]
  show _ = ∑ d : Fin 128, D.u b (tIx k l) ⟨(qOf h d).val, by omega⟩ * D.wv h d e
  exact Finset.sum_congr rfl fun d _ => mul_comm _ _

/-- The output gates, by head. -/
theorem e6_v59 (b : Fin 2) (t : Fin 16384) (h : Fin 4) (e : Fin 128) :
    (e6 V (Proc.devRef .tc main_v59) : Vec Ideal S2x16384x4x128 .f32) (ix4 b t h e) = Ideal.logistic (D.u b t ⟨512 + (qOf h e).val, by omega⟩) :=
  s6_v59 (e5 V) (fun b t q => D.u b t ⟨512 + q.val, by omega⟩) (fun b t q => by
    rw [e5_keep V main_v1 (by decide +kernel), e4_keep V main_v1 (by decide +kernel), e3_keep V main_v1 (by decide +kernel), e2_keep V main_v1 (by decide +kernel), e1_keep V main_v1 (by decide +kernel)]
    exact s0_v1 V D H.u b t q) b t h e

/-- The gates' columns before the gates are formed. -/
theorem e3_v2 (b : Fin 2) (t : Fin 16384) (h : Fin 8) :
    (e3 V (Proc.devRef .tc main_v2) : Vec Ideal S2x16384x8 .f32) (ix3 b t h) = D.sm b t ⟨16 + h.val, by omega⟩ := by
  rw [e3_keep V main_v2 (by decide +kernel), e2_keep V main_v2 (by decide +kernel), e1_keep V main_v2 (by decide +kernel)]
  exact s0_v2 V D H.sm b t h

/-- The log input gates. -/
theorem e4_v49 (b : Fin 2) (k l : Fin 128) (h : Fin 4) :
    (e4 V (Proc.devRef .tc main_v49) : Vec Ideal S2x128x128x4 .f32) (ix4 b k l h) = (tf D b k h).i l := by
  refine (s4_v49 (e3 V) D (e3_v2 H) (fun h => by rw [e3_arg V main_arg7 (by decide +kernel), H.gb]) b k l h).trans ?_
  rw [kl_eq]
  rfl

/-- The running sums of the log forget gates. -/
theorem e7_v63 (b : Fin 2) (k l : Fin 128) (h : Fin 4) :
    (e7 V (Proc.devRef .tc main_v63) : Vec Ideal S2x128x128x4 .f32) (ix4 b k l h) = (tf D b k h).b l :=
  s7_v63 (e6 V) (fun b k l h => D.lf b k l h) (fun b k l h => by
    refine (s6_v52 (e5 V) (fun b t h => 0 - softplus (0 - (D.sm b t ⟨16 + (4 + h.val), by omega⟩ + D.gb ⟨4 + h.val, by omega⟩)))
      (s5_v51 (e4 V) (fun b t h => D.sm b t ⟨16 + (4 + h.val), by omega⟩ + D.gb ⟨4 + h.val, by omega⟩)
        (s4_v50 (e3 V) D (e3_v2 H) (fun h => by rw [e3_arg V main_arg7 (by decide +kernel), H.gb]))) b k l h).trans ?_
    rw [kl_eq]
    rfl) b k l h

/-- The log weights between a chunk's tokens. -/
theorem e11_v75 (b : Fin 2) (k l r : Fin 128) (h : Fin 4) :
    (e11 V (Proc.devRef .tc main_v75) : Vec Ideal S2x128x128x128x4 .f32) (ix5 b k l r h) = dlog (tf D b k h) l r :=
  s11_v75 (e10 V) (fun b k l r h => (tf D b k h).b l - (tf D b k h).b r + (tf D b k h).i r) (s10_v74 (e9 V) (s9_v73 (e8 V) (s8_v72 (e7 V))))
    (fun b k l r h => by
      rw [e10_keep V main_v71 (by decide +kernel), e9_keep V main_v71 (by decide +kernel)]
      exact s8_v71 (e7 V) (fun b k l h => (tf D b k h).b l) (fun b k l h => (tf D b k h).i l) (e7_v63 H) (fun b k l h => by
        rw [e7_keep V main_v49 (by decide +kernel), e6_keep V main_v49 (by decide +kernel), e5_keep V main_v49 (by decide +kernel)]
        exact e4_v49 H b k l h) b k l r h)
    (s10_cst (e9 V)) b k l r h

/-! What the last stretch before the loop finds. -/

/-- The running sums. -/
theorem e11_v63 (b : Fin 2) (k l : Fin 128) (h : Fin 4) :
    (e11 V (Proc.devRef .tc main_v63) : Vec Ideal S2x128x128x4 .f32) (ix4 b k l h) = (tf D b k h).b l := by
  rw [e11_keep V main_v63 (by decide +kernel), e10_keep V main_v63 (by decide +kernel), e9_keep V main_v63 (by decide +kernel), e8_keep V main_v63 (by decide +kernel)]
  exact e7_v63 H b k l h

/-- The log input gates. -/
theorem e11_v49 (b : Fin 2) (k l : Fin 128) (h : Fin 4) :
    (e11 V (Proc.devRef .tc main_v49) : Vec Ideal S2x128x128x4 .f32) (ix4 b k l h) = (tf D b k h).i l := by
  rw [e11_keep V main_v49 (by decide +kernel), e10_keep V main_v49 (by decide +kernel), e9_keep V main_v49 (by decide +kernel), e8_keep V main_v49 (by decide +kernel), e7_keep V main_v49 (by decide +kernel), e6_keep V main_v49 (by decide +kernel), e5_keep V main_v49 (by decide +kernel)]
  exact e4_v49 H b k l h

/-- The keys. -/
theorem e11_v61 (b : Fin 2) (k l : Fin 128) (h : Fin 4) (e : Fin 128) :
    (e11 V (Proc.devRef .tc main_v61) : Vec Ideal S2x128x128x4x128 .f32) (ix5 b k l h e) = (tf D b k h).k l e := by
  rw [e11_keep V main_v61 (by decide +kernel), e10_keep V main_v61 (by decide +kernel), e9_keep V main_v61 (by decide +kernel), e8_keep V main_v61 (by decide +kernel), e7_keep V main_v61 (by decide +kernel)]
  exact e6_v61 H b k l h e

/-- The values. -/
theorem e11_v62 (b : Fin 2) (k l : Fin 128) (h : Fin 4) (e : Fin 128) :
    (e11 V (Proc.devRef .tc main_v62) : Vec Ideal S2x128x128x4x128 .f32) (ix5 b k l h e) = (tf D b k h).v l e := by
  rw [e11_keep V main_v62 (by decide +kernel), e10_keep V main_v62 (by decide +kernel), e9_keep V main_v62 (by decide +kernel), e8_keep V main_v62 (by decide +kernel), e7_keep V main_v62 (by decide +kernel)]
  exact e6_v62 H b k l h e

end Cert.MlstmRefIdeal.Value
-- ==== Proof.NEnd.lean ====
module

public import proofs.«01_k».proof.Proof.Gen.MlstmRefIdeal.Run
public import proofs.«01_k».proof.Proof.Mask
public import proofs.«01_k».proof.Proof.MSpec
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

variable (V : Valuation τ sig (Elt Ideal))

variable (T : Fin 2 → Fin 128 → Fin 4 → Tok)

/-- The largest log weight within the chunk, at each token. -/
theorem s12_v76 (hs : ∀ b k l r h, (V (Proc.devRef .tc main_v75) : Vec Ideal S2x128x128x128x4 .f32) (ix5 b k l r h) = dlog (T b k h) l r)
    (b : Fin 2) (k l : Fin 128) (h : Fin 4) :
    (after hostOps0_12 V (Proc.devRef .tc main_v76) : Vec Ideal S2x128x128x4 .f32) (ix4 b k l h)
      = Finset.fold max ⊥ (fun r => dlog (T b k h) l r) Finset.univ := by
  after_reads_at
  simp only [hs, neg_inf_f32]

section ends
variable
    (hb : ∀ b k l h, (V (Proc.devRef .tc main_v63) : Vec Ideal S2x128x128x4 .f32) (ix4 b k l h) = (T b k h).b l)
include hb

/-- The whole log decay of a chunk. -/
theorem s12_end (k : Fin 128) (b : Fin 2) (h : Fin 4) :
    (after hostOps0_12 V (Proc.devRef .tc main_v103_3) : Vec Ideal S128x2x4 .f32) (ix3 k b h) = (T b k h).b 127 := by
  after_reads_at
  simp only [id_eq]
  pointwise
  rw [hb]

variable (hi : ∀ b k l h, (V (Proc.devRef .tc main_v49) : Vec Ideal S2x128x128x4 .f32) (ix4 b k l h) = (T b k h).i l)
include hi

/-- The largest log weight at the chunk's end. -/
theorem s12_loc (k : Fin 128) (b : Fin 2) (h : Fin 4) :
    (after hostOps0_12 V (Proc.devRef .tc main_v103_2) : Vec Ideal S128x2x4 .f32) (ix3 k b h) = mLoc (T b k h) := by
  after_reads_at
  simp only [id_eq]
  pointwise
  simp only [hb, hi, neg_inf_f32, mLoc, endLog]

variable (hk : ∀ b k l h e, (V (Proc.devRef .tc main_v61) : Vec Ideal S2x128x128x4x128 .f32) (ix5 b k l h e) = (T b k h).k l e)
include hk

/-- What each chunk adds to the sum of keys. -/
theorem s12_keys (k : Fin 128) (b : Fin 2) (h : Fin 4) (e : Fin 128) :
    (after hostOps0_12 V (Proc.devRef .tc main_v103_1) : Vec Ideal S128x2x4x128 .f32) (ix4 k b h e) = ∑ r : Fin 128, kw (T b k h) r e := by
  after_reads_at
  simp only [id_eq]
  pointwise
  simp only [hb, hi, hk, neg_inf_f32]
  refine Finset.sum_congr rfl fun r _ => ?_
  rw [mul_comm]
  simp only [kw, mLoc, endLog]

variable (hv : ∀ b k l h e, (V (Proc.devRef .tc main_v62) : Vec Ideal S2x128x128x4x128 .f32) (ix5 b k l h e) = (T b k h).v l e)
include hv

/-- What each chunk adds to the matrix. -/
theorem s12_mat (k : Fin 128) (b : Fin 2) (h : Fin 4) (d e : Fin 128) :
    (after hostOps0_12 V (Proc.devRef .tc main_v103_0) : Vec Ideal S128x2x4x128x128 .f32) (ix5 k b h d e)
      = ∑ r : Fin 128, kw (T b k h) r e * (T b k h).v r d := by
  after_reads_at
  simp only [id_eq]
  pointwise
  simp only [hb, hi, hk, hv, neg_inf_f32]
  refine Finset.sum_congr rfl fun r _ => ?_
  rw [mul_assoc, mul_comm]
  simp only [kw, mLoc, endLog]
  ac_rfl

end ends

/-- The matrices start at zero. -/
theorem s12_c0 (b : Fin 2) (h : Fin 4) (d e : Fin 128) :
    (after hostOps0_12 V (Proc.devRef .tc main_v103_5) : Vec Ideal S2x4x128x128 .f32) (ix4 b h d e) = (0 : EReal) := by
  after_reads_at
  simp only [id_eq]
  pointwise

/-- The sums of keys start at zero. -/
theorem s12_n0 (b : Fin 2) (h : Fin 4) (e : Fin 128) :
    (after hostOps0_12 V (Proc.devRef .tc main_v103_6) : Vec Ideal S2x4x128 .f32) (ix3 b h e) = (0 : EReal) := by
  after_reads_at
  simp only [id_eq]
  pointwise

/-- The largest log weights start at zero. -/
theorem s12_m0 (b : Fin 2) (h : Fin 4) :
    (after hostOps0_12 V (Proc.devRef .tc main_v103_7) : Vec Ideal S2x4 .f32) (ix2 b h) = (0 : EReal) := by
  after_reads_at
  simp only [id_eq]
  pointwise

end Cert.MlstmRefIdeal.Value
-- ==== Proof.NLoop.lean ====
module

public import proofs.«01_k».proof.Proof.Gen.MlstmRefIdeal.Run
public import proofs.«01_k».proof.Proof.Mask
public import proofs.«01_k».proof.Proof.MSpec
public import Idealize.ShloMosaic.Lib.DynamicIndex
public import Idealize.ShloMosaic.Lib.WordCmp
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

variable (V : Valuation τ sig (Elt Ideal))

variable (T : Fin 2 → Fin 128 → Fin 4 → Tok) (S : Fin 2 → Fin 4 → St) (k : Fin 128)

section
variable (hk : (V (Proc.devRef .tc main_v103_4) : IVec S_ 32) = fun _ => BitVec.ofNat 32 k.val)
include hk

/-- The trip counter as a number. -/
theorem ctr_toInt : ((V (Proc.devRef .tc main_v103_4) : IVec S_ 32) (Shape.Idx.first h_S_)).toInt = (k.val : Int) := by
  rw [hk]
  exact toInt_ofNat_of_lt (by omega)

variable (hL : ∀ k b h, (V (Proc.devRef .tc main_v103_2) : Vec Ideal S128x2x4 .f32) (ix3 k b h) = mLoc (T b k h))
  (hE : ∀ k b h, (V (Proc.devRef .tc main_v103_3) : Vec Ideal S128x2x4 .f32) (ix3 k b h) = (T b k h).b 127)
  (hM : ∀ b h, (V (Proc.devRef .tc main_v103_7) : Vec Ideal S2x4 .f32) (ix2 b h) = (S b h).M)

include hL in
/-- The trip's largest log weight at the chunk's end. -/
theorem r160_at (b : Fin 2) (h : Fin 4) : (res_main_while0b_v160 V : Vec Ideal S2x4 .f32) (ix2 b h) = mLoc (T b k h) := by
  have hi := ctr_toInt V k hk
  unfold res_main_while0b_v160
  rw [Host.dynamicSlice_eq_extractStridedSlice S1x2x4 _ _ ![k.val, 0, 0] sliceFits_S128x2x4_S1x2x4
      ⟨rfl, fun a => by fin_cases a <;> simp <;> omega⟩ (fun a => by fin_cases a <;> first | exact hi | rfl)]
  pointwise
  rw [hL]

include hE in
/-- The trip's whole log decay. -/
theorem r161_at (b : Fin 2) (h : Fin 4) : (res_main_while0b_v161 V : Vec Ideal S2x4 .f32) (ix2 b h) = (T b k h).b 127 := by
  have hi := ctr_toInt V k hk
  unfold res_main_while0b_v161
  rw [Host.dynamicSlice_eq_extractStridedSlice S1x2x4 _ _ ![k.val, 0, 0] sliceFits_S128x2x4_S1x2x4
      ⟨rfl, fun a => by fin_cases a <;> simp <;> omega⟩ (fun a => by fin_cases a <;> first | exact hi | rfl)]
  pointwise
  rw [hE]

include hL hE hM

/-- The largest log weight leaving the trip's chunk. -/
theorem r163_at (b : Fin 2) (h : Fin 4) : (res_main_while0b_v163 V : Vec Ideal S2x4 .f32) (ix2 b h) = mNew (T b k h) (S b h) := by
  unfold res_main_while0b_v163
  pointwise
  rw [r160_at V T k hk hL, r161_at V T k hk hE, hM]
  rfl

/-- The weight of what was carried into it. -/
theorem r166_at (b : Fin 2) (h : Fin 4) :
    (res_main_while0b_v166 V : Vec Ideal S2x4 .f32) (ix2 b h) = Ideal.exp ((T b k h).b 127 + (S b h).M - mNew (T b k h) (S b h)) := by
  unfold res_main_while0b_v166
  pointwise
  rw [r163_at V T S k hk hL hE hM, r161_at V T k hk hE, hM]

/-- The weight of what the chunk adds. -/
theorem r168_at (b : Fin 2) (h : Fin 4) :
    (res_main_while0b_v168 V : Vec Ideal S2x4 .f32) (ix2 b h) = Ideal.exp (mLoc (T b k h) - mNew (T b k h) (S b h)) := by
  unfold res_main_while0b_v168
  pointwise
  rw [r163_at V T S k hk hL hE hM, r160_at V T k hk hL]

/-- One trip's largest log weights. -/
theorem step_max (b : Fin 2) (h : Fin 4) : (step_main_v103_7 V : Vec Ideal S2x4 .f32) (ix2 b h) = (next (T b k h) (S b h)).M := by
  unfold step_main_v103_7
  rw [id_eq, r163_at V T S k hk hL hE hM]
  rfl

/-- One trip's sums of keys. -/
theorem step_vec (hA : ∀ k b h e, (V (Proc.devRef .tc main_v103_1) : Vec Ideal S128x2x4x128 .f32) (ix4 k b h e) = ∑ r : Fin 128, kw (T b k h) r e)
    (hN : ∀ b h e, (V (Proc.devRef .tc main_v103_6) : Vec Ideal S2x4x128 .f32) (ix3 b h e) = (S b h).N e) (b : Fin 2) (h : Fin 4) (e : Fin 128) :
    (step_main_v103_6 V : Vec Ideal S2x4x128 .f32) (ix3 b h e) = (next (T b k h) (S b h)).N e := by
  have hi := ctr_toInt V k hk
  unfold step_main_v103_6
  rw [Host.dynamicSlice_eq_extractStridedSlice S1x2x4x128 _ _ ![k.val, 0, 0, 0] sliceFits_S128x2x4x128_S1x2x4x128
      ⟨rfl, fun a => by fin_cases a <;> simp <;> omega⟩ (fun a => by fin_cases a <;> first | exact hi | rfl), id_eq]
  pointwise
  rw [r166_at V T S k hk hL hE hM, r168_at V T S k hk hL hE hM, hA, hN]
  rfl

/-- One trip's matrices. -/
theorem step_mat (hA : ∀ k b h d e, (V (Proc.devRef .tc main_v103_0) : Vec Ideal S128x2x4x128x128 .f32) (ix5 k b h d e) = ∑ r : Fin 128, kw (T b k h) r e * (T b k h).v r d)
    (hC : ∀ b h d e, (V (Proc.devRef .tc main_v103_5) : Vec Ideal S2x4x128x128 .f32) (ix4 b h d e) = (S b h).C e d) (b : Fin 2) (h : Fin 4) (d e : Fin 128) :
    (step_main_v103_5 V : Vec Ideal S2x4x128x128 .f32) (ix4 b h d e) = (next (T b k h) (S b h)).C e d := by
  have hi := ctr_toInt V k hk
  unfold step_main_v103_5
  rw [Host.dynamicSlice_eq_extractStridedSlice S1x2x4x128x128 _ _ ![k.val, 0, 0, 0, 0] sliceFits_S128x2x4x128x128_S1x2x4x128x128
      ⟨rfl, fun a => by fin_cases a <;> simp <;> omega⟩ (fun a => by fin_cases a <;> first | exact hi | rfl), id_eq]
  pointwise
  rw [r166_at V T S k hk hL hE hM, r168_at V T S k hk hL hE hM, hA, hC]
  rfl
end

section
variable (hk : (V (Proc.devRef .tc main_v103_4) : IVec S_ 32) = fun _ => BitVec.ofNat 32 k.val)
include hk

/-- One trip's stacked matrices: those before it, written at the trip's chunk. -/
theorem stack_mat (k' : Fin 128) (b : Fin 2) (h : Fin 4) (d e : Fin 128) :
    (step_main_v103_8 V : Vec Ideal S128x2x4x128x128 .f32) (ix5 k' b h d e) =
      if k' = k then (V (Proc.devRef .tc main_v103_5) : Vec Ideal S2x4x128x128 .f32) (ix4 b h d e)
      else (V (Proc.devRef .tc main_v103_8) : Vec Ideal S128x2x4x128x128 .f32) (ix5 k' b h d e) := by
  have hi := ctr_toInt V k hk
  unfold step_main_v103_8
  rw [WordCmp.dynamicUpdateSlice_eq_update _ _ _ updateFits_S128x2x4x128x128_S1x2x4x128x128 ![k.val, 0, 0, 0, 0]
      ⟨rfl, fun a => by fin_cases a <;> simp <;> omega⟩ (fun a => by fin_cases a <;> first | exact hi | rfl), id_eq]
  pointwise
  by_cases hkk : k' = k
  · rw [dif_pos ⟨by rw [hkk], by rw [hkk]; omega⟩, if_pos hkk]
  · rw [dif_neg (fun h' => hkk (Fin.ext (by omega))), if_neg hkk]

/-- One trip's stacked sums of keys: those before it, written at the trip's chunk. -/
theorem stack_vec (k' : Fin 128) (b : Fin 2) (h : Fin 4) (e : Fin 128) :
    (step_main_v103_9 V : Vec Ideal S128x2x4x128 .f32) (ix4 k' b h e) =
      if k' = k then (V (Proc.devRef .tc main_v103_6) : Vec Ideal S2x4x128 .f32) (ix3 b h e)
      else (V (Proc.devRef .tc main_v103_9) : Vec Ideal S128x2x4x128 .f32) (ix4 k' b h e) := by
  have hi := ctr_toInt V k hk
  unfold step_main_v103_9
  rw [WordCmp.dynamicUpdateSlice_eq_update _ _ _ updateFits_S128x2x4x128_S1x2x4x128 ![k.val, 0, 0, 0]
      ⟨rfl, fun a => by fin_cases a <;> simp <;> omega⟩ (fun a => by fin_cases a <;> first | exact hi | rfl), id_eq]
  pointwise
  by_cases hkk : k' = k
  · rw [dif_pos ⟨by rw [hkk], by rw [hkk]; omega⟩, if_pos hkk]
  · rw [dif_neg (fun h' => hkk (Fin.ext (by omega))), if_neg hkk]

/-- One trip's stacked largest log weights: those before it, written at the trip's chunk. -/
theorem stack_max (k' : Fin 128) (b : Fin 2) (h : Fin 4) :
    (step_main_v103_10 V : Vec Ideal S128x2x4 .f32) (ix3 k' b h) =
      if k' = k then (V (Proc.devRef .tc main_v103_7) : Vec Ideal S2x4 .f32) (ix2 b h)
      else (V (Proc.devRef .tc main_v103_10) : Vec Ideal S128x2x4 .f32) (ix3 k' b h) := by
  have hi := ctr_toInt V k hk
  unfold step_main_v103_10
  rw [WordCmp.dynamicUpdateSlice_eq_update _ _ _ updateFits_S128x2x4_S1x2x4 ![k.val, 0, 0]
      ⟨rfl, fun a => by fin_cases a <;> simp <;> omega⟩ (fun a => by fin_cases a <;> first | exact hi | rfl), id_eq]
  pointwise
  by_cases hkk : k' = k
  · rw [dif_pos ⟨by rw [hkk], by rw [hkk]; omega⟩, if_pos hkk]
  · rw [dif_neg (fun h' => hkk (Fin.ext (by omega))), if_neg hkk]

end

end Cert.MlstmRefIdeal.Value
-- ==== Proof.NIter.lean ====
module

public import proofs.«01_k».proof.Proof.Gen.MlstmRefIdeal.Run
public import proofs.«01_k».proof.Proof.Mask
public import proofs.«01_k».proof.Proof.MSpec
public import proofs.«01_k».proof.Proof.NPre
public import proofs.«01_k».proof.Proof.NEnd
public import proofs.«01_k».proof.Proof.NLoop
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

variable (V : Valuation τ sig (Elt Ideal))

variable (m : (ℓ : Loc nD τ sig) → Buf (Elt Ideal) ℓ) (c : Dev nD)

/-- What the carried buffers hold before trip `k`. -/
abbrev SK (k : ℕ) : Valuation τ sig (Elt Ideal) := STEP^[k] (e12 (launch m c))

/-- One more trip. -/
theorem SK_succ (k : ℕ) : SK m c (k + 1) = STEP (SK m c k) := Function.iterate_succ_apply' ..

/-- No trip writes what the chunks add to the matrices. -/
theorem SK_in0 : ∀ k, SK m c k (Proc.devRef .tc main_v103_0) = e12 (launch m c) (Proc.devRef .tc main_v103_0)
  | 0 => rfl
  | k + 1 => by rw [SK_succ, STEP_main_v103_0, SK_in0 k]

/-- No trip writes what they add to the sums of keys. -/
theorem SK_in1 : ∀ k, SK m c k (Proc.devRef .tc main_v103_1) = e12 (launch m c) (Proc.devRef .tc main_v103_1)
  | 0 => rfl
  | k + 1 => by rw [SK_succ, STEP_main_v103_1, SK_in1 k]

/-- No trip writes the chunks' largest log weights. -/
theorem SK_in2 : ∀ k, SK m c k (Proc.devRef .tc main_v103_2) = e12 (launch m c) (Proc.devRef .tc main_v103_2)
  | 0 => rfl
  | k + 1 => by rw [SK_succ, STEP_main_v103_2, SK_in2 k]

/-- No trip writes the chunks' whole log decays. -/
theorem SK_in3 : ∀ k, SK m c k (Proc.devRef .tc main_v103_3) = e12 (launch m c) (Proc.devRef .tc main_v103_3)
  | 0 => rfl
  | k + 1 => by rw [SK_succ, STEP_main_v103_3, SK_in3 k]

/-- The trip counter counts. -/
theorem SK_ctr (k : ℕ) : (SK m c k (Proc.devRef .tc main_v103_4) : IVec S_ 32) = fun _ => BitVec.ofNat 32 k := by
  have h : atK m k c (Proc.devRef .tc main_v103_4) = SK m c k (Proc.devRef .tc main_v103_4) := atK_agree m c k main_v103_4 (by decide +kernel)
  rw [← h, atK_ctr]
  funext _
  show 0#32 + BitVec.ofNat 32 k * 1#32 = _
  rw [BitVec.zero_add, BitVec.mul_one]

variable {m c} {D : Data} (H : Holds (launch m c) D)

/-- What head `h` carries into chunk `k`. -/
def stf (D : Data) (k : ℕ) (b : Fin 2) (h : Fin 4) : St := D.st b k h

include H

/-- Before trip `k` the carried buffers hold what enters chunk `k`. -/
theorem SK_state : ∀ (k : ℕ) (_ : k ≤ 128),
    (∀ b h d e, (SK m c k (Proc.devRef .tc main_v103_5) : Vec Ideal S2x4x128x128 .f32) (ix4 b h d e) = (stf D k b h).C e d) ∧
    (∀ b h e, (SK m c k (Proc.devRef .tc main_v103_6) : Vec Ideal S2x4x128 .f32) (ix3 b h e) = (stf D k b h).N e) ∧
    (∀ b h, (SK m c k (Proc.devRef .tc main_v103_7) : Vec Ideal S2x4 .f32) (ix2 b h) = (stf D k b h).M)
  | 0, _ => ⟨s12_c0 (e11 (launch m c)), s12_n0 (e11 (launch m c)), s12_m0 (e11 (launch m c))⟩
  | k + 1, hk => by
    obtain ⟨hC, hN, hM⟩ := SK_state k (by omega)
    have hL : ∀ k' b h, (SK m c k (Proc.devRef .tc main_v103_2) : Vec Ideal S128x2x4 .f32) (ix3 k' b h) = mLoc (tf D b k' h) := by
      intro k' b h
      rw [SK_in2]
      exact s12_loc (e11 (launch m c)) (tf D) (e11_v63 H) (e11_v49 H) k' b h
    have hE : ∀ k' b h, (SK m c k (Proc.devRef .tc main_v103_3) : Vec Ideal S128x2x4 .f32) (ix3 k' b h) = (tf D b k' h).b 127 := by
      intro k' b h
      rw [SK_in3]
      exact s12_end (e11 (launch m c)) (tf D) (e11_v63 H) k' b h
    rw [SK_succ]
    refine ⟨fun b h d e => ?_, fun b h e => ?_, fun b h => ?_⟩
    · rw [STEP_main_v103_5]
      refine step_mat (SK m c k) (tf D) (stf D k) ⟨k, by omega⟩ (SK_ctr m c k) hL hE hM (fun k' b h d e => ?_) hC b h d e
      rw [SK_in0]
      exact s12_mat (e11 (launch m c)) (tf D) (e11_v63 H) (e11_v49 H) (e11_v61 H) (e11_v62 H) k' b h d e
    · rw [STEP_main_v103_6]
      refine step_vec (SK m c k) (tf D) (stf D k) ⟨k, by omega⟩ (SK_ctr m c k) hL hE hM (fun k' b h e => ?_) hN b h e
      rw [SK_in1]
      exact s12_keys (e11 (launch m c)) (tf D) (e11_v63 H) (e11_v49 H) (e11_v61 H) k' b h e
    · rw [STEP_main_v103_7]
      exact step_max (SK m c k) (tf D) (stf D k) ⟨k, by omega⟩ (SK_ctr m c k) hL hE hM b h

/-- Before trip `k` the matrices entering the chunks before it are stacked. -/
theorem SK_mat : ∀ (k : ℕ) (_ : k ≤ 128) (k' : Fin 128) (_ : k'.val < k) (b : Fin 2) (h : Fin 4) (d e : Fin 128),
    (SK m c k (Proc.devRef .tc main_v103_8) : Vec Ideal S128x2x4x128x128 .f32) (ix5 k' b h d e) = (stf D k' b h).C e d
  | 0, _, k', hk', _, _, _, _ => absurd hk' (Nat.not_lt_zero _)
  | k + 1, hk, k', hk', b, h, d, e => by
    rw [SK_succ, STEP_main_v103_8]
    refine (stack_mat (SK m c k) ⟨k, by omega⟩ (SK_ctr m c k) k' b h d e).trans ?_
    by_cases hkk : k' = ⟨k, by omega⟩
    · rw [if_pos hkk, (SK_state H k (by omega)).1, hkk]
    · have hv : k'.val ≠ k := fun e => hkk (Fin.ext e)
      rw [if_neg hkk]
      exact SK_mat k (by omega) k' (by omega) b h d e

/-- After the loop they are all stacked. -/
theorem pf_mat (k' : Fin 128) (b : Fin 2) (h : Fin 4) (d e : Fin 128) :
    (pf m c (Proc.devRef .tc main_v103_8) : Vec Ideal S128x2x4x128x128 .f32) (ix5 k' b h d e) = (stf D k' b h).C e d := by
  have hp : pf m c (Proc.devRef .tc main_v103_8) = SK m c 128 (Proc.devRef .tc main_v103_8) :=
    (cond_keeps (atK m 128 c) main_v103_8 (by decide +kernel)).trans (atK_agree m c 128 main_v103_8 (by decide +kernel))
  rw [hp]
  exact SK_mat H 128 (le_refl _) k' k'.isLt b h d e

/-- Before trip `k` the sums of keys entering the chunks before it are stacked. -/
theorem SK_vec : ∀ (k : ℕ) (_ : k ≤ 128) (k' : Fin 128) (_ : k'.val < k) (b : Fin 2) (h : Fin 4) (e : Fin 128),
    (SK m c k (Proc.devRef .tc main_v103_9) : Vec Ideal S128x2x4x128 .f32) (ix4 k' b h e) = (stf D k' b h).N e
  | 0, _, k', hk', _, _, _ => absurd hk' (Nat.not_lt_zero _)
  | k + 1, hk, k', hk', b, h, e => by
    rw [SK_succ, STEP_main_v103_9]
    refine (stack_vec (SK m c k) ⟨k, by omega⟩ (SK_ctr m c k) k' b h e).trans ?_
    by_cases hkk : k' = ⟨k, by omega⟩
    · rw [if_pos hkk, (SK_state H k (by omega)).2.1, hkk]
    · have hv : k'.val ≠ k := fun e => hkk (Fin.ext e)
      rw [if_neg hkk]
      exact SK_vec k (by omega) k' (by omega) b h e

/-- After the loop they are all stacked. -/
theorem pf_vec (k' : Fin 128) (b : Fin 2) (h : Fin 4) (e : Fin 128) :
    (pf m c (Proc.devRef .tc main_v103_9) : Vec Ideal S128x2x4x128 .f32) (ix4 k' b h e) = (stf D k' b h).N e := by
  have hp : pf m c (Proc.devRef .tc main_v103_9) = SK m c 128 (Proc.devRef .tc main_v103_9) :=
    (cond_keeps (atK m 128 c) main_v103_9 (by decide +kernel)).trans (atK_agree m c 128 main_v103_9 (by decide +kernel))
  rw [hp]
  exact SK_vec H 128 (le_refl _) k' k'.isLt b h e

/-- Before trip `k` the largest log weights entering the chunks before it are stacked. -/
theorem SK_max : ∀ (k : ℕ) (_ : k ≤ 128) (k' : Fin 128) (_ : k'.val < k) (b : Fin 2) (h : Fin 4),
    (SK m c k (Proc.devRef .tc main_v103_10) : Vec Ideal S128x2x4 .f32) (ix3 k' b h) = (stf D k' b h).M
  | 0, _, k', hk', _, _ => absurd hk' (Nat.not_lt_zero _)
  | k + 1, hk, k', hk', b, h => by
    rw [SK_succ, STEP_main_v103_10]
    refine (stack_max (SK m c k) ⟨k, by omega⟩ (SK_ctr m c k) k' b h ).trans ?_
    by_cases hkk : k' = ⟨k, by omega⟩
    · rw [if_pos hkk, (SK_state H k (by omega)).2.2, hkk]
    · have hv : k'.val ≠ k := fun e => hkk (Fin.ext e)
      rw [if_neg hkk]
      exact SK_max k (by omega) k' (by omega) b h

/-- After the loop they are all stacked. -/
theorem pf_max (k' : Fin 128) (b : Fin 2) (h : Fin 4) :
    (pf m c (Proc.devRef .tc main_v103_10) : Vec Ideal S128x2x4 .f32) (ix3 k' b h) = (stf D k' b h).M := by
  have hp : pf m c (Proc.devRef .tc main_v103_10) = SK m c 128 (Proc.devRef .tc main_v103_10) :=
    (cond_keeps (atK m 128 c) main_v103_10 (by decide +kernel)).trans (atK_agree m c 128 main_v103_10 (by decide +kernel))
  rw [hp]
  exact SK_max H 128 (le_refl _) k' k'.isLt b h

end Cert.MlstmRefIdeal.Value
-- ==== Proof.NTail.lean ====
module

public import proofs.«01_k».proof.Proof.Gen.MlstmRefIdeal.Run
public import proofs.«01_k».proof.Proof.Mask
public import proofs.«01_k».proof.Proof.MSpec
public import proofs.«01_k».proof.Proof.NHead
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

variable (V : Valuation τ sig (Elt Ideal))

/-- One head's gated output as the reference orders its products. -/
def hdR (T : Tok) (S : St) (o : Fin 128 → EReal) (l d : Fin 128) : EReal :=
  Ideal.div ((∑ r : Fin 128, T.v r d * ((∑ e : Fin 128, T.k r e * T.q l e) * Ideal.exp (dlog T l r - mx T S l)))
      + (∑ e : Fin 128, S.C e d * T.q l e) * wOld T S l)
    (max (FloatOps.absf (F := Ideal) (φ := .f32) ((∑ r : Fin 128, (∑ e : Fin 128, T.k r e * T.q l e) * Ideal.exp (dlog T l r - mx T S l))
      + (∑ e : Fin 128, S.N e * T.q l e) * wOld T S l)) (Ideal.exp (-mx T S l))) * Ideal.logistic (o d)

/-- It is the head's gated output. -/
theorem hdR_eq (T : Tok) (S : St) (o : Fin 128 → Fin 128 → EReal) (l d : Fin 128) : hdR T S (o l) l d = hd T S o l d := by
  unfold hdR hd num den qk
  have e1 : ∀ r, (∑ e : Fin 128, T.k r e * T.q l e) = ∑ e : Fin 128, T.q l e * T.k r e := fun r => Finset.sum_congr rfl fun e _ => mul_comm _ _
  have e2 : (∑ e : Fin 128, S.C e d * T.q l e) = ∑ e : Fin 128, T.q l e * S.C e d := Finset.sum_congr rfl fun e _ => mul_comm _ _
  have e3 : (∑ e : Fin 128, S.N e * T.q l e) = ∑ e : Fin 128, T.q l e * S.N e := Finset.sum_congr rfl fun e _ => mul_comm _ _
  simp only [e1, e2, e3, zero_sub]
  refine congrArg (fun a : EReal => Ideal.div (a + _) _ * _) (Finset.sum_congr rfl fun r _ => mul_comm _ _)

/-- The results, from what the arrays hold after the loop. -/
theorem s13_v157 (T : Fin 2 → Fin 128 → Fin 4 → Tok) (S : Fin 2 → Fin 128 → Fin 4 → St) (o : Fin 2 → Fin 16384 → Fin 512 → EReal) (ng : Fin 512 → EReal)
    (hq : ∀ b k l h e, (V (Proc.devRef .tc main_v60) : Vec Ideal S2x128x128x4x128 .f32) (ix5 b k l h e) = (T b k h).q l e)
    (hk : ∀ b k l h e, (V (Proc.devRef .tc main_v61) : Vec Ideal S2x128x128x4x128 .f32) (ix5 b k l h e) = (T b k h).k l e)
    (hv : ∀ b k l h e, (V (Proc.devRef .tc main_v62) : Vec Ideal S2x128x128x4x128 .f32) (ix5 b k l h e) = (T b k h).v l e)
    (hb : ∀ b k l h, (V (Proc.devRef .tc main_v63) : Vec Ideal S2x128x128x4 .f32) (ix4 b k l h) = (T b k h).b l)
    (hs : ∀ b k l r h, (V (Proc.devRef .tc main_v75) : Vec Ideal S2x128x128x128x4 .f32) (ix5 b k l r h) = dlog (T b k h) l r)
    (hm : ∀ b k l h, (V (Proc.devRef .tc main_v76) : Vec Ideal S2x128x128x4 .f32) (ix4 b k l h) = Finset.fold max ⊥ (fun r => dlog (T b k h) l r) Finset.univ)
    (hC : ∀ k b h d e, (V (Proc.devRef .tc main_v103_8) : Vec Ideal S128x2x4x128x128 .f32) (ix5 k b h d e) = (S b k h).C e d)
    (hN : ∀ k b h e, (V (Proc.devRef .tc main_v103_9) : Vec Ideal S128x2x4x128 .f32) (ix4 k b h e) = (S b k h).N e)
    (hM : ∀ k b h, (V (Proc.devRef .tc main_v103_10) : Vec Ideal S128x2x4 .f32) (ix3 k b h) = (S b k h).M)
    (ho : ∀ b t h e, (V (Proc.devRef .tc main_v59) : Vec Ideal S2x16384x4x128 .f32) (ix4 b t h e) = Ideal.logistic (o b t (qOf h e)))
    (hg : ∀ q, (V (Proc.devRef .tc main_arg8) : Vec Ideal S512 .f32) (ix1 q) = ng q)
    (b : Fin 2) (t : Fin 16384) (q : Fin 512) :
    (after hostOps0_13 V (Proc.devRef .tc main_v157) : Vec Ideal S2x16384x512 .f32) (ix3 b t q) =
      hdR (T b ⟨t.val / 128, by omega⟩ (hOf q)) (S b ⟨t.val / 128, by omega⟩ (hOf q)) (fun d => o b t (qOf (hOf q) d)) ⟨t.val % 128, by omega⟩ (dOf q)
        * Ideal.rsqrt (Ideal.div (∑ e : Fin 128, hdR (T b ⟨t.val / 128, by omega⟩ (hOf q)) (S b ⟨t.val / 128, by omega⟩ (hOf q)) (fun d => o b t (qOf (hOf q) d)) ⟨t.val % 128, by omega⟩ e
              * hdR (T b ⟨t.val / 128, by omega⟩ (hOf q)) (S b ⟨t.val / 128, by omega⟩ (hOf q)) (fun d => o b t (qOf (hOf q) d)) ⟨t.val % 128, by omega⟩ e)
            (Ideal.ofBits FTy.f32 1124073472#32) + Ideal.ofBits FTy.f32 897988541#32)
        * ng q := by
  after_reads_at
  simp only [hq, hk, hv, hb, hs, hm, hC, hN, hM, ho, hg]
  have hA : ∀ (x : Fin 128) h, (⟨(q.val / 128 * 128 + x.val) / 128, h⟩ : Fin 4) = hOf q := fun x _ => Fin.ext (by simp only [hOf]; omega)
  have hB : ∀ (x : Fin 128) h, (⟨(q.val / 128 * 128 + x.val) % 128, h⟩ : Fin 128) = x := fun x _ => Fin.ext (by show (q.val / 128 * 128 + x.val) % 128 = x.val; omega)
  have hA' : ∀ h, (⟨(q.val / 128 * 128 + q.val % 128) / 128, h⟩ : Fin 4) = hOf q := fun _ => Fin.ext (by simp only [hOf]; omega)
  have hB' : ∀ h, (⟨(q.val / 128 * 128 + q.val % 128) % 128, h⟩ : Fin 128) = dOf q := fun _ => Fin.ext (by simp only [dOf]; omega)
  simp only [hA, hB, hA', hB']
  refine congrArg₂ (· * ·) (congrArg₂ (· * ·) ?_ (congrArg Ideal.rsqrt (congrArg₂ (· + ·) (congrArg₂ Ideal.div (Finset.sum_congr rfl fun e _ => ?_) rfl) rfl))) rfl
  · rfl
  · rfl

end Cert.MlstmRefIdeal.Value
-- ==== Proof.NRun.lean ====
module

public import proofs.«01_k».proof.Proof.Gen.MlstmRefIdeal.Run
public import proofs.«01_k».proof.Proof.Mask
public import proofs.«01_k».proof.Proof.MSpec
public import proofs.«01_k».proof.Proof.NIter
public import proofs.«01_k».proof.Proof.NTail
public import Idealize.ShloMosaic.Lib.Pointwise
public import Idealize.ShloMosaic.Lib.StableHlo.ReadAt
public import Idealize.ShloMosaic.Lib.Tactic.WordOmega

@[expose] public section
set_option maxRecDepth 16384
noncomputable section
open Idealize.ShloMosaic Idealize.ShloMosaic.TcCoe Idealize.ShloMosaic.StableHlo Idealize.SL.Sem
namespace Cert.MlstmRefIdeal.Value
open Cert.MlstmRefIdeal Cert.MlstmRefIdeal.Gen Cert.Ml
open Cert.Ssd (gate softplus tIx neg_inf_f32)

section
variable {m : (ℓ : Loc nD τ sig) → Buf (Elt Ideal) ℓ} {c : Dev nD} {D : Data} (H : Holds (launch m c) D)
include H

/-- The result at any step. -/
theorem last_at (b : Fin 2) (t : Fin 16384) (q : Fin 512) :
    (after hostOps0_13 (pf m c) (Proc.devRef .tc main_v157) : Vec Ideal S2x16384x512 .f32) (ix3 b t q)
      = D.out b (t.val / 128) ⟨t.val % 128, Nat.mod_lt _ (by omega)⟩ q := by
  have ht : tIx (t.val / 128) ⟨t.val % 128, Nat.mod_lt _ (by omega)⟩ = t := Fin.ext (by simp only [tIx]; omega)
  refine (s13_v157 (pf m c) (tf D) (fun b k h => stf D k b h) (fun b t q => D.u b t ⟨512 + q.val, by omega⟩) D.ng
    (fun b k l h e => by rw [pf_keep m c main_v60 (by decide +kernel)]; rw [e12_keep _ main_v60 (by decide +kernel), e11_keep _ main_v60 (by decide +kernel), e10_keep _ main_v60 (by decide +kernel), e9_keep _ main_v60 (by decide +kernel), e8_keep _ main_v60 (by decide +kernel), e7_keep _ main_v60 (by decide +kernel)]; exact e6_v60 H b k l h e)
    (fun b k l h e => by rw [pf_keep m c main_v61 (by decide +kernel)]; rw [e12_keep _ main_v61 (by decide +kernel), e11_keep _ main_v61 (by decide +kernel), e10_keep _ main_v61 (by decide +kernel), e9_keep _ main_v61 (by decide +kernel), e8_keep _ main_v61 (by decide +kernel), e7_keep _ main_v61 (by decide +kernel)]; exact e6_v61 H b k l h e)
    (fun b k l h e => by rw [pf_keep m c main_v62 (by decide +kernel)]; rw [e12_keep _ main_v62 (by decide +kernel), e11_keep _ main_v62 (by decide +kernel), e10_keep _ main_v62 (by decide +kernel), e9_keep _ main_v62 (by decide +kernel), e8_keep _ main_v62 (by decide +kernel), e7_keep _ main_v62 (by decide +kernel)]; exact e6_v62 H b k l h e)
    (fun b k l h => by rw [pf_keep m c main_v63 (by decide +kernel), e12_keep _ main_v63 (by decide +kernel)]; exact e11_v63 H b k l h)
    (fun b k l r h => by rw [pf_keep m c main_v75 (by decide +kernel), e12_keep _ main_v75 (by decide +kernel)]; exact e11_v75 H b k l r h)
    (fun b k l h => by rw [pf_keep m c main_v76 (by decide +kernel)]; exact s12_v76 (e11 (launch m c)) (tf D) (e11_v75 H) b k l h)
    (fun k b h d e => pf_mat H k b h d e) (fun k b h e => pf_vec H k b h e) (fun k b h => pf_max H k b h)
    (fun b t h e => by rw [pf_keep m c main_v59 (by decide +kernel)]; rw [e12_keep _ main_v59 (by decide +kernel), e11_keep _ main_v59 (by decide +kernel), e10_keep _ main_v59 (by decide +kernel), e9_keep _ main_v59 (by decide +kernel), e8_keep _ main_v59 (by decide +kernel), e7_keep _ main_v59 (by decide +kernel)]; exact e6_v59 H b t h e)
    (fun q => by rw [pf_keep m c main_arg8 (by decide +kernel), e12_arg _ main_arg8 (by decide +kernel)]; exact H.ng q) b t q).trans ?_
  have hq : qOf (hOf q) (dOf q) = q := Fin.ext (by simp only [qOf, hOf, dOf]; omega)
  have hh : ∀ d, hdR (tf D b ⟨t.val / 128, by omega⟩ (hOf q)) (stf D (t.val / 128) b (hOf q)) (fun d => D.u b t ⟨512 + (qOf (hOf q) d).val, by omega⟩) ⟨t.val % 128, by omega⟩ d
      = hd (D.tok b (t.val / 128) (hOf q)) (D.st b (t.val / 128) (hOf q)) (fun l d => D.u b (tIx (t.val / 128) l) ⟨512 + (qOf (hOf q) d).val, by omega⟩) ⟨t.val % 128, by omega⟩ d := by
    intro d
    refine Eq.trans ?_ (hdR_eq _ _ _ _ _)
    rw [ht]
    rfl
  have hn : (fun d => D.ng (qOf (hOf q) d)) (dOf q) = D.ng q := congrArg D.ng hq
  unfold Data.out res
  refine congrArg₂ (· * ·) (congrArg₂ (· * ·) (hh _) (congrArg Ideal.rsqrt (congrArg (· + _) (congrArg (Ideal.div · _) (Finset.sum_congr rfl fun e _ => ?_))))) hn.symm
  exact congrArg₂ (· * ·) (hh e) (hh e)
end

variable (m : (ℓ : Loc nD τ sig) → Buf (Elt Ideal) ℓ) (ρ : Dev nD → PrngReg)

/-- The arrays the reference is given. -/
def dataR (c : Dev nD) : Data where
  u b t j := (m ((c : Thread nD τ).loc main_arg0) : Vec Ideal S2x16384x1024 .f32) (ix3 b t j)
  sm b t j := (m ((c : Thread nD τ).loc main_arg1) : Vec Ideal S2x16384x128 .f32) (ix3 b t j)
  w k j := (m ((c : Thread nD τ).loc main_arg2) : Vec Ideal S4x512 .f32) (ix2 k j)
  cb j := (m ((c : Thread nD τ).loc main_arg3) : Vec Ideal S512 .f32) (ix1 j)
  wq h d e := (m ((c : Thread nD τ).loc main_arg4) : Vec Ideal S4x128x128 .f32) (ix3 h d e)
  wk h d e := (m ((c : Thread nD τ).loc main_arg5) : Vec Ideal S4x128x128 .f32) (ix3 h d e)
  wv h d e := (m ((c : Thread nD τ).loc main_arg6) : Vec Ideal S4x128x128 .f32) (ix3 h d e)
  gb h := (m ((c : Thread nD τ).loc main_arg7) : Vec Ideal S8 .f32) (ix1 h)
  ng q := (m ((c : Thread nD τ).loc main_arg8) : Vec Ideal S512 .f32) (ix1 q)

/-- Its arguments hold them. -/
theorem holdsR (c : Dev nD) : Holds (launch m c) (dataR m c) where
  u _ _ _ := rfl
  sm _ _ _ := rfl
  w _ _ := rfl
  cb _ := rfl
  wq _ _ _ := rfl
  wk _ _ _ := rfl
  wv _ _ _ := rfl
  gb _ := rfl
  ng _ := rfl

/-- The reference's result array. -/
def resR (c : Dev nD) : Buf (Elt Ideal) ((c : Thread nD τ).loc main_v157) := finalContents condOps preI bodyI postI 128 m c (Proc.devRef .tc main_v157)

/-- It is what the stretch after the loop leaves. -/
theorem res_eq (c : Dev nD) : resR m c = after hostOps0_13 (pf m c) (Proc.devRef .tc main_v157) := congrFun (final_eq m c) _

/-- The reference runs, ends with that array, and leaves its arguments as they were. -/
theorem run : θ_run (defs (F := Ideal)) (onTc (τ := τ) (main (F := Ideal))) ⟨m, fun _ => 0, ρ⟩ fun r => ∀ c : Dev nD,
      r.2.mem ((c : Thread nD τ).loc main_v157) = resR m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7) ∧
      r.2.mem ((c : Thread nD τ).loc main_arg8) = m ((c : Thread nD τ).loc main_arg8) :=
  (θ_run defs _ _).mono (fun r h c => ⟨h c main_v157 rfl,
    (h c main_arg0 rfl).trans (final_arg m c main_arg0 (by decide +kernel)),
    (h c main_arg1 rfl).trans (final_arg m c main_arg1 (by decide +kernel)),
    (h c main_arg2 rfl).trans (final_arg m c main_arg2 (by decide +kernel)),
    (h c main_arg3 rfl).trans (final_arg m c main_arg3 (by decide +kernel)),
    (h c main_arg4 rfl).trans (final_arg m c main_arg4 (by decide +kernel)),
    (h c main_arg5 rfl).trans (final_arg m c main_arg5 (by decide +kernel)),
    (h c main_arg6 rfl).trans (final_arg m c main_arg6 (by decide +kernel)),
    (h c main_arg7 rfl).trans (final_arg m c main_arg7 (by decide +kernel)),
    (h c main_arg8 rfl).trans (final_arg m c main_arg8 (by decide +kernel))⟩) (run_fold m ρ)

/-- The reference runs, leaves its arguments as they were, and ends with every semaphore at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7) ∧
      r.2.mem ((c : Thread nD τ).loc main_arg8) = m ((c : Thread nD τ).loc main_arg8))
      ∧ r.2.sem = fun _ => 0 :=
  (θ_run defs _ _).mono (fun r h => ⟨fun c => (h c).2, sem_eq_zero_of_no_sems (by decide) r.2⟩) (run m ρ)

end Cert.MlstmRefIdeal.Value
-- ==== Proof.MCall.lean ====
module

public import proofs.«01_k».proof.Defs
public import proofs.«01_k».proof.Proof.MFold
public import proofs.«01_k».proof.Proof.NRun

@[expose] public section
noncomputable section
namespace Cert.Proof

open Idealize.ShloMosaic Idealize.SL.Sem

/-- From the same arguments the kernel and the reference are given the same arrays. -/
theorem data_eq_mlstm (m : (ℓ : Loc Cert.MlstmIdeal.nD Cert.MlstmIdeal.τ Cert.MlstmIdeal.sig) → Buf (Elt Ideal) ℓ)
    (m' : (ℓ : Loc Cert.MlstmRefIdeal.nD Cert.MlstmRefIdeal.τ Cert.MlstmRefIdeal.sig) → Buf (Elt Ideal) ℓ) (c : Dev Cert.MlstmIdeal.nD)
    (h0 : m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0))
    (h1 : m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1))
    (h2 : m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2))
    (h3 : m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3))
    (h4 : m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4))
    (h5 : m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5))
    (h6 : m' ((c.tc : Thread Cert.MlstmRefIdeal.nD Cert.MlstmRefIdeal.τ).loc Cert.MlstmRefIdeal.main_arg6) = m ((c.tc : Thread Cert.MlstmIdeal.nD Cert.MlstmIdeal.τ).loc Cert.MlstmIdeal.main_arg6))
    (h7 : m' ((c.tc : Thread Cert.MlstmRefIdeal.nD Cert.MlstmRefIdeal.τ).loc Cert.MlstmRefIdeal.main_arg7) = m ((c.tc : Thread Cert.MlstmIdeal.nD Cert.MlstmIdeal.τ).loc Cert.MlstmIdeal.main_arg7))
    (h8 : m' ((c.tc : Thread Cert.MlstmRefIdeal.nD Cert.MlstmRefIdeal.τ).loc Cert.MlstmRefIdeal.main_arg8) = m ((c.tc : Thread Cert.MlstmIdeal.nD Cert.MlstmIdeal.τ).loc Cert.MlstmIdeal.main_arg8))
    : Cert.MlstmRefIdeal.Value.dataR m' c = Cert.MlstmIdeal.Value.dataK m c := by
  unfold Cert.MlstmRefIdeal.Value.dataR Cert.MlstmIdeal.Value.dataK
  congr 1
  · exact funext fun a => funext fun b => funext fun d => congrFun h0 _
  · exact funext fun a => funext fun b => funext fun d => congrFun h1 _
  · exact funext fun a => funext fun b => congrFun h2 _
  · exact funext fun a => congrFun h3 _
  · exact funext fun a => funext fun b => funext fun d => congrFun h4 _
  · exact funext fun a => funext fun b => funext fun d => congrFun h5 _
  · exact funext fun a => funext fun b => funext fun d => congrFun h6 _
  · exact funext fun a => congrFun h7 _
  · exact funext fun a => congrFun h8 _

/-- So they end with the same array. -/
theorem result_eq_mlstm (m : (ℓ : Loc Cert.MlstmIdeal.nD Cert.MlstmIdeal.τ Cert.MlstmIdeal.sig) → Buf (Elt Ideal) ℓ)
    (m' : (ℓ : Loc Cert.MlstmRefIdeal.nD Cert.MlstmRefIdeal.τ Cert.MlstmRefIdeal.sig) → Buf (Elt Ideal) ℓ) (c : Dev Cert.MlstmIdeal.nD)
    (h : Cert.MlstmRefIdeal.Value.dataR m' c = Cert.MlstmIdeal.Value.dataK m c) :
    Cert.MlstmRefIdeal.Value.resR m' c = Cert.MlstmIdeal.Value.G10 m c := by
  rw [Cert.MlstmRefIdeal.Value.res_eq]
  have key : ∀ (b : Fin 2) (t : Fin 16384) (q : Fin 512),
      (StableHlo.after Cert.MlstmRefIdeal.Gen.hostOps0_13 (Cert.MlstmRefIdeal.Value.pf m' c) (Proc.devRef .tc Cert.MlstmRefIdeal.main_v157) :
        Vec Ideal Cert.MlstmIdeal.S2x16384x512 .f32) (ix3 b t q) = (Cert.MlstmIdeal.Value.G10 m c : Vec Ideal Cert.MlstmIdeal.S2x16384x512 .f32) (ix3 b t q) := by
    intro b t q
    refine (Cert.MlstmRefIdeal.Value.last_at (Cert.MlstmRefIdeal.Value.holdsR m' c) b t q).trans ?_
    rw [h]
    exact (Cert.MlstmIdeal.Value.G10_at m c b t q).symm
  funext i
  have e : i = ix3 (i 0) (i 1) (i 2) := by
    funext a
    match a with
    | ⟨0, _⟩ => rfl
    | ⟨1, _⟩ => rfl
    | ⟨2, _⟩ => rfl
  rw [e]
  exact key _ _ _

/-- The matrix-memory call computes what its reference does, exactly, over the extended reals. -/
theorem algebraic_mlstm : Cert.algebraic_MlstmIdeal_MlstmRefIdeal := by
  intro m g m' g' _ hargs
  refine ⟨Cert.MlstmIdeal.Value.G10 m, Cert.MlstmIdeal.Value.run m g, ?_⟩
  refine (θ_run Cert.MlstmRefIdeal.defs _ _).mono (fun r h c => ?_) (Cert.MlstmRefIdeal.Value.run m' g')
  obtain ⟨h0, h1, h2, h3, h4, h5, h6, h7, h8⟩ := hargs c
  exact ⟨(h c).1.trans (result_eq_mlstm m m' c (data_eq_mlstm m m' c h0 h1 h2 h3 h4 h5 h6 h7 h8)), (h c).2⟩

end Cert.Proof
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.FfnIdeal.Value
public import proofs.«01_k».proof.Proof.Gen.FfnRefIdeal.Run
public import proofs.«01_k».proof.Proof.Gen.Ffn.Frame
public import proofs.«01_k».proof.Proof.Gen.FfnIdeal.Frame
public import proofs.«01_k».proof.Proof.Gen.LastIdeal.Value
public import proofs.«01_k».proof.Proof.Gen.LastRefIdeal.Run
public import proofs.«01_k».proof.Proof.Gen.Last.Frame
public import proofs.«01_k».proof.Proof.Gen.LastIdeal.Frame
public import proofs.«01_k».proof.Proof.Gen.InprojIdeal.Value
public import proofs.«01_k».proof.Proof.Gen.InprojRefIdeal.Run
public import proofs.«01_k».proof.Proof.Gen.Inproj.Frame
public import proofs.«01_k».proof.Proof.Gen.InprojIdeal.Frame
public import proofs.«01_k».proof.Proof.Gen.OutprojIdeal.Value
public import proofs.«01_k».proof.Proof.Gen.OutprojRefIdeal.Run
public import proofs.«01_k».proof.Proof.Gen.Outproj.Frame
public import proofs.«01_k».proof.Proof.Gen.OutprojIdeal.Frame
public import proofs.«01_k».proof.Proof.KFold
public import proofs.«01_k».proof.Proof.RRun
public import proofs.«01_k».proof.Proof.Calls
public import proofs.«01_k».proof.Proof.MCall
public import proofs.«01_k».proof.Proof.Gen.MlstmIdeal.Value
public import proofs.«01_k».proof.Proof.Gen.MlstmRefIdeal.Run
public import proofs.«01_k».proof.Proof.Gen.Mlstm.Frame
public import proofs.«01_k».proof.Proof.Gen.MlstmIdeal.Frame

@[expose] public section

noncomputable section

namespace Cert.Proof

open Idealize.ShloMosaic Idealize.SL.Sem Cert.Kernel

/-- From the same arguments the kernel and the reference are given the same arrays. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    : Cert.ReferenceIdeal.Value.dataR m' c = Cert.KernelIdeal.Value.dataK m c := by
  unfold Cert.ReferenceIdeal.Value.dataR Cert.KernelIdeal.Value.dataK
  congr 1
  · exact funext fun a => funext fun b => funext fun d => congrFun h0 _
  · exact funext fun a => funext fun b => funext fun d => congrFun h1 _
  · exact funext fun a => funext fun b => congrFun h2 _
  · exact funext fun a => congrFun h3 _
  · exact funext fun a => congrFun h4 _
  · exact funext fun a => congrFun h5 _
  · exact funext fun a => congrFun h6 _
  · exact funext fun a => congrFun h7 _

/-- So they end with the same array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Value.dataR m' c = Cert.KernelIdeal.Value.dataK m c) :
    Cert.ReferenceIdeal.Value.res m' c = Cert.KernelIdeal.Value.G9 m c := by
  rw [Cert.ReferenceIdeal.Value.res_eq]
  have key : ∀ (b : Fin 2) (t : Fin 16384) (q : Fin 1024),
      (StableHlo.after Cert.ReferenceIdeal.Gen.hostOps0_15 (Cert.ReferenceIdeal.Value.p14 m' c) (Proc.devRef .tc Cert.ReferenceIdeal.main_v121) :
        Vec Ideal Cert.KernelIdeal.S2x16384x1024 .f32) (ix3 b t q) = (Cert.KernelIdeal.Value.G9 m c : Vec Ideal Cert.KernelIdeal.S2x16384x1024 .f32) (ix3 b t q) := by
    intro b t q
    refine (Cert.ReferenceIdeal.Value.last_at (Cert.ReferenceIdeal.Value.holdsR m' c) b t q).trans ?_
    rw [h]
    exact (Cert.KernelIdeal.Value.G9_at m c b t q).symm
  funext i
  have e : i = ix3 (i 0) (i 1) (i 2) := by
    funext a
    match a with
    | ⟨0, _⟩ => rfl
    | ⟨1, _⟩ => rfl
    | ⟨2, _⟩ => rfl
  rw [e]
  exact key _ _ _

/-- The kernel computes what the reference does, exactly, over the extended reals. -/
theorem algebraic : Cert.algebraic_KernelIdeal_ReferenceIdeal := by
  intro m g m' g' _ hargs
  refine ⟨Cert.KernelIdeal.Value.G9 m, Cert.KernelIdeal.Value.run m g, ?_⟩
  refine (θ_run Cert.ReferenceIdeal.defs _ _).mono (fun r h c => ?_) (Cert.ReferenceIdeal.Value.run m' g')
  obtain ⟨h0, h1, h2, h3, h4, h5, h6, h7⟩ := hargs c
  exact ⟨(h c).1.trans (result_eq m m' c (data_eq m m' c h0 h1 h2 h3 h4 h5 h6 h7)), (h c).2⟩

/-- All five claims of each of the six calls: the three programs run and leave their arguments and semaphores as they
    found them, the idealized kernel is the kernel with no operation rewritten, and it computes what the reference does. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Last.Gen.facts, Cert.LastIdeal.Gen.facts, Cert.LastRefIdeal.Gen.facts,
  Cert.Inproj.Gen.facts, Cert.InprojIdeal.Gen.facts, Cert.InprojRefIdeal.Gen.facts, Cert.Outproj.Gen.facts, Cert.OutprojIdeal.Gen.facts, Cert.OutprojRefIdeal.Gen.facts,
  Cert.Mlstm.Gen.facts, Cert.MlstmIdeal.Gen.facts, Cert.MlstmRefIdeal.Gen.facts,
  fun m ρ _ => Cert.Kernel.Gen.frame m ρ, fun m ρ _ => Cert.KernelIdeal.Gen.frame m ρ, fun m ρ _ => Cert.ReferenceIdeal.Value.frame m ρ,
  fun m ρ _ => Cert.Ffn.Gen.frame m ρ, fun m ρ _ => Cert.FfnIdeal.Gen.frame m ρ, frame_ffnRef,
  fun m ρ _ => Cert.Last.Gen.frame m ρ, fun m ρ _ => Cert.LastIdeal.Gen.frame m ρ, frame_lastRef,
  fun m ρ _ => Cert.Inproj.Gen.frame m ρ, fun m ρ _ => Cert.InprojIdeal.Gen.frame m ρ, frame_inprojRef,
  fun m ρ _ => Cert.Outproj.Gen.frame m ρ, fun m ρ _ => Cert.OutprojIdeal.Gen.frame m ρ, frame_outprojRef,
  fun m ρ _ => Cert.Mlstm.Gen.frame m ρ, fun m ρ _ => Cert.MlstmIdeal.Gen.frame m ρ, fun m ρ _ => Cert.MlstmRefIdeal.Value.frame m ρ,
  trivial, algebraic, trivial, algebraic_ffn, trivial, algebraic_last, trivial, algebraic_inproj, trivial, algebraic_outproj,
  trivial, algebraic_mlstm⟩

end Cert.Proof

end
